-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x39E38E39#32 ((1 / 2304 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x512x2304 : Shape := ⟨3, ![6, 512, 2304]⟩
abbrev S2304 : Shape := ⟨1, ![2304]⟩
abbrev S2304x480 : Shape := ⟨2, ![2304, 480]⟩
abbrev S72x480 : Shape := ⟨2, ![72, 480]⟩
abbrev S80x512 : Shape := ⟨2, ![80, 512]⟩
abbrev S1x2304 : Shape := ⟨2, ![1, 2304]⟩
abbrev S480x2304 : Shape := ⟨2, ![480, 2304]⟩
abbrev S6x480x512 : Shape := ⟨3, ![6, 480, 512]⟩
abbrev S6x3x512 : Shape := ⟨3, ![6, 3, 512]⟩
abbrev S960x2304 : Shape := ⟨2, ![960, 2304]⟩
abbrev S2x480x2304 : Shape := ⟨3, ![2, 480, 2304]⟩
abbrev S2x512x2304 : Shape := ⟨3, ![2, 512, 2304]⟩
abbrev S512x2304 : Shape := ⟨2, ![512, 2304]⟩
abbrev S960x512 : Shape := ⟨2, ![960, 512]⟩
abbrev S3x1x2304 : Shape := ⟨3, ![3, 1, 2304]⟩
abbrev S7 : Shape := ⟨1, ![7]⟩
abbrev S2 : Shape := ⟨1, ![2]⟩
abbrev S4 : Shape := ⟨1, ![4]⟩
abbrev S1 : Shape := ⟨1, ![1]⟩
abbrev S_ : Shape := ⟨0, ![]⟩
abbrev S1x480x2304 : Shape := ⟨3, ![1, 480, 2304]⟩
abbrev S1x1x2304 : Shape := ⟨3, ![1, 1, 2304]⟩
abbrev S1x512x2304 : Shape := ⟨3, ![1, 512, 2304]⟩
abbrev S72x2304 : Shape := ⟨2, ![72, 2304]⟩
abbrev S1x16x2304 : Shape := ⟨3, ![1, 16, 2304]⟩
abbrev S16x2304 : Shape := ⟨2, ![16, 2304]⟩
abbrev S16 : Shape := ⟨1, ![16]⟩
abbrev S16x1 : Shape := ⟨2, ![16, 1]⟩
abbrev S80x128 : Shape := ⟨2, ![80, 128]⟩
abbrev S160x128 : Shape := ⟨2, ![160, 128]⟩
abbrev S128 : Shape := ⟨1, ![128]⟩
abbrev S1x128 : Shape := ⟨2, ![1, 128]⟩
abbrev S246x128 : Shape := ⟨2, ![246, 128]⟩
abbrev S1x160x128 : Shape := ⟨3, ![1, 160, 128]⟩
abbrev S1x1x128 : Shape := ⟨3, ![1, 1, 128]⟩

abbrev nBuf : Space → Nat
  | .hbm => 15
  | .vmem => 14
  | .smem => 0
  | _ => 0

abbrev bufTy : (tb : Table) → Fin (tcTables nBuf tb) → BufTy
  | .hbm, ⟨0, _⟩ => ⟨S6x512x2304, .bf16⟩
  | .hbm, ⟨1, _⟩ => ⟨S2304, .f32⟩
  | .hbm, ⟨2, _⟩ => ⟨S2304x480, .fp8e4m3⟩
  | .hbm, ⟨3, _⟩ => ⟨S72x480, .i8⟩
  | .hbm, ⟨4, _⟩ => ⟨S2304x480, .fp8e4m3⟩
  | .hbm, ⟨5, _⟩ => ⟨S72x480, .i8⟩
  | .hbm, ⟨6, _⟩ => ⟨S80x512, .f32⟩
  | .hbm, ⟨7, _⟩ => ⟨S80x512, .f32⟩
  | .hbm, ⟨8, _⟩ => ⟨S1x2304, .f32⟩
  | .hbm, ⟨9, _⟩ => ⟨S480x2304, .fp8e4m3⟩
  | .hbm, ⟨10, _⟩ => ⟨S480x2304, .fp8e4m3⟩
  | .hbm, ⟨11, _⟩ => ⟨S6x480x512, .fp8e4m3⟩
  | .hbm, ⟨12, _⟩ => ⟨S6x3x512, .f32⟩
  | .hbm, ⟨13, _⟩ => ⟨S6x480x512, .fp8e4m3⟩
  | .hbm, ⟨14, _⟩ => ⟨S6x3x512, .f32⟩
  | .local _ .vmem, ⟨0, _⟩ => ⟨S960x2304, .bf16⟩
  | .local _ .vmem, ⟨1, _⟩ => ⟨S2x480x2304, .fp8e4m3⟩
  | .local _ .vmem, ⟨2, _⟩ => ⟨S2x512x2304, .bf16⟩
  | .local _ .vmem, ⟨3, _⟩ => ⟨S512x2304, .bf16⟩
  | .local _ .vmem, ⟨4, _⟩ => ⟨S960x512, .f32⟩
  | .local _ .vmem, ⟨5, _⟩ => ⟨S6x480x512, .fp8e4m3⟩
  | .local _ .vmem, ⟨6, _⟩ => ⟨S6x480x512, .fp8e4m3⟩
  | .local _ .vmem, ⟨7, _⟩ => ⟨S6x3x512, .f32⟩
  | .local _ .vmem, ⟨8, _⟩ => ⟨S6x3x512, .f32⟩
  | .local _ .vmem, ⟨9, _⟩ => ⟨S3x1x2304, .f32⟩
  | .local _ .vmem, ⟨10, _⟩ => ⟨S80x512, .f32⟩
  | .local _ .vmem, ⟨11, _⟩ => ⟨S80x512, .f32⟩
  | .local _ .vmem, ⟨12, _⟩ => ⟨S72x480, .i8⟩
  | .local _ .vmem, ⟨13, _⟩ => ⟨S72x480, .i8⟩
  | _, _ => ⟨S6x512x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩

abbrev nD : Nat := 1
abbrev τ : Topo := Topo.v7x

variable {F : FTy → Type} [FloatOps F]

abbrev grid0 : Pipeline.Grid := .none

@[reducible] def k0_t1_loop : Scf.Loop 32 :=
  let c0_i32_55 : BitVec 32 := 0#32
  let c6_i32_56 : BitVec 32 := 6#32
  let v91 : BitVec 32 := Scalar.addi c0_i32_55 c6_i32_56
  let c1_i32_57 : BitVec 32 := 1#32
  ⟨c0_i32_55, v91, c1_i32_57⟩
def k0_off1 (k0_t1 : Fin k0_t1_loop.trips) : Fin 1 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  ![v108.toNat]
def k0_off2 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let c0_i32_68 : BitVec 32 := 0#32
  let c0_i32_69 : BitVec 32 := 0#32
  ![v108.toNat, 0, 0]
def k0_off3 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c0_i32_70 : BitVec 32 := 0#32
  let c0_i32_71 : BitVec 32 := 0#32
  ![arg29.toNat, 0, 0]
def k0_off4 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v117 : Index := Scalar.indexCast v108
  let c0_75 : Index := 0#32
  let c0_76 : Index := 0#32
  ![v117.toNat, 0, 0]
def k0_off5 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v137 : Index := Scalar.indexCast v108
  let c16 : Index := 16#32
  let c0_82 : Index := 0#32
  ![v137.toNat, 16, 0]
def k0_off6 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v157 : Index := Scalar.indexCast v108
  let c32 : Index := 32#32
  let c0_88 : Index := 0#32
  ![v157.toNat, 32, 0]
def k0_off7 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v177 : Index := Scalar.indexCast v108
  let c48 : Index := 48#32
  let c0_94 : Index := 0#32
  ![v177.toNat, 48, 0]
def k0_off8 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v197 : Index := Scalar.indexCast v108
  let c64 : Index := 64#32
  let c0_100 : Index := 0#32
  ![v197.toNat, 64, 0]
def k0_off9 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v217 : Index := Scalar.indexCast v108
  let c80 : Index := 80#32
  let c0_106 : Index := 0#32
  ![v217.toNat, 80, 0]
def k0_off10 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v237 : Index := Scalar.indexCast v108
  let c96 : Index := 96#32
  let c0_112 : Index := 0#32
  ![v237.toNat, 96, 0]
def k0_off11 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v257 : Index := Scalar.indexCast v108
  let c112 : Index := 112#32
  let c0_118 : Index := 0#32
  ![v257.toNat, 112, 0]
def k0_off12 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v277 : Index := Scalar.indexCast v108
  let c128 : Index := 128#32
  let c0_124 : Index := 0#32
  ![v277.toNat, 128, 0]
def k0_off13 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v297 : Index := Scalar.indexCast v108
  let c144 : Index := 144#32
  let c0_130 : Index := 0#32
  ![v297.toNat, 144, 0]
def k0_off14 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v317 : Index := Scalar.indexCast v108
  let c160 : Index := 160#32
  let c0_136 : Index := 0#32
  ![v317.toNat, 160, 0]
def k0_off15 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v337 : Index := Scalar.indexCast v108
  let c176 : Index := 176#32
  let c0_142 : Index := 0#32
  ![v337.toNat, 176, 0]
def k0_off16 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v357 : Index := Scalar.indexCast v108
  let c192 : Index := 192#32
  let c0_148 : Index := 0#32
  ![v357.toNat, 192, 0]
def k0_off17 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v377 : Index := Scalar.indexCast v108
  let c208 : Index := 208#32
  let c0_154 : Index := 0#32
  ![v377.toNat, 208, 0]
def k0_off18 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v397 : Index := Scalar.indexCast v108
  let c224 : Index := 224#32
  let c0_160 : Index := 0#32
  ![v397.toNat, 224, 0]
def k0_off19 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v417 : Index := Scalar.indexCast v108
  let c240 : Index := 240#32
  let c0_166 : Index := 0#32
  ![v417.toNat, 240, 0]
def k0_off20 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v437 : Index := Scalar.indexCast v108
  let c256 : Index := 256#32
  let c0_172 : Index := 0#32
  ![v437.toNat, 256, 0]
def k0_off21 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v457 : Index := Scalar.indexCast v108
  let c272 : Index := 272#32
  let c0_178 : Index := 0#32
  ![v457.toNat, 272, 0]
def k0_off22 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v477 : Index := Scalar.indexCast v108
  let c288 : Index := 288#32
  let c0_184 : Index := 0#32
  ![v477.toNat, 288, 0]
def k0_off23 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v497 : Index := Scalar.indexCast v108
  let c304 : Index := 304#32
  let c0_190 : Index := 0#32
  ![v497.toNat, 304, 0]
def k0_off24 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v517 : Index := Scalar.indexCast v108
  let c320 : Index := 320#32
  let c0_196 : Index := 0#32
  ![v517.toNat, 320, 0]
def k0_off25 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v537 : Index := Scalar.indexCast v108
  let c336 : Index := 336#32
  let c0_202 : Index := 0#32
  ![v537.toNat, 336, 0]
def k0_off26 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v557 : Index := Scalar.indexCast v108
  let c352 : Index := 352#32
  let c0_208 : Index := 0#32
  ![v557.toNat, 352, 0]
def k0_off27 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v577 : Index := Scalar.indexCast v108
  let c368 : Index := 368#32
  let c0_214 : Index := 0#32
  ![v577.toNat, 368, 0]
def k0_off28 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v597 : Index := Scalar.indexCast v108
  let c384 : Index := 384#32
  let c0_220 : Index := 0#32
  ![v597.toNat, 384, 0]
def k0_off29 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v617 : Index := Scalar.indexCast v108
  let c400 : Index := 400#32
  let c0_226 : Index := 0#32
  ![v617.toNat, 400, 0]
def k0_off30 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v637 : Index := Scalar.indexCast v108
  let c416 : Index := 416#32
  let c0_232 : Index := 0#32
  ![v637.toNat, 416, 0]
def k0_off31 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v657 : Index := Scalar.indexCast v108
  let c432 : Index := 432#32
  let c0_238 : Index := 0#32
  ![v657.toNat, 432, 0]
def k0_off32 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v677 : Index := Scalar.indexCast v108
  let c448 : Index := 448#32
  let c0_244 : Index := 0#32
  ![v677.toNat, 448, 0]
def k0_off33 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v697 : Index := Scalar.indexCast v108
  let c464 : Index := 464#32
  let c0_250 : Index := 0#32
  ![v697.toNat, 464, 0]
def k0_off34 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v717 : Index := Scalar.indexCast v108
  let c480_256 : Index := 480#32
  let c0_257 : Index := 0#32
  ![v717.toNat, 480, 0]
def k0_off35 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let v737 : Index := Scalar.indexCast v108
  let c496 : Index := 496#32
  let c0_263 : Index := 0#32
  ![v737.toNat, 496, 0]
def k0_cond1 (k0_t1 : Fin k0_t1_loop.trips) : BitVec 1 :=
  let c0_i32_55 : BitVec 32 := 0#32
  let c1_i32_57 : BitVec 32 := 1#32
  let arg29 : BitVec 32 := Scf.iv c0_i32_55 c1_i32_57 k0_t1
  let c2_i32_269 : BitVec 32 := 2#32
  let v757 : BitVec 32 := Scalar.addi arg29 c2_i32_269
  let c6_i32_270 : BitVec 32 := 6#32
  let v758 : BitVec 1 := Scalar.cmpi .slt v757 c6_i32_270
  let v759 : BitVec 32 := Scalar.extui v758
  let c0_i32_271 : BitVec 32 := 0#32
  let v760 : BitVec 1 := Scalar.cmpi .ne v759 c0_i32_271
  v760

def k0_off36 (k0_t1 : Fin k0_t1_loop.trips) : Fin 1 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  ![v108.toNat]
def k0_off37 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_67 : BitVec 32 := 2#32
  let v108 : BitVec 32 := Scalar.remsi arg29 c2_i32_67
  let c0_i32_819 : BitVec 32 := 0#32
  let c0_i32_820 : BitVec 32 := 0#32
  ![v108.toNat, 0, 0]
def k0_off38 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let c2_i32_818 : BitVec 32 := 2#32
  let v2023 : BitVec 32 := Scalar.addi arg29 c2_i32_818
  let c0_i32_821 : BitVec 32 := 0#32
  let c0_i32_822 : BitVec 32 := 0#32
  ![v2023.toNat, 0, 0]
def k0_off39 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v818 : Index := Scalar.indexCast arg29
  let c0_302 : Index := 0#32
  let c0_303 : Index := 0#32
  ![v818.toNat, 0, 0]
def k0_off40 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v822 : Index := Scalar.indexCast arg29
  let c0_304 : Index := 0#32
  let c0_305 : Index := 0#32
  ![v822.toNat, 0, 0]
def k0_off41 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v922 : Index := Scalar.indexCast arg29
  let c160_345 : Index := 160#32
  let c0_346 : Index := 0#32
  ![v922.toNat, 160, 0]
def k0_off42 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v926 : Index := Scalar.indexCast arg29
  let c1_347 : Index := 1#32
  let c0_348 : Index := 0#32
  ![v926.toNat, 1, 0]
def k0_off43 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1026 : Index := Scalar.indexCast arg29
  let c320_388 : Index := 320#32
  let c0_389 : Index := 0#32
  ![v1026.toNat, 320, 0]
def k0_off44 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1030 : Index := Scalar.indexCast arg29
  let c2 : Index := 2#32
  let c0_390 : Index := 0#32
  ![v1030.toNat, 2, 0]
def k0_off45 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1132 : Index := Scalar.indexCast arg29
  let c0_435 : Index := 0#32
  let c128_436 : Index := 128#32
  ![v1132.toNat, 0, 128]
def k0_off46 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1136 : Index := Scalar.indexCast arg29
  let c0_437 : Index := 0#32
  let c128_438 : Index := 128#32
  ![v1136.toNat, 0, 128]
def k0_off47 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1236 : Index := Scalar.indexCast arg29
  let c160_479 : Index := 160#32
  let c128_480 : Index := 128#32
  ![v1236.toNat, 160, 128]
def k0_off48 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1240 : Index := Scalar.indexCast arg29
  let c1_481 : Index := 1#32
  let c128_482 : Index := 128#32
  ![v1240.toNat, 1, 128]
def k0_off49 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1340 : Index := Scalar.indexCast arg29
  let c320_523 : Index := 320#32
  let c128_524 : Index := 128#32
  ![v1340.toNat, 320, 128]
def k0_off50 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1344 : Index := Scalar.indexCast arg29
  let c2_525 : Index := 2#32
  let c128_526 : Index := 128#32
  ![v1344.toNat, 2, 128]
def k0_off51 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1446 : Index := Scalar.indexCast arg29
  let c0_571 : Index := 0#32
  let c256_572 : Index := 256#32
  ![v1446.toNat, 0, 256]
def k0_off52 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1450 : Index := Scalar.indexCast arg29
  let c0_573 : Index := 0#32
  let c256_574 : Index := 256#32
  ![v1450.toNat, 0, 256]
def k0_off53 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1550 : Index := Scalar.indexCast arg29
  let c160_615 : Index := 160#32
  let c256_616 : Index := 256#32
  ![v1550.toNat, 160, 256]
def k0_off54 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1554 : Index := Scalar.indexCast arg29
  let c1_617 : Index := 1#32
  let c256_618 : Index := 256#32
  ![v1554.toNat, 1, 256]
def k0_off55 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1654 : Index := Scalar.indexCast arg29
  let c320_659 : Index := 320#32
  let c256_660 : Index := 256#32
  ![v1654.toNat, 320, 256]
def k0_off56 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1658 : Index := Scalar.indexCast arg29
  let c2_661 : Index := 2#32
  let c256_662 : Index := 256#32
  ![v1658.toNat, 2, 256]
def k0_off57 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1760 : Index := Scalar.indexCast arg29
  let c0_707 : Index := 0#32
  let c384_708 : Index := 384#32
  ![v1760.toNat, 0, 384]
def k0_off58 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1764 : Index := Scalar.indexCast arg29
  let c0_709 : Index := 0#32
  let c384_710 : Index := 384#32
  ![v1764.toNat, 0, 384]
def k0_off59 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1864 : Index := Scalar.indexCast arg29
  let c160_751 : Index := 160#32
  let c384_752 : Index := 384#32
  ![v1864.toNat, 160, 384]
def k0_off60 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1868 : Index := Scalar.indexCast arg29
  let c1_753 : Index := 1#32
  let c384_754 : Index := 384#32
  ![v1868.toNat, 1, 384]
def k0_off61 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1968 : Index := Scalar.indexCast arg29
  let c320_795 : Index := 320#32
  let c384_796 : Index := 384#32
  ![v1968.toNat, 320, 384]
def k0_off62 (k0_t1 : Fin k0_t1_loop.trips) : Fin 3 → Nat :=
  let c0_i32_55 : BitVec 32 := 0#32
  let c1_i32_57 : BitVec 32 := 1#32
  let arg29 : BitVec 32 := Scf.iv c0_i32_55 c1_i32_57 k0_t1
  let v1972 : Index := Scalar.indexCast arg29
  let c2_797 : Index := 2#32
  let c384_798 : Index := 384#32
  ![v1972.toNat, 2, 384]
-- ==== KernelIdeal.lean ====
variable {F : FTy → Type} [FloatOps F] [Named F]
def κ : String → Option EReal := fun
  | "inv_d" => some ((1 / 2304 : ℝ) : EReal)
  | _ => none
-- ==== ReferenceIdeal.lean ====
abbrev S6x512x2304 : Shape := ⟨3, ![6, 512, 2304]⟩
abbrev S2304 : Shape := ⟨1, ![2304]⟩
abbrev S2304x480 : Shape := ⟨2, ![2304, 480]⟩
abbrev S72x480 : Shape := ⟨2, ![72, 480]⟩
abbrev S80x512 : Shape := ⟨2, ![80, 512]⟩
abbrev S1x2304 : Shape := ⟨2, ![1, 2304]⟩
abbrev S6x480x512 : Shape := ⟨3, ![6, 480, 512]⟩
abbrev S6x3x512 : Shape := ⟨3, ![6, 3, 512]⟩
abbrev S3072x2304 : Shape := ⟨2, ![3072, 2304]⟩
abbrev S3072 : Shape := ⟨1, ![3072]⟩
abbrev S3072x1 : Shape := ⟨2, ![3072, 1]⟩
abbrev S72x32x480 : Shape := ⟨3, ![72, 32, 480]⟩
abbrev S72x1x480 : Shape := ⟨3, ![72, 1, 480]⟩
abbrev S3072x480 : Shape := ⟨2, ![3072, 480]⟩
abbrev S6x512x480 : Shape := ⟨3, ![6, 512, 480]⟩
abbrev S512x80 : Shape := ⟨2, ![512, 80]⟩
abbrev S1x512x80 : Shape := ⟨3, ![1, 512, 80]⟩
abbrev S6x512x80 : Shape := ⟨3, ![6, 512, 80]⟩
abbrev S6x512x160 : Shape := ⟨3, ![6, 512, 160]⟩
abbrev S6x512 : Shape := ⟨2, ![6, 512]⟩
abbrev S6x512x1 : Shape := ⟨3, ![6, 512, 1]⟩
abbrev S6x160x512 : Shape := ⟨3, ![6, 160, 512]⟩
abbrev S6x1x512 : Shape := ⟨3, ![6, 1, 512]⟩

abbrev nBuf : Space → Nat
  | .hbm => 13
  | .vmem => 12
  | .smem => 0
  | _ => 0

abbrev bufTy : (tb : Table) → Fin (tcTables nBuf tb) → BufTy
  | .hbm, ⟨0, _⟩ => ⟨S6x512x2304, .bf16⟩
  | .hbm, ⟨1, _⟩ => ⟨S2304, .f32⟩
  | .hbm, ⟨2, _⟩ => ⟨S2304x480, .fp8e4m3⟩
  | .hbm, ⟨3, _⟩ => ⟨S72x480, .i8⟩
  | .hbm, ⟨4, _⟩ => ⟨S2304x480, .fp8e4m3⟩
  | .hbm, ⟨5, _⟩ => ⟨S72x480, .i8⟩
  | .hbm, ⟨6, _⟩ => ⟨S80x512, .f32⟩
  | .hbm, ⟨7, _⟩ => ⟨S80x512, .f32⟩
  | .hbm, ⟨8, _⟩ => ⟨S1x2304, .f32⟩
  | .hbm, ⟨9, _⟩ => ⟨S6x480x512, .fp8e4m3⟩
  | .hbm, ⟨10, _⟩ => ⟨S6x3x512, .f32⟩
  | .hbm, ⟨11, _⟩ => ⟨S6x480x512, .fp8e4m3⟩
  | .hbm, ⟨12, _⟩ => ⟨S6x3x512, .f32⟩
  | .local _ .vmem, ⟨0, _⟩ => ⟨S6x512x2304, .bf16⟩
  | .local _ .vmem, ⟨1, _⟩ => ⟨S1x2304, .f32⟩
  | .local _ .vmem, ⟨2, _⟩ => ⟨S2304x480, .fp8e4m3⟩
  | .local _ .vmem, ⟨3, _⟩ => ⟨S72x480, .i8⟩
  | .local _ .vmem, ⟨4, _⟩ => ⟨S2304x480, .fp8e4m3⟩
  | .local _ .vmem, ⟨5, _⟩ => ⟨S72x480, .i8⟩
  | .local _ .vmem, ⟨6, _⟩ => ⟨S80x512, .f32⟩
  | .local _ .vmem, ⟨7, _⟩ => ⟨S80x512, .f32⟩
  | .local _ .vmem, ⟨8, _⟩ => ⟨S6x480x512, .fp8e4m3⟩
  | .local _ .vmem, ⟨9, _⟩ => ⟨S6x3x512, .f32⟩
  | .local _ .vmem, ⟨10, _⟩ => ⟨S6x480x512, .fp8e4m3⟩
  | .local _ .vmem, ⟨11, _⟩ => ⟨S6x3x512, .f32⟩
  | _, _ => ⟨S6x512x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S6x512x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x480 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x480 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x480 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S72x480 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S80x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S80x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x480x512 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x480x512 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Ring.lean ====
/- The ring of two batch slots that Kernel's loop keeps in flight: its names, its closed-form offsets and the resources a
   trip takes and leaves. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.KitQuiescent
public import Idealize.ShloMosaic.Lib.Ring
public import Idealize.ShloMosaic.Lib.Affine
public import Idealize.ShloMosaic.Lib.Guarded
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline library's, beside the counters the copies ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## Names: batch `b` of `x`, slot `s` of the two-slot buffer, slot `s`'s cell -/

abbrev xM : Memref sig .tc .hbm S6x512x2304 .bf16 := Memref.whole main_arg0
abbrev bufM : Memref sig .tc .vmem S2x512x2304 .bf16 := Memref.whole cc0_scratch2

abbrev grpOff (b : Fin 6) : Fin 3 → Nat := ![b.val, 0, 0]
theorem grpOff_inb (b : Fin 6) : ∀ a, grpOff b a + S1x512x2304.size a ≤ S6x512x2304.size a := by
  have := b.isLt; intro a; fin_cases a
  · show b.val + 1 ≤ 6; omega
  · show 0 + 512 ≤ 512; omega
  · show 0 + 2304 ≤ 2304; omega
abbrev slotOff (s : Fin 2) : Fin 3 → Nat := ![s.val, 0, 0]
theorem slotOff_inb (s : Fin 2) : ∀ a, slotOff s a + S1x512x2304.size a ≤ S2x512x2304.size a := by
  have := s.isLt; intro a; fin_cases a
  · show s.val + 1 ≤ 2; omega
  · show 0 + 512 ≤ 512; omega
  · show 0 + 2304 ≤ 2304; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Batch `b` of `x`, as the body slices and squeezes it. -/
def grp (b : Fin 6) : Memref sig .tc .hbm S512x2304 .bf16 :=
  (xM.slice (Rect.unit (s := S6x512x2304) (grpOff b) S1x512x2304.size (grpOff_inb b)) (fun _ => rfl)).squeeze S512x2304 squeezes_S1x512x2304_S512x2304
/-- Slot `s` of the buffer, as the body slices and squeezes it. -/
def rslot (s : Fin 2) : Memref sig .tc .vmem S512x2304 .bf16 :=
  (bufM.slice (Rect.unit (s := S2x512x2304) (slotOff s) S1x512x2304.size (slotOff_inb s)) (fun _ => rfl)).squeeze S512x2304 squeezes_S1x512x2304_S512x2304
/-- Slot `s`'s DMA semaphore. -/
def csm (s : Fin 2) : DmaSems sig S_ := (cc0_scratch15.slice (Rect.unit (s := S2) (semOff s) S1.size (semOff_inb s))).squeeze S_ squeezes_S1_S_

instance (s : Fin 2) : ClosedOff (slotOff s) := ⟨slotOff s, rfl⟩
instance (b : Fin 6) : ClosedOff (grpOff b) := ⟨grpOff b, rfl⟩

/-! ## The trip's offsets in closed form -/

theorem trips_eq : k0_t1_loop.trips = 6 := by decide
theorem trip_lt (k : Fin k0_t1_loop.trips) : k.val < 6 := Nat.lt_of_lt_of_eq k.isLt trips_eq
/-- A property of the six trips, checked at each. -/
theorem six {P : Fin k0_t1_loop.trips → Prop} (h : ∀ i : Fin 6, P (i.cast trips_eq.symm)) (k : Fin k0_t1_loop.trips) : P k := by
  have := h (k.cast trips_eq); simpa using this

theorem off1_eq (k : Fin k0_t1_loop.trips) : k0_off1 k = semOff (Ring.sl 2 k.val) := six (P := fun k => k0_off1 k = semOff (Ring.sl 2 k.val)) (by decide) k
theorem off2_eq (k : Fin k0_t1_loop.trips) : k0_off2 k = slotOff (Ring.sl 2 k.val) := six (P := fun k => k0_off2 k = slotOff (Ring.sl 2 k.val)) (by decide) k
theorem off3_eq (k : Fin k0_t1_loop.trips) : k0_off3 k = grpOff (Ring.bk 6 k.val) := six (P := fun k => k0_off3 k = grpOff (Ring.bk 6 k.val)) (by decide) k
theorem off36_eq (k : Fin k0_t1_loop.trips) : k0_off36 k = semOff (Ring.sl 2 k.val) := six (P := fun k => k0_off36 k = semOff (Ring.sl 2 k.val)) (by decide) k
theorem off37_eq (k : Fin k0_t1_loop.trips) : k0_off37 k = slotOff (Ring.sl 2 k.val) := six (P := fun k => k0_off37 k = slotOff (Ring.sl 2 k.val)) (by decide) k
theorem off38_eq (k : Fin k0_t1_loop.trips) (hc : k0_cond1 k = 1#1) : k0_off38 k = grpOff (Ring.bk 6 (k.val + 2)) :=
  six (P := fun k => k0_cond1 k = 1#1 → k0_off38 k = grpOff (Ring.bk 6 (k.val + 2))) (by decide) k hc
theorem cond1_iff (k : Fin k0_t1_loop.trips) : k0_cond1 k = 1#1 ↔ k.val + 2 < 6 :=
  six (P := fun k => k0_cond1 k = 1#1 ↔ k.val + 2 < 6) (by decide) k

instance (k : Fin k0_t1_loop.trips) : ClosedOff (k0_off2 k) := ⟨slotOff (Ring.sl 2 k.val), off2_eq k⟩
instance (k : Fin k0_t1_loop.trips) : ClosedOff (k0_off37 k) := ⟨slotOff (Ring.sl 2 k.val), off37_eq k⟩
theorem off4_eq (k : Fin k0_t1_loop.trips) : k0_off4 k = ![(Ring.sl 2 k.val).val, 0, 0] := six (P := fun k => k0_off4 k = ![(Ring.sl 2 k.val).val, 0, 0]) (by decide) k
instance (k : Fin k0_t1_loop.trips) : ClosedOff (k0_off4 k) := ⟨![(Ring.sl 2 k.val).val, 0, 0], off4_eq k⟩
theorem off5_eq (k : Fin k0_t1_loop.trips) : k0_off5 k = ![(Ring.sl 2 k.val).val, 16, 0] := six (P := fun k => k0_off5 k = ![(Ring.sl 2 k.val).val, 16, 0]) (by decide) k
instance (k : Fin k0_t1_loop.trips) : ClosedOff (k0_off5 k) := ⟨![(Ring.sl 2 k.val).val, 16, 0], off5_eq k⟩
theorem off6_eq (k : Fin k0_t1_loop.trips) : k0_off6 k = ![(Ring.sl 2 k.val).val, 32, 0] := six (P := fun k => k0_off6 k = ![(Ring.sl 2 k.val).val, 32, 0]) (by decide) k
instance (k : Fin k0_t1_loop.trips) : ClosedOff (k0_off6 k) := ⟨![(Ring.sl 2 k.val).val, 32, 0], off6_eq k⟩
theorem off7_eq (k : Fin k0_t1_loop.trips) : k0_off7 k = ![(Ring.sl 2 k.val).val, 48, 0] := six (P := fun k => k0_off7 k = ![(Ring.sl 2 k.val).val, 48, 0]) (by decide) k
instance (k : Fin k0_t1_loop.trips) : ClosedOff (k0_off7 k) := ⟨![(Ring.sl 2 k.val).val, 48, 0], off7_eq k⟩
theorem off8_eq (k : Fin k0_t1_loop.trips) : k0_off8 k = ![(Ring.sl 2 k.val).val, 64, 0] := six (P := fun k => k0_off8 k = ![(Ring.sl 2 k.val).val, 64, 0]) (by decide) k
instance (k : Fin k0_t1_loop.trips) : ClosedOff (k0_off8 k) := ⟨![(Ring.sl 2 k.val).val, 64, 0], off8_eq k⟩
theorem off9_eq (k : Fin k0_t1_loop.trips) : k0_off9 k = ![(Ring.sl 2 k.val).val, 80, 0] := six (P := fun k => k0_off9 k = ![(Ring.sl 2 k.val).val, 80, 0]) (by decide) k
instance (k : Fin k0_t1_loop.trips) : ClosedOff (k0_off9 k) := ⟨![(Ring.sl 2 k.val).val, 80, 0], off9_eq k⟩
theorem off10_eq (k : Fin k0_t1_loop.trips) : k0_off10 k = ![(Ring.sl 2 k.val).val, 96, 0] := six (P := fun k => k0_off10 k = ![(Ring.sl 2 k.val).val, 96, 0]) (by decide) k
instance (k : Fin k0_t1_loop.trips) : ClosedOff (k0_off10 k) := ⟨![(Ring.sl 2 k.val).val, 96, 0], off10_eq k⟩
theorem off11_eq (k : Fin k0_t1_loop.trips) : k0_off11 k = ![(Ring.sl 2 k.val).val, 112, 0] := six (P := fun k => k0_off11 k = ![(Ring.sl 2 k.val).val, 112, 0]) (by decide) k
instance (k : Fin k0_t1_loop.trips) : ClosedOff (k0_off11 k) := ⟨![(Ring.sl 2 k.val).val, 112, 0], off11_eq k⟩
theorem off12_eq (k : Fin k0_t1_loop.trips) : k0_off12 k = ![(Ring.sl 2 k.val).val, 128, 0] := six (P := fun k => k0_off12 k = ![(Ring.sl 2 k.val).val, 128, 0]) (by decide) k
instance (k : Fin k0_t1_loop.trips) : ClosedOff (k0_off12 k) := ⟨![(Ring.sl 2 k.val).val, 128, 0], off12_eq k⟩
theorem off13_eq (k : Fin k0_t1_loop.trips) : k0_off13 k = ![(Ring.sl 2 k.val).val, 144, 0] := six (P := fun k => k0_off13 k = ![(Ring.sl 2 k.val).val, 144, 0]) (by decide) k
instance (k : Fin k0_t1_loop.trips) : ClosedOff (k0_off13 k) := ⟨![(Ring.sl 2 k.val).val, 144, 0], off13_eq k⟩
theorem off14_eq (k : Fin k0_t1_loop.trips) : k0_off14 k = ![(Ring.sl 2 k.val).val, 160, 0] := six (P := fun k => k0_off14 k = ![(Ring.sl 2 k.val).val, 160, 0]) (by decide) k
instance (k : Fin k0_t1_loop.trips) : ClosedOff (k0_off14 k) := ⟨![(Ring.sl 2 k.val).val, 160, 0], off14_eq k⟩
theorem off15_eq (k : Fin k0_t1_loop.trips) : k0_off15 k = ![(Ring.sl 2 k.val).val, 176, 0] := six (P := fun k => k0_off15 k = ![(Ring.sl 2 k.val).val, 176, 0]) (by decide) k
instance (k : Fin k0_t1_loop.trips) : ClosedOff (k0_off15 k) := ⟨![(Ring.sl 2 k.val).val, 176, 0], off15_eq k⟩
theorem off16_eq (k : Fin k0_t1_loop.trips) : k0_off16 k = ![(Ring.sl 2 k.val).val, 192, 0] := six (P := fun k => k0_off16 k = ![(Ring.sl 2 k.val).val, 192, 0]) (by decide) k
instance (k : Fin k0_t1_loop.trips) : ClosedOff (k0_off16 k) := ⟨![(Ring.sl 2 k.val).val, 192, 0], off16_eq k⟩
theorem off17_eq (k : Fin k0_t1_loop.trips) : k0_off17 k = ![(Ring.sl 2 k.val).val, 208, 0] := six (P := fun k => k0_off17 k = ![(Ring.sl 2 k.val).val, 208, 0]) (by decide) k
instance (k : Fin k0_t1_loop.trips) : ClosedOff (k0_off17 k) := ⟨![(Ring.sl 2 k.val).val, 208, 0], off17_eq k⟩
theorem off18_eq (k : Fin k0_t1_loop.trips) : k0_off18 k = ![(Ring.sl 2 k.val).val, 224, 0] := six (P := fun k => k0_off18 k = ![(Ring.sl 2 k.val).val, 224, 0]) (by decide) k
instance (k : Fin k0_t1_loop.trips) : ClosedOff (k0_off18 k) := ⟨![(Ring.sl 2 k.val).val, 224, 0], off18_eq k⟩
theorem off19_eq (k : Fin k0_t1_loop.trips) : k0_off19 k = ![(Ring.sl 2 k.val).val, 240, 0] := six (P := fun k => k0_off19 k = ![(Ring.sl 2 k.val).val, 240, 0]) (by decide) k
instance (k : Fin k0_t1_loop.trips) : ClosedOff (k0_off19 k) := ⟨![(Ring.sl 2 k.val).val, 240, 0], off19_eq k⟩
theorem off20_eq (k : Fin k0_t1_loop.trips) : k0_off20 k = ![(Ring.sl 2 k.val).val, 256, 0] := six (P := fun k => k0_off20 k = ![(Ring.sl 2 k.val).val, 256, 0]) (by decide) k
instance (k : Fin k0_t1_loop.trips) : ClosedOff (k0_off20 k) := ⟨![(Ring.sl 2 k.val).val, 256, 0], off20_eq k⟩
theorem off21_eq (k : Fin k0_t1_loop.trips) : k0_off21 k = ![(Ring.sl 2 k.val).val, 272, 0] := six (P := fun k => k0_off21 k = ![(Ring.sl 2 k.val).val, 272, 0]) (by decide) k
instance (k : Fin k0_t1_loop.trips) : ClosedOff (k0_off21 k) := ⟨![(Ring.sl 2 k.val).val, 272, 0], off21_eq k⟩
theorem off22_eq (k : Fin k0_t1_loop.trips) : k0_off22 k = ![(Ring.sl 2 k.val).val, 288, 0] := six (P := fun k => k0_off22 k = ![(Ring.sl 2 k.val).val, 288, 0]) (by decide) k
instance (k : Fin k0_t1_loop.trips) : ClosedOff (k0_off22 k) := ⟨![(Ring.sl 2 k.val).val, 288, 0], off22_eq k⟩
theorem off23_eq (k : Fin k0_t1_loop.trips) : k0_off23 k = ![(Ring.sl 2 k.val).val, 304, 0] := six (P := fun k => k0_off23 k = ![(Ring.sl 2 k.val).val, 304, 0]) (by decide) k
instance (k : Fin k0_t1_loop.trips) : ClosedOff (k0_off23 k) := ⟨![(Ring.sl 2 k.val).val, 304, 0], off23_eq k⟩
theorem off24_eq (k : Fin k0_t1_loop.trips) : k0_off24 k = ![(Ring.sl 2 k.val).val, 320, 0] := six (P := fun k => k0_off24 k = ![(Ring.sl 2 k.val).val, 320, 0]) (by decide) k
instance (k : Fin k0_t1_loop.trips) : ClosedOff (k0_off24 k) := ⟨![(Ring.sl 2 k.val).val, 320, 0], off24_eq k⟩
theorem off25_eq (k : Fin k0_t1_loop.trips) : k0_off25 k = ![(Ring.sl 2 k.val).val, 336, 0] := six (P := fun k => k0_off25 k = ![(Ring.sl 2 k.val).val, 336, 0]) (by decide) k
instance (k : Fin k0_t1_loop.trips) : ClosedOff (k0_off25 k) := ⟨![(Ring.sl 2 k.val).val, 336, 0], off25_eq k⟩
theorem off26_eq (k : Fin k0_t1_loop.trips) : k0_off26 k = ![(Ring.sl 2 k.val).val, 352, 0] := six (P := fun k => k0_off26 k = ![(Ring.sl 2 k.val).val, 352, 0]) (by decide) k
instance (k : Fin k0_t1_loop.trips) : ClosedOff (k0_off26 k) := ⟨![(Ring.sl 2 k.val).val, 352, 0], off26_eq k⟩
theorem off27_eq (k : Fin k0_t1_loop.trips) : k0_off27 k = ![(Ring.sl 2 k.val).val, 368, 0] := six (P := fun k => k0_off27 k = ![(Ring.sl 2 k.val).val, 368, 0]) (by decide) k
instance (k : Fin k0_t1_loop.trips) : ClosedOff (k0_off27 k) := ⟨![(Ring.sl 2 k.val).val, 368, 0], off27_eq k⟩
theorem off28_eq (k : Fin k0_t1_loop.trips) : k0_off28 k = ![(Ring.sl 2 k.val).val, 384, 0] := six (P := fun k => k0_off28 k = ![(Ring.sl 2 k.val).val, 384, 0]) (by decide) k
instance (k : Fin k0_t1_loop.trips) : ClosedOff (k0_off28 k) := ⟨![(Ring.sl 2 k.val).val, 384, 0], off28_eq k⟩
theorem off29_eq (k : Fin k0_t1_loop.trips) : k0_off29 k = ![(Ring.sl 2 k.val).val, 400, 0] := six (P := fun k => k0_off29 k = ![(Ring.sl 2 k.val).val, 400, 0]) (by decide) k
instance (k : Fin k0_t1_loop.trips) : ClosedOff (k0_off29 k) := ⟨![(Ring.sl 2 k.val).val, 400, 0], off29_eq k⟩
theorem off30_eq (k : Fin k0_t1_loop.trips) : k0_off30 k = ![(Ring.sl 2 k.val).val, 416, 0] := six (P := fun k => k0_off30 k = ![(Ring.sl 2 k.val).val, 416, 0]) (by decide) k
instance (k : Fin k0_t1_loop.trips) : ClosedOff (k0_off30 k) := ⟨![(Ring.sl 2 k.val).val, 416, 0], off30_eq k⟩
theorem off31_eq (k : Fin k0_t1_loop.trips) : k0_off31 k = ![(Ring.sl 2 k.val).val, 432, 0] := six (P := fun k => k0_off31 k = ![(Ring.sl 2 k.val).val, 432, 0]) (by decide) k
instance (k : Fin k0_t1_loop.trips) : ClosedOff (k0_off31 k) := ⟨![(Ring.sl 2 k.val).val, 432, 0], off31_eq k⟩
theorem off32_eq (k : Fin k0_t1_loop.trips) : k0_off32 k = ![(Ring.sl 2 k.val).val, 448, 0] := six (P := fun k => k0_off32 k = ![(Ring.sl 2 k.val).val, 448, 0]) (by decide) k
instance (k : Fin k0_t1_loop.trips) : ClosedOff (k0_off32 k) := ⟨![(Ring.sl 2 k.val).val, 448, 0], off32_eq k⟩
theorem off33_eq (k : Fin k0_t1_loop.trips) : k0_off33 k = ![(Ring.sl 2 k.val).val, 464, 0] := six (P := fun k => k0_off33 k = ![(Ring.sl 2 k.val).val, 464, 0]) (by decide) k
instance (k : Fin k0_t1_loop.trips) : ClosedOff (k0_off33 k) := ⟨![(Ring.sl 2 k.val).val, 464, 0], off33_eq k⟩
theorem off34_eq (k : Fin k0_t1_loop.trips) : k0_off34 k = ![(Ring.sl 2 k.val).val, 480, 0] := six (P := fun k => k0_off34 k = ![(Ring.sl 2 k.val).val, 480, 0]) (by decide) k
instance (k : Fin k0_t1_loop.trips) : ClosedOff (k0_off34 k) := ⟨![(Ring.sl 2 k.val).val, 480, 0], off34_eq k⟩
theorem off35_eq (k : Fin k0_t1_loop.trips) : k0_off35 k = ![(Ring.sl 2 k.val).val, 496, 0] := six (P := fun k => k0_off35 k = ![(Ring.sl 2 k.val).val, 496, 0]) (by decide) k
instance (k : Fin k0_t1_loop.trips) : ClosedOff (k0_off35 k) := ⟨![(Ring.sl 2 k.val).val, 496, 0], off35_eq k⟩
theorem off39_eq (k : Fin k0_t1_loop.trips) : k0_off39 k = ![k.val, 0, 0] := six (P := fun k => k0_off39 k = ![k.val, 0, 0]) (by decide) k
instance (k : Fin k0_t1_loop.trips) : ClosedOff (k0_off39 k) := ⟨![k.val, 0, 0], off39_eq k⟩
theorem off40_eq (k : Fin k0_t1_loop.trips) : k0_off40 k = ![k.val, 0, 0] := six (P := fun k => k0_off40 k = ![k.val, 0, 0]) (by decide) k
instance (k : Fin k0_t1_loop.trips) : ClosedOff (k0_off40 k) := ⟨![k.val, 0, 0], off40_eq k⟩
theorem off41_eq (k : Fin k0_t1_loop.trips) : k0_off41 k = ![k.val, 160, 0] := six (P := fun k => k0_off41 k = ![k.val, 160, 0]) (by decide) k
instance (k : Fin k0_t1_loop.trips) : ClosedOff (k0_off41 k) := ⟨![k.val, 160, 0], off41_eq k⟩
theorem off42_eq (k : Fin k0_t1_loop.trips) : k0_off42 k = ![k.val, 1, 0] := six (P := fun k => k0_off42 k = ![k.val, 1, 0]) (by decide) k
instance (k : Fin k0_t1_loop.trips) : ClosedOff (k0_off42 k) := ⟨![k.val, 1, 0], off42_eq k⟩
theorem off43_eq (k : Fin k0_t1_loop.trips) : k0_off43 k = ![k.val, 320, 0] := six (P := fun k => k0_off43 k = ![k.val, 320, 0]) (by decide) k
instance (k : Fin k0_t1_loop.trips) : ClosedOff (k0_off43 k) := ⟨![k.val, 320, 0], off43_eq k⟩
theorem off44_eq (k : Fin k0_t1_loop.trips) : k0_off44 k = ![k.val, 2, 0] := six (P := fun k => k0_off44 k = ![k.val, 2, 0]) (by decide) k
instance (k : Fin k0_t1_loop.trips) : ClosedOff (k0_off44 k) := ⟨![k.val, 2, 0], off44_eq k⟩
theorem off45_eq (k : Fin k0_t1_loop.trips) : k0_off45 k = ![k.val, 0, 128] := six (P := fun k => k0_off45 k = ![k.val, 0, 128]) (by decide) k
instance (k : Fin k0_t1_loop.trips) : ClosedOff (k0_off45 k) := ⟨![k.val, 0, 128], off45_eq k⟩
theorem off46_eq (k : Fin k0_t1_loop.trips) : k0_off46 k = ![k.val, 0, 128] := six (P := fun k => k0_off46 k = ![k.val, 0, 128]) (by decide) k
instance (k : Fin k0_t1_loop.trips) : ClosedOff (k0_off46 k) := ⟨![k.val, 0, 128], off46_eq k⟩
theorem off47_eq (k : Fin k0_t1_loop.trips) : k0_off47 k = ![k.val, 160, 128] := six (P := fun k => k0_off47 k = ![k.val, 160, 128]) (by decide) k
instance (k : Fin k0_t1_loop.trips) : ClosedOff (k0_off47 k) := ⟨![k.val, 160, 128], off47_eq k⟩
theorem off48_eq (k : Fin k0_t1_loop.trips) : k0_off48 k = ![k.val, 1, 128] := six (P := fun k => k0_off48 k = ![k.val, 1, 128]) (by decide) k
instance (k : Fin k0_t1_loop.trips) : ClosedOff (k0_off48 k) := ⟨![k.val, 1, 128], off48_eq k⟩
theorem off49_eq (k : Fin k0_t1_loop.trips) : k0_off49 k = ![k.val, 320, 128] := six (P := fun k => k0_off49 k = ![k.val, 320, 128]) (by decide) k
instance (k : Fin k0_t1_loop.trips) : ClosedOff (k0_off49 k) := ⟨![k.val, 320, 128], off49_eq k⟩
theorem off50_eq (k : Fin k0_t1_loop.trips) : k0_off50 k = ![k.val, 2, 128] := six (P := fun k => k0_off50 k = ![k.val, 2, 128]) (by decide) k
instance (k : Fin k0_t1_loop.trips) : ClosedOff (k0_off50 k) := ⟨![k.val, 2, 128], off50_eq k⟩
theorem off51_eq (k : Fin k0_t1_loop.trips) : k0_off51 k = ![k.val, 0, 256] := six (P := fun k => k0_off51 k = ![k.val, 0, 256]) (by decide) k
instance (k : Fin k0_t1_loop.trips) : ClosedOff (k0_off51 k) := ⟨![k.val, 0, 256], off51_eq k⟩
theorem off52_eq (k : Fin k0_t1_loop.trips) : k0_off52 k = ![k.val, 0, 256] := six (P := fun k => k0_off52 k = ![k.val, 0, 256]) (by decide) k
instance (k : Fin k0_t1_loop.trips) : ClosedOff (k0_off52 k) := ⟨![k.val, 0, 256], off52_eq k⟩
theorem off53_eq (k : Fin k0_t1_loop.trips) : k0_off53 k = ![k.val, 160, 256] := six (P := fun k => k0_off53 k = ![k.val, 160, 256]) (by decide) k
instance (k : Fin k0_t1_loop.trips) : ClosedOff (k0_off53 k) := ⟨![k.val, 160, 256], off53_eq k⟩
theorem off54_eq (k : Fin k0_t1_loop.trips) : k0_off54 k = ![k.val, 1, 256] := six (P := fun k => k0_off54 k = ![k.val, 1, 256]) (by decide) k
instance (k : Fin k0_t1_loop.trips) : ClosedOff (k0_off54 k) := ⟨![k.val, 1, 256], off54_eq k⟩
theorem off55_eq (k : Fin k0_t1_loop.trips) : k0_off55 k = ![k.val, 320, 256] := six (P := fun k => k0_off55 k = ![k.val, 320, 256]) (by decide) k
instance (k : Fin k0_t1_loop.trips) : ClosedOff (k0_off55 k) := ⟨![k.val, 320, 256], off55_eq k⟩
theorem off56_eq (k : Fin k0_t1_loop.trips) : k0_off56 k = ![k.val, 2, 256] := six (P := fun k => k0_off56 k = ![k.val, 2, 256]) (by decide) k
instance (k : Fin k0_t1_loop.trips) : ClosedOff (k0_off56 k) := ⟨![k.val, 2, 256], off56_eq k⟩
theorem off57_eq (k : Fin k0_t1_loop.trips) : k0_off57 k = ![k.val, 0, 384] := six (P := fun k => k0_off57 k = ![k.val, 0, 384]) (by decide) k
instance (k : Fin k0_t1_loop.trips) : ClosedOff (k0_off57 k) := ⟨![k.val, 0, 384], off57_eq k⟩
theorem off58_eq (k : Fin k0_t1_loop.trips) : k0_off58 k = ![k.val, 0, 384] := six (P := fun k => k0_off58 k = ![k.val, 0, 384]) (by decide) k
instance (k : Fin k0_t1_loop.trips) : ClosedOff (k0_off58 k) := ⟨![k.val, 0, 384], off58_eq k⟩
theorem off59_eq (k : Fin k0_t1_loop.trips) : k0_off59 k = ![k.val, 160, 384] := six (P := fun k => k0_off59 k = ![k.val, 160, 384]) (by decide) k
instance (k : Fin k0_t1_loop.trips) : ClosedOff (k0_off59 k) := ⟨![k.val, 160, 384], off59_eq k⟩
theorem off60_eq (k : Fin k0_t1_loop.trips) : k0_off60 k = ![k.val, 1, 384] := six (P := fun k => k0_off60 k = ![k.val, 1, 384]) (by decide) k
instance (k : Fin k0_t1_loop.trips) : ClosedOff (k0_off60 k) := ⟨![k.val, 1, 384], off60_eq k⟩
theorem off61_eq (k : Fin k0_t1_loop.trips) : k0_off61 k = ![k.val, 320, 384] := six (P := fun k => k0_off61 k = ![k.val, 320, 384]) (by decide) k
instance (k : Fin k0_t1_loop.trips) : ClosedOff (k0_off61 k) := ⟨![k.val, 320, 384], off61_eq k⟩
theorem off62_eq (k : Fin k0_t1_loop.trips) : k0_off62 k = ![k.val, 2, 384] := six (P := fun k => k0_off62 k = ![k.val, 2, 384]) (by decide) k
instance (k : Fin k0_t1_loop.trips) : ClosedOff (k0_off62 k) := ⟨![k.val, 2, 384], off62_eq k⟩

/-! ### The body's slices are `csm`, `rslot`, `grp` -/

section Canon

private theorem csm_congr {off : Fin 1 → Nat} {s : Fin 2} (e : off = semOff s) (hh) :
    (cc0_scratch15.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (bufM.slice (Rect.unit (s := S2x512x2304) off S1x512x2304.size hh) hs).squeeze S512x2304 squeezes_S1x512x2304_S512x2304 = rslot s :=
  congrArg (fun M : Memref sig .tc .vmem S1x512x2304 .bf16 => M.squeeze S512x2304 squeezes_S1x512x2304_S512x2304) (Memref.slice_unit_congr _ e _ _ _ _)
private theorem grp_congr {off : Fin 3 → Nat} {b : Fin 6} (e : off = grpOff b) (hh hs) :
    (xM.slice (Rect.unit (s := S6x512x2304) off S1x512x2304.size hh) hs).squeeze S512x2304 squeezes_S1x512x2304_S512x2304 = grp b :=
  congrArg (fun M : Memref sig .tc .hbm S1x512x2304 .bf16 => M.squeeze S512x2304 squeezes_S1x512x2304_S512x2304) (Memref.slice_unit_congr _ e _ _ _ _)

/-- The first two copies' literal slices: slots, cells and batches 0 and 1. -/
@[sl_canon] theorem semL0 (hh) : (cc0_scratch15.slice (Rect.unit (s := S2) ![0] S1.size hh)).squeeze S_ squeezes_S1_S_ = csm 0 := csm_congr (by decide) _
@[sl_canon] theorem semL1 (hh) : (cc0_scratch15.slice (Rect.unit (s := S2) ![1] S1.size hh)).squeeze S_ squeezes_S1_S_ = csm 1 := csm_congr (by decide) _
@[sl_canon] theorem slotL0 (hh hs) : (bufM.slice (Rect.unit (s := S2x512x2304) ![0, 0, 0] S1x512x2304.size hh) hs).squeeze S512x2304 squeezes_S1x512x2304_S512x2304 = rslot 0 := rslot_congr (by decide) _ _
@[sl_canon] theorem slotL1 (hh hs) : (bufM.slice (Rect.unit (s := S2x512x2304) ![1, 0, 0] S1x512x2304.size hh) hs).squeeze S512x2304 squeezes_S1x512x2304_S512x2304 = rslot 1 := rslot_congr (by decide) _ _
@[sl_canon] theorem grpL0 (hh hs) : (xM.slice (Rect.unit (s := S6x512x2304) ![0, 0, 0] S1x512x2304.size hh) hs).squeeze S512x2304 squeezes_S1x512x2304_S512x2304 = grp 0 := grp_congr (by decide) _ _
@[sl_canon] theorem grpL1 (hh hs) : (xM.slice (Rect.unit (s := S6x512x2304) ![1, 0, 0] S1x512x2304.size hh) hs).squeeze S512x2304 squeezes_S1x512x2304_S512x2304 = grp 1 := grp_congr (by decide) _ _

/-- Trip `k`: cell and slot `k % 2`, batch `k` waited for, batch `k + 2` issued. -/
@[sl_canon] theorem semK (k : Fin k0_t1_loop.trips) (hh) :
    (cc0_scratch15.slice (Rect.unit (s := S2) (k0_off1 k) S1.size hh)).squeeze S_ squeezes_S1_S_ = csm (Ring.sl 2 k.val) := csm_congr (off1_eq k) _
@[sl_canon] theorem slotK (k : Fin k0_t1_loop.trips) (hh hs) :
    (bufM.slice (Rect.unit (s := S2x512x2304) (k0_off2 k) S1x512x2304.size hh) hs).squeeze S512x2304 squeezes_S1x512x2304_S512x2304 = rslot (Ring.sl 2 k.val) := rslot_congr (off2_eq k) _ _
@[sl_canon] theorem grpW (k : Fin k0_t1_loop.trips) (hh hs) :
    (xM.slice (Rect.unit (s := S6x512x2304) (k0_off3 k) S1x512x2304.size hh) hs).squeeze S512x2304 squeezes_S1x512x2304_S512x2304 = grp (Ring.bk 6 k.val) := grp_congr (off3_eq k) _ _
@[sl_canon] theorem semI (k : Fin k0_t1_loop.trips) (hh) :
    (cc0_scratch15.slice (Rect.unit (s := S2) (k0_off36 k) S1.size hh)).squeeze S_ squeezes_S1_S_ = csm (Ring.sl 2 k.val) := csm_congr (off36_eq k) _
@[sl_canon] theorem slotI (k : Fin k0_t1_loop.trips) (hh hs) :
    (bufM.slice (Rect.unit (s := S2x512x2304) (k0_off37 k) S1x512x2304.size hh) hs).squeeze S512x2304 squeezes_S1x512x2304_S512x2304 = rslot (Ring.sl 2 k.val) := rslot_congr (off37_eq k) _ _
@[sl_canon] theorem grpI (k : Fin k0_t1_loop.trips) (hc : k0_cond1 k = 1#1) (hh hs) :
    (xM.slice (Rect.unit (s := S6x512x2304) (k0_off38 k) S1x512x2304.size hh) hs).squeeze S512x2304 squeezes_S1x512x2304_S512x2304 = grp (Ring.bk 6 (k.val + 2)) := grp_congr (off38_eq k hc) _ _

end Canon

/-! ## The pieces: a batch home, a slot held, a slot's cell, a slot in flight -/

section Pieces
variable (c : Dev nD) (X : Buf (Elt F) (xM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Batch `b` at home: held on its elements at `x`'s contents. -/
abbrev homeP (b : Fin 6) : sProp 𝕄 := (grp b).view.loc (c : Thread nD τ) ↦[(grp b).view.set]{fullShare} X
/-- Batch `b`'s words as a slot's payload. -/
abbrev payload (b : Fin 6) : S512x2304.Idx → Elt F .bf16 := ReadAs.same.apply ((grp b).view.read (Elt F) X)
/-- What batch `b`'s copy leaves in slot `s` over prior contents `f`. -/
abbrev landed (s : Fin 2) (b : Fin 6) (f : Buf (Elt F) ((rslot s).view.loc (c : Thread nD τ))) : Buf (Elt F) ((rslot s).view.loc (c : Thread nD τ)) :=
  (rslot s).view.writes (Elt F) f [⟨Rect.whole S512x2304, payload c X b⟩]
/-- Slot `s` in flight with batch `b`, issued over `f`. -/
abbrev flightP (s : Fin 2) (b : Fin 6) (f : Buf (Elt F) ((rslot s).view.loc (c : Thread nD τ))) : sProp 𝕄 :=
  Transfers.Flight countersEmb (c : Thread nD τ) (SemLoc.dma (csm s).sem) () 73728 iprop(slotP c s (landed c X s b f) ∗ homeP c X b)

/-- The slot of batch `j` before its trip: in flight when there is such a batch, at rest when there is none. -/
def slotSt (j : ℕ) : sProp 𝕄 :=
  Guarded (j < 6) (fun _ => iprop(∃ f, flightP c X (Ring.sl 2 j) (Ring.bk 6 j) f))
    (fun _ => iprop((∃ f, slotP c (Ring.sl 2 j) f) ∗ cellP c (Ring.sl 2 j)))

/-- The batches at home before trip `k` that trip `k` does not send out. -/
def restP (k : ℕ) : sProp 𝕄 :=
  if k + 2 < 6 then bigSep ((Ring.homeSet (NB := 6) 2 k).erase (Ring.bk 6 (k + 2))) (homeP c X) else bigSep (Ring.homeSet (NB := 6) 2 k) (homeP c X)

/-- The batches at home before trip `k`: the one it sends out, if any, beside the rest; -/
theorem homes_here (k : Fin k0_t1_loop.trips) :
    bigSep (Ring.homeSet (NB := 6) 2 k.val) (homeP c X)
      = iprop(Guarded (k0_cond1 k = 1#1) (fun _ => homeP c X (Ring.bk 6 (k.val + 2))) (fun _ => (iprop(emp) : sProp 𝕄)) ∗ restP c X k.val) := by
  by_cases h : k.val + 2 < 6
  · rw [Guarded.pos ((cond1_iff k).2 h), restP, if_pos h]
    conv_lhs => rw [Ring.homeSet_out 2 k.val h, bigSep_insert (Ring.bkL_not_mem_erase 2 k.val)]
    rfl
  · rw [Guarded.neg (mt (cond1_iff k).1 h), restP, if_neg h, emp_sep_eq'']
/-- after it, the one just read beside them. -/
theorem homes_next (k : Fin k0_t1_loop.trips) :
    bigSep (Ring.homeSet (NB := 6) 2 (k.val + 1)) (homeP c X) = iprop(homeP c X (Ring.bk 6 k.val) ∗ restP c X k.val) := by
  have hk := trip_lt k
  by_cases h : k.val + 2 < 6
  · rw [restP, if_pos h, Ring.homeSet_succ 2 k.val h, bigSep_insert (Ring.bk_not_mem_erase 2 k.val (by omega) (by decide))]; rfl
  · rw [restP, if_neg h, Ring.homeSet_succ_tail 2 k.val (by omega) hk, bigSep_insert (Ring.bk_not_mem_homeSet 2 k.val hk (by decide))]; rfl

/-- The flight a trip issues, as the run states it: into the slot as the last batch's copy left it, the new payload
    listed before the old one. -/
theorem flightP_after (s : Fin 2) (b b' : Fin 6) :
    flightP c X s b' ((rslot s).view.writes (Elt F) (rslot s).view.junk [⟨Rect.whole S512x2304, payload c X b⟩])
      = Transfers.Flight countersEmb (c : Thread nD τ) (SemLoc.dma (csm s).sem) () 73728
          iprop(((rslot s).view.loc (c : Thread nD τ) ↦[(rslot s).view.set]{fullShare}
                  (rslot s).view.writes (Elt F) (rslot s).view.junk [⟨Rect.whole S512x2304, payload c X b'⟩, ⟨Rect.whole S512x2304, payload c X b⟩])
                ∗ homeP c X b') := by
  simp only [flightP, landed, slotP, View.writes]

theorem sl2_add2 (k : ℕ) : Ring.sl 2 (k + 1 + 1) = Ring.sl 2 k := by rw [show k + 1 + 1 = k + 2 from rfl, Ring.sl_add]

end Pieces

end Cert.Proof.Kernel

end
-- ==== Proof.Trip.lean ====
/- One trip of Kernel's loop over the batches, run at a symbolic trip; the loop's invariant. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.KitQuiescent
public import Idealize.ShloMosaic.Lib.Ring
public import Idealize.ShloMosaic.Lib.Affine
public import Idealize.ShloMosaic.Lib.Guarded
public import Idealize.ShloMosaic.Lib.Tactic
public import proofs.«01_k».proof.Proof.Ring

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The other buffers, by name -/

abbrev wtM : Memref sig .tc .vmem S960x2304 .bf16 := Memref.whole cc0_scratch0
abbrev stageM : Memref sig .tc .vmem S2x480x2304 .fp8e4m3 := Memref.whole cc0_scratch1
abbrev hbM : Memref sig .tc .vmem S512x2304 .bf16 := Memref.whole cc0_scratch3
abbrev kvM : Memref sig .tc .vmem S960x512 .f32 := Memref.whole cc0_scratch4
abbrev kcM : Memref sig .tc .vmem S6x480x512 .fp8e4m3 := Memref.whole cc0_scratch5
abbrev vcM : Memref sig .tc .vmem S6x480x512 .fp8e4m3 := Memref.whole cc0_scratch6
abbrev ksM : Memref sig .tc .vmem S6x3x512 .f32 := Memref.whole cc0_scratch7
abbrev vsM : Memref sig .tc .vmem S6x3x512 .f32 := Memref.whole cc0_scratch8
abbrev gnM : Memref sig .tc .vmem S3x1x2304 .f32 := Memref.whole cc0_scratch9
abbrev ctM : Memref sig .tc .vmem S80x512 .f32 := Memref.whole cc0_scratch10
abbrev snM : Memref sig .tc .vmem S80x512 .f32 := Memref.whole cc0_scratch11
abbrev skM : Memref sig .tc .vmem S72x480 .i8 := Memref.whole cc0_scratch12
abbrev svM : Memref sig .tc .vmem S72x480 .i8 := Memref.whole cc0_scratch13
abbrev gaH : Memref sig .tc .hbm S1x2304 .f32 := Memref.whole main_v0
abbrev wkH : Memref sig .tc .hbm S480x2304 .fp8e4m3 := Memref.whole main_v1
abbrev skH : Memref sig .tc .hbm S72x480 .i8 := Memref.whole main_arg3
abbrev wvH : Memref sig .tc .hbm S480x2304 .fp8e4m3 := Memref.whole main_v2
abbrev svH : Memref sig .tc .hbm S72x480 .i8 := Memref.whole main_arg5
abbrev ctH : Memref sig .tc .hbm S80x512 .f32 := Memref.whole main_arg6
abbrev snH : Memref sig .tc .hbm S80x512 .f32 := Memref.whole main_arg7
abbrev kcH : Memref sig .tc .hbm S6x480x512 .fp8e4m3 := Memref.whole main_v3_0
abbrev ksH : Memref sig .tc .hbm S6x3x512 .f32 := Memref.whole main_v3_1
abbrev vcH : Memref sig .tc .hbm S6x480x512 .fp8e4m3 := Memref.whole main_v3_2
abbrev vsH : Memref sig .tc .hbm S6x3x512 .f32 := Memref.whole main_v3_3

section Trip

variable (c : Dev nD) (X : Buf (Elt F) (xM.view.loc (c : Thread nD τ)))
  (W : Buf (Elt F) (wtM.view.loc (c : Thread nD τ))) (G : Buf (Elt F) (gnM.view.loc (c : Thread nD τ)))
  (C : Buf (Elt F) (ctM.view.loc (c : Thread nD τ))) (S : Buf (Elt F) (snM.view.loc (c : Thread nD τ)))

/-- The four result buffers' contents. -/
structure Res where
  kc : Buf (Elt F) (kcM.view.loc (c : Thread nD τ))
  vc : Buf (Elt F) (vcM.view.loc (c : Thread nD τ))
  ks : Buf (Elt F) (ksM.view.loc (c : Thread nD τ))
  vs : Buf (Elt F) (vsM.view.loc (c : Thread nD τ))

/-- What every trip finds and leaves, the result buffers at `a`, the batches aside. -/
def bufsP (a : Res (F := F) c) : sProp 𝕄 :=
  iprop((wtM.view.loc (c : Thread nD τ) ↦[wtM.view.set]{fullShare} W) ∗ (gnM.view.loc (c : Thread nD τ) ↦[gnM.view.set]{fullShare} G)
    ∗ (ctM.view.loc (c : Thread nD τ) ↦[ctM.view.set]{fullShare} C) ∗ (snM.view.loc (c : Thread nD τ) ↦[snM.view.set]{fullShare} S)
    ∗ (∃ f, hbM.view.loc (c : Thread nD τ) ↦[hbM.view.set]{fullShare} f) ∗ (∃ f, kvM.view.loc (c : Thread nD τ) ↦[kvM.view.set]{fullShare} f)
    ∗ (kcM.view.loc (c : Thread nD τ) ↦[kcM.view.set]{fullShare} a.kc) ∗ (vcM.view.loc (c : Thread nD τ) ↦[vcM.view.set]{fullShare} a.vc)
    ∗ (ksM.view.loc (c : Thread nD τ) ↦[ksM.view.set]{fullShare} a.ks) ∗ (vsM.view.loc (c : Thread nD τ) ↦[vsM.view.set]{fullShare} a.vs))

/-- The resources before trip `k`, the result buffers at `a`: the buffers, the batches at home, the two slots. -/
def resAt (k : ℕ) (a : Res (F := F) c) : sProp 𝕄 :=
  iprop(bufsP c W G C S a ∗ (∃ w, owes (c : Thread nD τ) 0 w) ∗ bigSep (Ring.homeSet (NB := 6) 2 k) (homeP c X)
    ∗ slotSt c X k ∗ slotSt c X (k + 1))

set_option backward.proofsInPublic true in
set_option maxHeartbeats 0 in
/-- One trip at a symbolic `k`, the contents it leaves in the result buffers to be found. -/
def tripRun (c0 c1 : BitVec 32) (k : Fin k0_t1_loop.trips) (a : Res (F := F) c) :
    { w : Res (F := F) c //
      resAt c X W G C S k.val a ⊢ wp frame (wpE (defs₀ (F := F)) 𝒱₀ (c : Thread nD τ) none) Set.univ
        (k0_t1_body (F := F) xM (Memref.isWhole_whole _) gaH (Memref.isWhole_whole _) wkH (Memref.isWhole_whole _) skH (Memref.isWhole_whole _) wvH (Memref.isWhole_whole _) svH (Memref.isWhole_whole _) ctH (Memref.isWhole_whole _) snH (Memref.isWhole_whole _) kcH (Memref.isWhole_whole _) ksH (Memref.isWhole_whole _) vcH (Memref.isWhole_whole _) vsH (Memref.isWhole_whole _) wtM (Memref.isWhole_whole _) stageM (Memref.isWhole_whole _) bufM (Memref.isWhole_whole _) hbM (Memref.isWhole_whole _) kvM (Memref.isWhole_whole _) kcM (Memref.isWhole_whole _) vcM (Memref.isWhole_whole _) ksM (Memref.isWhole_whole _) vsM (Memref.isWhole_whole _) gnM (Memref.isWhole_whole _) ctM (Memref.isWhole_whole _) snM (Memref.isWhole_whole _) skM (Memref.isWhole_whole _) svM (Memref.isWhole_whole _) cc0_scratch14 cc0_scratch15 cc0_scratch16 c0 c1 k ())
        (fun _ => resAt c X W G C S (k.val + 1) w) } := by
  refine ⟨⟨?_, ?_, ?_, ?_⟩, ?run⟩
  case run =>
    have hk6 : k.val < 6 := trip_lt k
    unfold resAt bufsP
    rw [homes_here c X k, homes_next c X k]
    conv => lhs; rw [slotSt, Guarded.pos hk6]
    iintro ⟨⟨HW, HG, HC, HS, ⟨%fh, Hhb⟩, ⟨%fk, Hkv⟩, Hkc, Hvc, Hks, Hvs⟩, ⟨%w, HO⟩, ⟨Hg, Hrest⟩, ⟨%f0, HF0⟩, HF1⟩
    sl_unfold [k0_t1_body]
    sl_exec
    sl_step
    isplitl [HW HG HC HS Hhb Hkv Hkc Hvc Hks Hvs]
    · isplitl [HW]; · iexact HW
      isplitl [HG]; · iexact HG
      isplitl [HC]; · iexact HC
      isplitl [HS]; · iexact HS
      isplitl [Hhb]; · iexists _; iexact Hhb
      isplitl [Hkv]; · iexists _; iexact Hkv
      isplitl [Hkc]; · iexact Hkc
      isplitl [Hvc]; · iexact Hvc
      isplitl [Hks]; · iexact Hks
      iexact Hvs
    isplitl [HO]; · iexists _; iexact HO
    isplitl [HF0_src Hrest]
    · isplitl [HF0_src]; · iexact HF0_src
      iexact Hrest
    isplitl [HF1]; · iexact HF1
    unfold slotSt
    rw [sl2_add2]
    by_cases hc : k0_cond1 k = 1#1
    · rw [Guarded.pos ((cond1_iff k).1 hc)]
      ihave H := (Guarded.elim_pos hc) $$ if1
      iexists ((rslot (Ring.sl 2 k.val)).view.writes (Elt F) (rslot (Ring.sl 2 k.val)).view.junk [⟨Rect.whole S512x2304, payload c X (Ring.bk 6 k.val)⟩])
      irw [flightP_after]
      iexact H
    · rw [Guarded.neg (mt (cond1_iff k).2 hc)]
      ihave H := (Guarded.elim_neg hc) $$ if1
      icases H with ⟨H1, H2⟩
      isplitl [H1]; · iexists _; iexact H1
      iexact H2

end Trip

end Cert.Proof.Kernel

end
-- ==== Proof.Loop.lean ====
/- The invariant of Kernel's loop over the batches. -/
module

public import proofs.«01_k».proof.Proof.Trip

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Loop

variable (c : Dev nD) (X : Buf (Elt F) (xM.view.loc (c : Thread nD τ)))
  (W : Buf (Elt F) (wtM.view.loc (c : Thread nD τ))) (G : Buf (Elt F) (gnM.view.loc (c : Thread nD τ)))
  (C : Buf (Elt F) (ctM.view.loc (c : Thread nD τ))) (S : Buf (Elt F) (snM.view.loc (c : Thread nD τ)))

/-- The result buffers before trip `k`, from their contents at the loop's entry: what each trip leaves. -/
def acc (c0 c1 : BitVec 32) (a : Res (F := F) c) : ℕ → Res (F := F) c
  | 0 => a
  | k + 1 => if h : k < k0_t1_loop.trips then (tripRun c X W G C S c0 c1 ⟨k, h⟩ (acc c0 c1 a k)).1 else acc c0 c1 a k

/-- The resources before a trip: at the first one the two copies under way are written out. -/
def invAt (a : Res (F := F) c) : ℕ → sProp 𝕄
  | 0 => iprop(bufsP c W G C S a ∗ (∃ w, owes (c : Thread nD τ) 0 w) ∗ bigSep (Ring.homeSet (NB := 6) 2 0) (homeP c X)
      ∗ (∃ f, flightP c X 0 0 f) ∗ (∃ f, flightP c X 1 1 f))
  | k + 1 => iprop(bufsP c W G C S a ∗ (∃ w, owes (c : Thread nD τ) 0 w) ∗ bigSep (Ring.homeSet (NB := 6) 2 (k + 1)) (homeP c X)
      ∗ (∃ _u : Unit, slotSt c X (k + 1)) ∗ (∃ _u : Unit, slotSt c X (k + 1 + 1)))

theorem sl2_0 : Ring.sl 2 0 = 0 := Fin.ext (by rfl)
theorem sl2_1 : Ring.sl 2 (0 + 1) = 1 := Fin.ext (by rfl)
theorem bk6_0 : Ring.bk 6 0 = 0 := Fin.ext (by rfl)
theorem bk6_1 : Ring.bk 6 (0 + 1) = 1 := Fin.ext (by rfl)

theorem invAt_res (a : Res (F := F) c) (k : ℕ) : invAt c X W G C S a k ⊢ resAt c X W G C S k a := by
  cases k with
  | zero =>
    unfold invAt resAt slotSt
    rw [Guarded.pos (by decide : 0 < 6), Guarded.pos (by decide : 0 + 1 < 6), sl2_0, sl2_1, bk6_0, bk6_1]
  | succ k =>
    unfold invAt resAt
    iintro ⟨H1, H2, H3, ⟨%_, H4⟩, ⟨%_, H5⟩⟩
    isplitl [H1]; · iexact H1
    isplitl [H2]; · iexact H2
    isplitl [H3]; · iexact H3
    isplitl [H4]; · iexact H4
    iexact H5

theorem invAt_of_res (a : Res (F := F) c) (k : ℕ) : resAt c X W G C S (k + 1) a ⊢ invAt c X W G C S a (k + 1) := by
  unfold invAt resAt
  iintro ⟨H1, H2, H3, H4, H5⟩
  isplitl [H1]; · iexact H1
  isplitl [H2]; · iexact H2
  isplitl [H3]; · iexact H3
  isplitl [H4]
  · iexists (); iexact H4
  · iexists (); iexact H5

set_option warn.classDefReducibility false in
/-- The loop's invariant. -/
@[sl_loop] def loopInv1 (c0 c1 : BitVec 32) (a1 : Buf (Elt F) (kcM.view.loc (c : Thread nD τ))) (a2 : Buf (Elt F) (vcM.view.loc (c : Thread nD τ)))
    (a3 : Buf (Elt F) (ksM.view.loc (c : Thread nD τ))) (a4 : Buf (Elt F) (vsM.view.loc (c : Thread nD τ))) :
    LoopInvTy_k0_t1 (F := F) Unit ℕ (UU nD τ) ℕ 𝒱₀ c none Set.univ xM (Memref.isWhole_whole _) gaH (Memref.isWhole_whole _) wkH (Memref.isWhole_whole _) skH (Memref.isWhole_whole _) wvH (Memref.isWhole_whole _) svH (Memref.isWhole_whole _) ctH (Memref.isWhole_whole _) snH (Memref.isWhole_whole _) kcH (Memref.isWhole_whole _) ksH (Memref.isWhole_whole _) vcH (Memref.isWhole_whole _) vsH (Memref.isWhole_whole _) wtM (Memref.isWhole_whole _) stageM (Memref.isWhole_whole _) bufM (Memref.isWhole_whole _) hbM (Memref.isWhole_whole _) kvM (Memref.isWhole_whole _) kcM (Memref.isWhole_whole _) vcM (Memref.isWhole_whole _) ksM (Memref.isWhole_whole _) vsM (Memref.isWhole_whole _) gnM (Memref.isWhole_whole _) ctM (Memref.isWhole_whole _) snM (Memref.isWhole_whole _) skM (Memref.isWhole_whole _) svM (Memref.isWhole_whole _) cc0_scratch14 cc0_scratch15 cc0_scratch16 c0 c1 where
  inv k _ := invAt c X W G C S (acc c X W G C S c0 c1 ⟨a1, a2, a3, a4⟩ k) k
  step k _ := by
    have e : acc c X W G C S c0 c1 ⟨a1, a2, a3, a4⟩ (k.val + 1)
        = (tripRun c X W G C S c0 c1 k (acc c X W G C S c0 c1 ⟨a1, a2, a3, a4⟩ k)).1 := by
      rw [acc, dif_pos k.isLt]
    iintro H
    iapply (wp_wand_r Idealize.ShloMosaic.frame (wpE (defs₀ (F := F)) 𝒱₀ (c : Thread nD τ) none) Set.univ)
    isplitl [H]
    · iapply (tripRun c X W G C S c0 c1 k _).2
      iapply (invAt_res c X W G C S _ k.val)
      iexact H
    · iintro %_ H'
      rw [e]
      iapply (invAt_of_res c X W G C S _ k.val)
      iexact H'

end Loop

end Cert.Proof.Kernel

end
-- ==== Proof.Body.lean ====
/- Kernel's body: the copies in, the two dequantised weights, the loop by its invariant, the four copies out. -/
module

public import proofs.«01_k».proof.Proof.Loop

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The whole body -/

section Body

variable (c : Dev nD) (X : Buf (Elt F) (xM.view.loc (c : Thread nD τ)))

/-- The two halves of the staged codes. -/
abbrev stg0 : Memref sig .tc .vmem S480x2304 .fp8e4m3 :=
  (stageM.slice (Rect.unit (s := S2x480x2304) ![0, 0, 0] S1x480x2304.size inb_S2x480x2304_S1x480x2304_0_0_0) (fun _ => rfl)).squeeze S480x2304 squeezes_S1x480x2304_S480x2304
abbrev stg1 : Memref sig .tc .vmem S480x2304 .fp8e4m3 :=
  (stageM.slice (Rect.unit (s := S2x480x2304) ![1, 0, 0] S1x480x2304.size inb_S2x480x2304_S1x480x2304_1_0_0) (fun _ => rfl)).squeeze S480x2304 squeezes_S1x480x2304_S480x2304

/-- What the body is handed. -/
structure Ini where
  ga : Buf (Elt F) (gaH.view.loc (c : Thread nD τ))
  wk : Buf (Elt F) (wkH.view.loc (c : Thread nD τ))
  sk : Buf (Elt F) (skH.view.loc (c : Thread nD τ))
  wv : Buf (Elt F) (wvH.view.loc (c : Thread nD τ))
  sv : Buf (Elt F) (svH.view.loc (c : Thread nD τ))
  ct : Buf (Elt F) (ctH.view.loc (c : Thread nD τ))
  sn : Buf (Elt F) (snH.view.loc (c : Thread nD τ))

/-- What the buffers held. -/
structure Junk where
  okc : Buf (Elt F) (kcH.view.loc (c : Thread nD τ))
  oks : Buf (Elt F) (ksH.view.loc (c : Thread nD τ))
  ovc : Buf (Elt F) (vcH.view.loc (c : Thread nD τ))
  ovs : Buf (Elt F) (vsH.view.loc (c : Thread nD τ))
  wt : Buf (Elt F) (wtM.view.loc (c : Thread nD τ))
  st0 : Buf (Elt F) (stg0.view.loc (c : Thread nD τ))
  st1 : Buf (Elt F) (stg1.view.loc (c : Thread nD τ))
  a : Res (F := F) c
  gn : Buf (Elt F) (gnM.view.loc (c : Thread nD τ))
  tc : Buf (Elt F) (ctM.view.loc (c : Thread nD τ))
  ts : Buf (Elt F) (snM.view.loc (c : Thread nD τ))
  dk : Buf (Elt F) (skM.view.loc (c : Thread nD τ))
  dv : Buf (Elt F) (svM.view.loc (c : Thread nD τ))

/-- The cells at rest. -/
abbrev cellsP : sProp 𝕄 :=
  iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ cellP c 0 ∗ cellP c 1 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)

abbrev ptsW {sp : Space} {s : Shape} {e : EltTy} (M : Memref sig .tc sp s e) (f : Buf (Elt F) (M.view.loc (c : Thread nD τ))) : sProp 𝕄 :=
  M.view.loc (c : Thread nD τ) ↦[M.view.set]{fullShare} f

/-- What the body is handed, the batches, slots and cells aside. -/
abbrev memP (i : Ini (F := F) c) (j : Junk (F := F) c) : sProp 𝕄 :=
  iprop(ptsW c gaH i.ga ∗ ptsW c wkH i.wk ∗ ptsW c skH i.sk ∗ ptsW c wvH i.wv ∗ ptsW c svH i.sv ∗ ptsW c ctH i.ct ∗ ptsW c snH i.sn
    ∗ ptsW c kcH j.okc ∗ ptsW c ksH j.oks ∗ ptsW c vcH j.ovc ∗ ptsW c vsH j.ovs
    ∗ ptsW c wtM j.wt ∗ ptsW c stg0 j.st0 ∗ ptsW c stg1 j.st1 ∗ (∃ f, ptsW c hbM f) ∗ (∃ f, ptsW c kvM f)
    ∗ ptsW c kcM j.a.kc ∗ ptsW c vcM j.a.vc ∗ ptsW c ksM j.a.ks ∗ ptsW c vsM j.a.vs ∗ ptsW c gnM j.gn ∗ ptsW c ctM j.tc ∗ ptsW c snM j.ts
    ∗ ptsW c skM j.dk ∗ ptsW c svM j.dv)

/-- The four results' contents in HBM. -/
structure Out where
  kc : Buf (Elt F) (kcH.view.loc (c : Thread nD τ))
  ks : Buf (Elt F) (ksH.view.loc (c : Thread nD τ))
  vc : Buf (Elt F) (vcH.view.loc (c : Thread nD τ))
  vs : Buf (Elt F) (vsH.view.loc (c : Thread nD τ))

abbrev inP (i : Ini (F := F) c) : sProp 𝕄 :=
  iprop(ptsW c gaH i.ga ∗ ptsW c wkH i.wk ∗ ptsW c skH i.sk ∗ ptsW c wvH i.wv ∗ ptsW c svH i.sv ∗ ptsW c ctH i.ct ∗ ptsW c snH i.sn)

abbrev outP (o : Out (F := F) c) : sProp 𝕄 :=
  iprop(ptsW c kcH o.kc ∗ ptsW c ksH o.ks ∗ ptsW c vcH o.vc ∗ ptsW c vsH o.vs)

abbrev anyP {sp : Space} {s : Shape} {e : EltTy} (M : Memref sig .tc sp s e) : sProp 𝕄 :=
  iprop(∃ f : Buf (Elt F) (M.view.loc (c : Thread nD τ)), ptsW c M f)

/-- The scratch buffers but the batch slots, at anything. -/
abbrev scrP : sProp 𝕄 :=
  iprop(anyP (F := F) c wtM ∗ anyP (F := F) c stg0 ∗ anyP (F := F) c stg1 ∗ anyP (F := F) c hbM ∗ anyP (F := F) c kvM ∗ anyP (F := F) c kcM ∗ anyP (F := F) c vcM ∗ anyP (F := F) c ksM ∗ anyP (F := F) c vsM ∗ anyP (F := F) c gnM ∗ anyP (F := F) c ctM ∗ anyP (F := F) c snM ∗ anyP (F := F) c skM ∗ anyP (F := F) c svM)

/-- What the body hands back. -/
abbrev POST (i : Ini (F := F) c) (o : Out (F := F) c) : sProp 𝕄 :=
  iprop(inP c i ∗ outP c o ∗ scrP (F := F) c ∗ bigSep Finset.univ (homeP c X) ∗ (∃ f, slotP (F := F) c 0 f) ∗ (∃ f, slotP (F := F) c 1 f)
    ∗ cellsP (F := F) c ∗ ∃ w, owes (c : Thread nD τ) 0 w)

theorem sl2_6 : Ring.sl 2 (5 + 1) = 0 := Fin.ext (by rfl)
theorem sl2_7 : Ring.sl 2 (5 + 1 + 1) = 1 := Fin.ext (by rfl)
theorem homes_six : Ring.homeSet (NB := 6) 2 (5 + 1) = Finset.univ := by decide

set_option backward.proofsInPublic true in
set_option maxHeartbeats 0 in
attribute [local sl_canon] sl2_0 sl2_1 bk6_0 bk6_1 in
/-- The body run: the contents it leaves in the results to be found. -/
def bodyRun (i : Ini (F := F) c) (j : Junk (F := F) c) :
    { o : Out (F := F) c // ∀ (w : Waits sig Unit) (Q : PUnit → sProp 𝕄), iprop((memP c i j ∗ homeP c X 0 ∗ homeP c X 1 ∗ bigSep (Ring.homeSet 2 0) (homeP c X) ∗ (∃ f, slotP c 0 f) ∗ (∃ f, slotP c 1 f)
      ∗ cellsP c ∗ owes (c : Thread nD τ) 0 w) ∗ (POST c X i o -∗ Q ⟨⟩))
      ⊢ wp frame (wpE (defs₀ (F := F)) 𝒱₀ (c : Thread nD τ) none) Set.univ
        (cc0_last_layer xM (Memref.isWhole_whole _) gaH (Memref.isWhole_whole _) wkH (Memref.isWhole_whole _) skH (Memref.isWhole_whole _) wvH (Memref.isWhole_whole _) svH (Memref.isWhole_whole _) ctH (Memref.isWhole_whole _) snH (Memref.isWhole_whole _) kcH (Memref.isWhole_whole _) ksH (Memref.isWhole_whole _) vcH (Memref.isWhole_whole _) vsH (Memref.isWhole_whole _) wtM (Memref.isWhole_whole _) stageM (Memref.isWhole_whole _) bufM (Memref.isWhole_whole _) hbM (Memref.isWhole_whole _) kvM (Memref.isWhole_whole _) kcM (Memref.isWhole_whole _) vcM (Memref.isWhole_whole _) ksM (Memref.isWhole_whole _) vsM (Memref.isWhole_whole _) gnM (Memref.isWhole_whole _) ctM (Memref.isWhole_whole _) snM (Memref.isWhole_whole _) skM (Memref.isWhole_whole _) svM (Memref.isWhole_whole _) cc0_scratch14 cc0_scratch15 cc0_scratch16)
        Q } := by
  refine ⟨⟨?_, ?_, ?_, ?_⟩, ?run⟩
  case run =>
  intro w Q
  iintro ⟨⟨⟨Hga, Hwk, Hsk, Hwv, Hsv, Hct, Hsn, Hokc, Hoks, Hovc, Hovs, Hwt, Hst0, Hst1, ⟨%fh, Hhb⟩, ⟨%fk, Hkv⟩, Hkc, Hvc, Hks, Hvs, Hgn, Htc, Hts, Hdk, Hdv⟩,
    Hg0, Hg1, Hh, ⟨%f0, Hs0⟩, ⟨%f1, Hs1⟩, ⟨Hc0, Hc1, Hc2, Hc3, Hc4, Hc5, Hc6, Hd0, Hd1, Hc9, Hc10, Hc11, Hc12⟩, HO⟩, HQ⟩
  sl_exec
  rw [sl2_6, sl2_7, homes_six]
  ihave H0 := (Guarded.elim_neg (by decide : ¬ 5 + 1 < 6)) $$ Hd0
  ihave H1 := (Guarded.elim_neg (by decide : ¬ 5 + 1 + 1 < 6)) $$ Hd1
  icases H0 with ⟨⟨%g0, Hs0⟩, Hk0⟩
  icases H1 with ⟨⟨%g1, Hs1⟩, Hk1⟩
  sl_step
  iapply HQ
  isplitl [Hga Hwk Hsk Hwv Hsv Hct Hsn]
  · skip
    isplitl [Hga]; · iexact Hga
    isplitl [Hwk]; · iexact Hwk
    isplitl [Hsk]; · iexact Hsk
    isplitl [Hwv]; · iexact Hwv
    isplitl [Hsv]; · iexact Hsv
    isplitl [Hct]; · iexact Hct
    iexact Hsn
  isplitl [Hokc Hoks Hovc Hovs]
  · skip
    isplitl [Hokc]; · iexact Hokc
    isplitl [Hoks]; · iexact Hoks
    isplitl [Hovc]; · iexact Hovc
    iexact Hovs
  isplitl [Hwt Hst0 Hst1 Hhb Hkv Hkc Hvc Hks Hvs Hgn Htc Hts Hdk Hdv]
  · skip
    isplitl [Hwt]; · iexists _; iexact Hwt
    isplitl [Hst0]; · iexists _; iexact Hst0
    isplitl [Hst1]; · iexists _; iexact Hst1
    isplitl [Hhb]; · iexists _; iexact Hhb
    isplitl [Hkv]; · iexists _; iexact Hkv
    isplitl [Hkc]; · iexists _; iexact Hkc
    isplitl [Hvc]; · iexists _; iexact Hvc
    isplitl [Hks]; · iexists _; iexact Hks
    isplitl [Hvs]; · iexists _; iexact Hvs
    isplitl [Hgn]; · iexists _; iexact Hgn
    isplitl [Htc]; · iexists _; iexact Htc
    isplitl [Hts]; · iexists _; iexact Hts
    isplitl [Hdk]; · iexists _; iexact Hdk
    iexists _; iexact Hdv
  isplitl [Hh]; · iexact Hh
  isplitl [Hs0]; · iexists _; iexact Hs0
  isplitl [Hs1]; · iexists _; iexact Hs1
  isplitl [Hc0 Hc1 Hc2 Hc3 Hc4 Hc5 Hc6 Hk0 Hk1 Hc9 Hc10 Hc11 Hc12]
  · skip
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hk0]; · iexact Hk0
    isplitl [Hk1]; · iexact Hk1
    isplitl [Hc9]; · iexact Hc9
    isplitl [Hc10]; · iexact Hc10
    isplitl [Hc11]; · iexact Hc11
    iexact Hc12
  iexists _; iexact HO

end Body

end Cert.Proof.Kernel

end
-- ==== Proof.Launch.lean ====
/- Kernel's launch: the body's resources from the region's, the run of the whole program. -/
module

public import proofs.«01_k».proof.Proof.Body

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- A whole buffer's points-to under the memref's name. -/
theorem ptsW_whole (c : Dev nD) (b : Ref sig .tc) (f : Buf (Elt F) ((c : Thread nD τ).loc b)) :
    (ptsW c (Memref.whole b) f : sProp 𝕄) = (((c : Thread nD τ).loc b) ↦{fullShare} f) :=
  congrArg (fun S => ((((c : Thread nD τ).loc b)) ↦[S]{fullShare} f : sProp 𝕄)) (View.set_whole b)

set_option maxHeartbeats 800000 in
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The operands and the results under the launch's names. -/
theorem inP_eq (c : Dev nD) (i : Ini (F := F) c) : inP c i
    = (iprop((((c : Thread nD τ).loc main_v0) ↦{fullShare} i.ga) ∗ (((c : Thread nD τ).loc main_v1) ↦{fullShare} i.wk)
      ∗ (((c : Thread nD τ).loc main_arg3) ↦{fullShare} i.sk) ∗ (((c : Thread nD τ).loc main_v2) ↦{fullShare} i.wv)
      ∗ (((c : Thread nD τ).loc main_arg5) ↦{fullShare} i.sv) ∗ (((c : Thread nD τ).loc main_arg6) ↦{fullShare} i.ct)
      ∗ (((c : Thread nD τ).loc main_arg7) ↦{fullShare} i.sn)) : sProp 𝕄) := by
  rw [← ptsW_whole c main_v0, ← ptsW_whole c main_v1, ← ptsW_whole c main_arg3, ← ptsW_whole c main_v2, ← ptsW_whole c main_arg5,
    ← ptsW_whole c main_arg6, ← ptsW_whole c main_arg7]
theorem outP_eq (c : Dev nD) (o : Out (F := F) c) : outP c o
    = (iprop((((c : Thread nD τ).loc main_v3_0) ↦{fullShare} o.kc) ∗ (((c : Thread nD τ).loc main_v3_1) ↦{fullShare} o.ks)
      ∗ (((c : Thread nD τ).loc main_v3_2) ↦{fullShare} o.vc) ∗ (((c : Thread nD τ).loc main_v3_3) ↦{fullShare} o.vs)) : sProp 𝕄) := by
  rw [← ptsW_whole c main_v3_0, ← ptsW_whole c main_v3_1, ← ptsW_whole c main_v3_2, ← ptsW_whole c main_v3_3]

/-- `x` as the launch finds it, and the other operands. -/
abbrev X₀ (c : Dev nD) : Buf (Elt F) (xM.view.loc (c : Thread nD τ)) := V m c main_arg0
abbrev ini (c : Dev nD) : Ini (F := F) c :=
  ⟨V m c main_v0, V m c main_v1, V m c main_arg3, V m c main_v2, V m c main_arg5, V m c main_arg6, V m c main_arg7⟩

abbrev osem : Fin 13 → SemLoc sig := fun j =>
  (![.dma 0, .dma 1, .dma 2, .dma 3, .dma 4, .dma 5, .dma 6, .dma (csm 0).sem, .dma (csm 1).sem, .dma 9, .dma 10, .dma 11, .dma 12] : Fin 13 → SemLoc sig) j
theorem ownSemFacts : Pipeline.OwnSemFacts (cfg0.spec) osem := by decide

omit [FloatOps F] in
theorem ownSems0_eq (c : Dev nD) : (Pipeline.ownSems0 (Ix := Unit) (Name := ℕ) (U := UU nD τ) (Lvl := ℕ) (Val := Elt F) (τ := τ) osem c : sProp 𝕄)
    = cellsP (F := F) c := by
  rw [Pipeline.ownSems0_eq_of_list c osem [0, 1, 2, 3, 4, 5, 6, 7, 8, 9, 10, 11, 12] (by decide) (by decide)]; rfl

/-! ## `x`'s six batches, the two slots, the two halves of the staged codes -/

abbrev G6 (b : Fin 6) : Finset S6x512x2304.Idx := (Rect.unit (s := S6x512x2304) (grpOff b) S1x512x2304.size (grpOff_inb b)).set
abbrev T2 (s : Fin 2) : Finset S2x512x2304.Idx := (Rect.unit (s := S2x512x2304) (slotOff s) S1x512x2304.size (slotOff_inb s)).set
theorem stgOff_inb (s : Fin 2) : ∀ a, slotOff s a + S1x480x2304.size a ≤ S2x480x2304.size a := by
  have := s.isLt; intro a; fin_cases a
  · show s.val + 1 ≤ 2; omega
  · show 0 + 480 ≤ 480; omega
  · show 0 + 2304 ≤ 2304; omega
abbrev C2 (s : Fin 2) : Finset S2x480x2304.Idx := (Rect.unit (s := S2x480x2304) (slotOff s) S1x480x2304.size (stgOff_inb s)).set

omit [FloatOps F] in
theorem grp_set (b : Fin 6) : (grp b : Memref sig .tc .hbm _ _).view.set = G6 b := (View.set_reshape _ _).trans (View.set_slice_whole _ _)
omit [FloatOps F] in
theorem rslot_set (s : Fin 2) : (rslot s : Memref sig .tc .vmem _ _).view.set = T2 s := (View.set_reshape _ _).trans (View.set_slice_whole _ _)
omit [FloatOps F] in
theorem stg0_set : (stg0 : Memref sig .tc .vmem _ _).view.set = C2 0 := (View.set_reshape _ _).trans (View.set_slice_whole _ _)
omit [FloatOps F] in
theorem stg1_set : (stg1 : Memref sig .tc .vmem _ _).view.set = C2 1 := (View.set_reshape _ _).trans (View.set_slice_whole _ _)

theorem mem_G6 (b : Fin 6) (y : S6x512x2304.Idx) : y ∈ G6 b ↔ (y 0).val = b.val := by
  rw [Rect.mem_set_unit]
  have h1 : (y 1).val < 512 := (y 1).isLt
  have h2 : (y 2).val < 2304 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 512; omega
    · show 0 ≤ (y 2).val ∧ (y 2).val < 0 + 2304; omega
theorem mem_T2 (s : Fin 2) (y : S2x512x2304.Idx) : y ∈ T2 s ↔ (y 0).val = s.val := by
  rw [Rect.mem_set_unit]
  have h1 : (y 1).val < 512 := (y 1).isLt
  have h2 : (y 2).val < 2304 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 2304; omega
theorem mem_C2 (s : Fin 2) (y : S2x480x2304.Idx) : y ∈ C2 s ↔ (y 0).val = s.val := by
  rw [Rect.mem_set_unit]
  have h1 : (y 1).val < 480 := (y 1).isLt
  have h2 : (y 2).val < 2304 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 480; omega
    · show 0 ≤ (y 2).val ∧ (y 2).val < 0 + 2304; omega
theorem G6_disjoint : ∀ b b' : Fin 6, b ≠ b' → Disjoint (G6 b) (G6 b') := by
  intro b b' hne; rw [Finset.disjoint_left]; intro y hy hy'; rw [mem_G6] at hy hy'; exact hne (Fin.ext (hy.symm.trans hy'))
theorem G6_cover : (Finset.univ : Finset (Fin 6)).biUnion G6 = Finset.univ := by
  ext y; simp only [Finset.mem_biUnion, Finset.mem_univ, true_and, iff_true]; exact ⟨(y 0).cast (by decide), by rw [mem_G6]; rfl⟩
theorem T2_disjoint : ∀ s s' : Fin 2, s ≠ s' → Disjoint (T2 s) (T2 s') := by
  intro s s' hne; rw [Finset.disjoint_left]; intro y hy hy'; rw [mem_T2] at hy hy'; exact hne (Fin.ext (hy.symm.trans hy'))
theorem T2_cover : (Finset.univ : Finset (Fin 2)).biUnion T2 = Finset.univ := by
  ext y; simp only [Finset.mem_biUnion, Finset.mem_univ, true_and, iff_true]; exact ⟨(y 0).cast (by decide), by rw [mem_T2]; rfl⟩
theorem C2_disjoint : ∀ s s' : Fin 2, s ≠ s' → Disjoint (C2 s) (C2 s') := by
  intro s s' hne; rw [Finset.disjoint_left]; intro y hy hy'; rw [mem_C2] at hy hy'; exact hne (Fin.ext (hy.symm.trans hy'))
theorem C2_cover : (Finset.univ : Finset (Fin 2)).biUnion C2 = Finset.univ := by
  ext y; simp only [Finset.mem_biUnion, Finset.mem_univ, true_and, iff_true]; exact ⟨(y 0).cast (by decide), by rw [mem_C2]; rfl⟩

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- `x` whole is its six batches home; -/
theorem x_eq (c : Dev nD) (X : Buf (Elt F) (xM.view.loc (c : Thread nD τ))) :
    (((c : Thread nD τ).loc main_arg0) ↦{fullShare} X : sProp 𝕄) = bigSep Finset.univ (homeP c X) := by
  rw [Ring.pointsTo_blocks (ℓ := (c : Thread nD τ).loc main_arg0) G6 G6_disjoint G6_cover]
  exact bigSep_congr fun b _ => by rw [← grp_set]; rfl
/-- at the body's entry, batches 0 and 1 apart from the rest. -/
theorem homes_zero (c : Dev nD) (X : Buf (Elt F) (xM.view.loc (c : Thread nD τ))) :
    bigSep Finset.univ (homeP c X) = iprop(homeP c X 0 ∗ homeP c X 1 ∗ bigSep (Ring.homeSet 2 0) (homeP c X)) := by
  have e : (Finset.univ : Finset (Fin 6)) = insert 0 (insert 1 (Ring.homeSet (NB := 6) 2 0)) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet])]; rfl

omit [FloatOps F] in
theorem slotP_eq (c : Dev nD) (s : Fin 2) (f) : slotP c s f = (((c : Thread nD τ).loc cc0_scratch2) ↦[T2 s]{fullShare} f : sProp 𝕄) :=
  congrArg (fun S => (_ ↦[S]{fullShare} f : sProp 𝕄)) (rslot_set s)
omit [FloatOps F] in
theorem stg0_eq (c : Dev nD) (f) : ptsW c stg0 f = (((c : Thread nD τ).loc cc0_scratch1) ↦[C2 0]{fullShare} f : sProp 𝕄) :=
  congrArg (fun S => (_ ↦[S]{fullShare} f : sProp 𝕄)) stg0_set
omit [FloatOps F] in
theorem stg1_eq (c : Dev nD) (f) : ptsW c stg1 f = (((c : Thread nD τ).loc cc0_scratch1) ↦[C2 1]{fullShare} f : sProp 𝕄) :=
  congrArg (fun S => (_ ↦[S]{fullShare} f : sProp 𝕄)) stg1_set
/-- The slots' buffer whole is its two slots, and back. -/
theorem buf_split (c : Dev nD) :
    iprop(∃ f : Buf (Elt F) ((c : Thread nD τ).loc cc0_scratch2), ((c : Thread nD τ).loc cc0_scratch2) ↦{fullShare} f)
      ⊢ (iprop((∃ f, slotP c 0 f) ∗ ∃ f, slotP c 1 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch2) T2 T2_disjoint T2_cover f).trans (bigSep_fin2 _))) $$ H
  icases H2 with ⟨H0, H1⟩
  isplitl [H0]
  · iexists f; iapply (Entails.of_eq (slotP_eq c 0 f).symm); iexact H0
  · iexists f; iapply (Entails.of_eq (slotP_eq c 1 f).symm); iexact H1
theorem buf_join (c : Dev nD) :
    iprop((∃ f, slotP c 0 f) ∗ ∃ f, slotP c 1 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) T2 T2_disjoint T2_cover f0)
  irw [bigSep_fin2]
  isplitl [H0]
  · iexists f0; iapply (Entails.of_eq (slotP_eq c 0 f0)); iexact H0
  · iexists f1; iapply (Entails.of_eq (slotP_eq c 1 f1)); iexact H1
/-- The staged codes' buffer whole is its two halves, and back. -/
theorem stg_split (c : Dev nD) :
    iprop(∃ f : Buf (Elt F) ((c : Thread nD τ).loc cc0_scratch1), ((c : Thread nD τ).loc cc0_scratch1) ↦{fullShare} f)
      ⊢ (iprop(anyP c stg0 ∗ anyP c stg1) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch1) C2 C2_disjoint C2_cover f).trans (bigSep_fin2 _))) $$ H
  icases H2 with ⟨H0, H1⟩
  isplitl [H0]
  · iexists f; iapply (Entails.of_eq (stg0_eq c f).symm); iexact H0
  · iexists f; iapply (Entails.of_eq (stg1_eq c f).symm); iexact H1
theorem stg_join (c : Dev nD) :
    iprop(anyP c stg0 ∗ anyP c stg1)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) C2 C2_disjoint C2_cover f0)
  irw [bigSep_fin2]
  isplitl [H0]
  · iexists f0; iapply (Entails.of_eq (stg0_eq c f0)); iexact H0
  · iexists f1; iapply (Entails.of_eq (stg1_eq c f1)); iexact H1

/-- The scratch buffers as the launch lists them are the body's. -/
theorem scr_eq (c : Dev nD) (b : Ref sig .tc) :
    (iprop(∃ f : Buf (Elt F) ((c : Thread nD τ).loc b), ((c : Thread nD τ).loc b) ↦{fullShare} f) : sProp 𝕄) = anyP c (Memref.whole b) :=
  congrArg BIBase.exists (funext fun f => (ptsW_whole c b f).symm)

theorem scr_split (c : Dev nD) :
    (Pipeline.scopedRest (Ix := Unit) (Name := ℕ) (U := UU nD τ) (Lvl := ℕ) (Val := Elt F) (cfg0.spec) c : sProp 𝕄)
      ⊢ iprop(scrP (F := F) c ∗ (∃ f, slotP c 0 f) ∗ ∃ f, slotP c 1 f) := by
  rw [scopedRest0_eq]
  iintro ⟨H0, H1, H2, H3, H4, H5, H6, H7, H8, H9, H10, H11, H12, H13⟩
  ihave H1 := (stg_split c) $$ H1
  icases H1 with ⟨H1a, H1b⟩
  ihave H2 := (buf_split c) $$ H2
  isplitr [H2]
  · isplitl [H0]; · iapply (Entails.of_eq (scr_eq c _)); iexact H0
    isplitl [H1a]; · iexact H1a
    isplitl [H1b]; · iexact H1b
    isplitl [H3]; · iapply (Entails.of_eq (scr_eq c _)); iexact H3
    isplitl [H4]; · iapply (Entails.of_eq (scr_eq c _)); iexact H4
    isplitl [H5]; · iapply (Entails.of_eq (scr_eq c _)); iexact H5
    isplitl [H6]; · iapply (Entails.of_eq (scr_eq c _)); iexact H6
    isplitl [H7]; · iapply (Entails.of_eq (scr_eq c _)); iexact H7
    isplitl [H8]; · iapply (Entails.of_eq (scr_eq c _)); iexact H8
    isplitl [H9]; · iapply (Entails.of_eq (scr_eq c _)); iexact H9
    isplitl [H10]; · iapply (Entails.of_eq (scr_eq c _)); iexact H10
    isplitl [H11]; · iapply (Entails.of_eq (scr_eq c _)); iexact H11
    isplitl [H12]; · iapply (Entails.of_eq (scr_eq c _)); iexact H12
    iapply (Entails.of_eq (scr_eq c _)); iexact H13
  · iexact H2

theorem scr_join (c : Dev nD) :
    iprop(scrP (F := F) c ∗ (∃ f, slotP c 0 f) ∗ ∃ f, slotP c 1 f)
      ⊢ (Pipeline.scopedRest (Ix := Unit) (Name := ℕ) (U := UU nD τ) (Lvl := ℕ) (Val := Elt F) (cfg0.spec) c : sProp 𝕄) := by
  rw [scopedRest0_eq]
  iintro ⟨⟨H0, H1a, H1b, H3, H4, H5, H6, H7, H8, H9, H10, H11, H12, H13⟩, H2⟩
  isplitl [H0]; · iapply (Entails.of_eq (scr_eq c _).symm); iexact H0
  isplitl [H1a H1b]
  · iapply (stg_join c)
    isplitl [H1a]; · iexact H1a
    iexact H1b
  isplitl [H2]; · iapply (buf_join c); iexact H2
  isplitl [H3]; · iapply (Entails.of_eq (scr_eq c _).symm); iexact H3
  isplitl [H4]; · iapply (Entails.of_eq (scr_eq c _).symm); iexact H4
  isplitl [H5]; · iapply (Entails.of_eq (scr_eq c _).symm); iexact H5
  isplitl [H6]; · iapply (Entails.of_eq (scr_eq c _).symm); iexact H6
  isplitl [H7]; · iapply (Entails.of_eq (scr_eq c _).symm); iexact H7
  isplitl [H8]; · iapply (Entails.of_eq (scr_eq c _).symm); iexact H8
  isplitl [H9]; · iapply (Entails.of_eq (scr_eq c _).symm); iexact H9
  isplitl [H10]; · iapply (Entails.of_eq (scr_eq c _).symm); iexact H10
  isplitl [H11]; · iapply (Entails.of_eq (scr_eq c _).symm); iexact H11
  isplitl [H12]; · iapply (Entails.of_eq (scr_eq c _).symm); iexact H12
  iapply (Entails.of_eq (scr_eq c _).symm); iexact H13

/-! ## The pipeline's proof data -/

/-- What the region holds, the results at `o`. -/
def Φ (c : Dev nD) (o : Out (F := F) c) : sProp 𝕄 :=
  iprop(inP c (ini m c) ∗ outP c o ∗ scrP (F := F) c ∗ bigSep Finset.univ (homeP c (X₀ m c)) ∗ (∃ f, slotP (F := F) c 0 f) ∗ (∃ f, slotP (F := F) c 1 f)
    ∗ cellsP (F := F) c)

/-- The results before the call. -/
abbrev out₀ (c : Dev nD) : Out (F := F) c := ⟨V m c main_v3_0, V m c main_v3_1, V m c main_v3_2, V m c main_v3_3⟩

/-- Before the point, and after it: then the results are the body's, from whatever the scratch buffers held. -/
def ΦAt (c : Dev nD) : ℕ → sProp 𝕄
  | 0 => Φ m c (out₀ m c)
  | _ + 1 => iprop(∃ j : Junk (F := F) c, Φ m c (bodyRun c (X₀ m c) (ini m c) j).1)

def dats (_ : Fin 1) (c : Dev nD) : Dat τ (Elt F) Unit ℕ (UU nD τ) ℕ cfg0 c where
  A w := V m c (Pipeline.arrRef (cfg0.spec) w)
  after w t := w.elim0
  Φ t := ΦAt m c t.val
  q _ := fullShare
  owed _ := 0

theorem defs_tc : (defs₀ (F := F)) .tc cfg0.body = fun a => bodyAt0 (F := F) ⟨0, by decide⟩ := rfl
theorem prog_eq (t : Fin cfg0.N) : (defs₀ (F := F)) .tc cfg0.body (cfg0.bodyArgs t (cfg0.slots t)) = bodyAt0 (F := F) t :=
  (congrFun defs_tc _).trans rfl

set_option maxHeartbeats 0 in
set_option backward.isDefEq.respectTransparency.types false in
theorem body_obligation (c : Dev nD) : BodyObligation (dats (F := F) m 0 c) (defs₀ (F := F)) 𝒱₀ () Set.univ := fun t => by
  have ht : t.val = 0 := by have := t.isLt; have h1 : cfg0.N = 1 := N_0; omega
  rw [show (dats m 0 c).Φ t.castSucc = Φ m c (out₀ m c) from by show ΦAt m c t.val = _; rw [ht]; rfl,
    show (dats m 0 c).Φ t.succ = iprop(∃ j : Junk (F := F) c, Φ m c (bodyRun c (X₀ m c) (ini m c) j).1) from by show ΦAt m c (t.val + 1) = _; rfl]
  unfold Dat.owesAt Pipeline.owesWithin
  rw [show (dats m 0 c).owed t.castSucc = 0 from rfl, show (dats m 0 c).owed t.succ = 0 from rfl]
  unfold Φ
  iintro ⟨⟨⟨Hga, Hwk, Hsk, Hwv, Hsv, Hct, Hsn⟩, ⟨Hokc, Hoks, Hovc, Hovs⟩, ⟨⟨%f0, Hwt⟩, ⟨%f1, Hst0⟩, ⟨%f2, Hst1⟩, Hhb, Hkv, ⟨%f5, Hkc⟩, ⟨%f6, Hvc⟩, ⟨%f7, Hks⟩, ⟨%f8, Hvs⟩, ⟨%f9, Hgn⟩, ⟨%f10, Htc⟩, ⟨%f11, Hts⟩, ⟨%f12, Hdk⟩, ⟨%f13, Hdv⟩⟩, Hh6, Hs0, Hs1, Hc⟩, ⟨%W, -, HW⟩, HE⟩
  ihave Hh3 := (Entails.of_eq (homes_zero c (X₀ m c))) $$ Hh6
  icases Hh3 with ⟨Hg0, Hg1, Hh⟩
  sl_rw [prog_eq t]
  iapply ((bodyRun c (X₀ m c) (ini m c) ⟨V m c main_v3_0, V m c main_v3_1, V m c main_v3_2, V m c main_v3_3, f0, f1, f2, ⟨f5, f6, f7, f8⟩, f9, f10, f11, f12, f13⟩).2 W _)
  isplitr [HE]
  · isplitr [Hg0 Hg1 Hh Hs0 Hs1 Hc HW]
    · isplitl [Hga]; · iexact Hga
      isplitl [Hwk]; · iexact Hwk
      isplitl [Hsk]; · iexact Hsk
      isplitl [Hwv]; · iexact Hwv
      isplitl [Hsv]; · iexact Hsv
      isplitl [Hct]; · iexact Hct
      isplitl [Hsn]; · iexact Hsn
      isplitl [Hokc]; · iexact Hokc
      isplitl [Hoks]; · iexact Hoks
      isplitl [Hovc]; · iexact Hovc
      isplitl [Hovs]; · iexact Hovs
      isplitl [Hwt]; · iexact Hwt
      isplitl [Hst0]; · iexact Hst0
      isplitl [Hst1]; · iexact Hst1
      isplitl [Hhb]; · iexact Hhb
      isplitl [Hkv]; · iexact Hkv
      isplitl [Hkc]; · iexact Hkc
      isplitl [Hvc]; · iexact Hvc
      isplitl [Hks]; · iexact Hks
      isplitl [Hvs]; · iexact Hvs
      isplitl [Hgn]; · iexact Hgn
      isplitl [Htc]; · iexact Htc
      isplitl [Hts]; · iexact Hts
      isplitl [Hdk]; · iexact Hdk
      iexact Hdv
    isplitl [Hg0]; · iexact Hg0
    isplitl [Hg1]; · iexact Hg1
    isplitl [Hh]; · iexact Hh
    isplitl [Hs0]; · iexact Hs0
    isplitl [Hs1]; · iexact Hs1
    isplitl [Hc]; · iexact Hc
    iexact HW
  · iintro ⟨Hin, Hout, Hscr, Hh, Hs0, Hs1, Hc, ⟨%W', HW⟩⟩
    isplitr [HW HE]
    · iexists _
      isplitl [Hin]; · iexact Hin
      isplitl [Hout]; · iexact Hout
      isplitl [Hscr]; · iexact Hscr
      isplitl [Hh]; · iexact Hh
      isplitl [Hs0]; · iexact Hs0
      isplitl [Hs1]; · iexact Hs1
      iexact Hc
    isplitl [HW]
    · iexists W'; isplitr; · ipureintro; exact fun _ _ => Or.inl trivial
      iexact HW
    iexact HE

/-! ## The run -/

def intoΦ (c : Dev nD) : sProp 𝕄 :=
  iprop(inP c (ini m c) ∗ outP c (out₀ m c) ∗ bigSep Finset.univ (homeP c (X₀ m c)) ∗ Pipeline.ownSems0 osem c)
def outOfΦ (c : Dev nD) : sProp 𝕄 :=
  iprop(inP c (ini m c) ∗ (((c : Thread nD τ).loc main_arg0) ↦{fullShare} X₀ m c) ∗ ∃ j : Junk (F := F) c, outP c (bodyRun c (X₀ m c) (ini m c) j).1)
def restOf (c : Dev nD) : sProp 𝕄 :=
  iprop((((c : Thread nD τ).loc main_arg1) ↦{fullShare} V m c main_arg1) ∗ (((c : Thread nD τ).loc main_arg2) ↦{fullShare} V m c main_arg2)
    ∗ (((c : Thread nD τ).loc main_arg4) ↦{fullShare} V m c main_arg4))

def u₀ : UU nD τ := (initOf (Pipeline.cells cfgs Cert.Kernel.Gen.cellOf_inj) (Pipeline.launchToks cfgs Cert.Kernel.Gen.cellOf_inj), 1)

/-- The arguments as launched, the results the body's. -/
def QY (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7))
  ∧ ∃ j : Junk (F := F) c,
    s.mem ((c.tc : Thread nD τ).loc main_v3_0) = (bodyRun c (X₀ m c) (ini m c) j).1.kc
    ∧ s.mem ((c.tc : Thread nD τ).loc main_v3_1) = (bodyRun c (X₀ m c) (ini m c) j).1.ks
    ∧ s.mem ((c.tc : Thread nD τ).loc main_v3_2) = (bodyRun c (X₀ m c) (ini m c) j).1.vc
    ∧ s.mem ((c.tc : Thread nD τ).loc main_v3_3) = (bodyRun c (X₀ m c) (ini m c) j).1.vs

theorem hX (c : Dev nD) : iprop(Pipeline.unscopedRest (cfg0.spec) c (V m c) ∗ Pipeline.ownSems0 osem c ∗ levels0 c ∗ prngReg c (ρ c) ∗ (emp : sProp 𝕄))
    ⊢ |={Set.univ}=> iprop(intoΦ m c ∗ restOf m c) := by
  rw [unscopedRest0_eq, x_eq c (X₀ m c)]
  unfold intoΦ restOf
  rw [inP_eq, outP_eq]
  iintro ⟨⟨H0, H1, H2, H3, H4, H5, H6, H7, Hv0, Hv1, Hv2, Ho0, Ho1, Ho2, Ho3⟩, HS, -, -, -⟩; imodintro
  isplitr [H1 H2 H4]
  · isplitl [H3 H5 H6 H7 Hv0 Hv1 Hv2]
    · isplitl [Hv0]; · iexact Hv0
      isplitl [Hv1]; · iexact Hv1
      isplitl [H3]; · iexact H3
      isplitl [Hv2]; · iexact Hv2
      isplitl [H5]; · iexact H5
      isplitl [H6]; · iexact H6
      iexact H7
    isplitl [Ho0 Ho1 Ho2 Ho3]
    · isplitl [Ho0]; · iexact Ho0
      isplitl [Ho1]; · iexact Ho1
      isplitl [Ho2]; · iexact Ho2
      iexact Ho3
    isplitl [H0]; · iexact H0
    iexact HS
  · isplitl [H1]; · iexact H1
    isplitl [H2]; · iexact H2
    iexact H4

theorem hin (c : Dev nD) : iprop(intoΦ m c ∗ Pipeline.scopedRest (cfg0.spec) c) ⊢ (dats (F := F) m 0 c).Φ 0 := by
  rw [show (dats m 0 c).Φ 0 = Φ m c (out₀ m c) from rfl]
  unfold intoΦ Φ; rw [ownSems0_eq]
  iintro ⟨⟨Hi, Ho, Hh, Hc⟩, Hb⟩
  ihave Hs := (scr_split c) $$ Hb
  icases Hs with ⟨Hscr, Hs0, Hs1⟩
  isplitl [Hi]; · iexact Hi
  isplitl [Ho]; · iexact Ho
  isplitl [Hscr]; · iexact Hscr
  isplitl [Hh]; · iexact Hh
  isplitl [Hs0]; · iexact Hs0
  isplitl [Hs1]; · iexact Hs1
  iexact Hc

theorem hout (c : Dev nD) : (dats (F := F) m 0 c).Φ (Fin.last cfg0.N)
    ⊢ iprop(outOfΦ m c ∗ Pipeline.ownSems0 osem c ∗ Pipeline.scopedRest (cfg0.spec) c) := by
  rw [show (dats m 0 c).Φ (Fin.last cfg0.N) = iprop(∃ j : Junk (F := F) c, Φ m c (bodyRun c (X₀ m c) (ini m c) j).1) from by
    show ΦAt m c cfg0.N = _; rw [show cfg0.N = 1 from N_0]; rfl]
  unfold outOfΦ Φ; rw [ownSems0_eq, x_eq c (X₀ m c)]
  iintro ⟨%j, Hi, Ho, Hscr, Hh, Hs0, Hs1, Hc⟩
  isplitl [Hi Ho Hh]
  · isplitl [Hi]; · iexact Hi
    isplitl [Hh]; · iexact Hh
    iexists j; iexact Ho
  isplitl [Hc]; · iexact Hc
  iapply (scr_join c)
  isplitl [Hscr]; · iexact Hscr
  isplitl [Hs0]; · iexact Hs0
  iexact Hs1

theorem hY (c : Dev nD) (s' : Phys nD τ sig (Elt F)) : iprop(outOfΦ m c ∗ restOf m c ∗ SI s') ⊢ |={Set.univ}=> iprop(⌜QY m c s'.mem⌝ ∗ (SI s' : sProp 𝕄)) := by
  unfold outOfΦ restOf
  rw [inP_eq]
  simp only [outP_eq]
  iintro ⟨⟨⟨-, -, H3, -, H5, H6, H7⟩, H0, ⟨%j, O0, O1, O2, O3⟩⟩, ⟨H1, H2, H4⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  icombine HSI O0 gives %g0
  icombine HSI O1 gives %g1
  icombine HSI O2 gives %g2
  icombine HSI O3 gives %g3
  imodintro
  isplitr
  · ipureintro
    exact ⟨⟨(Buf.eq_of_forall_mem_univ h0).trans (V_main_arg0 m c), (Buf.eq_of_forall_mem_univ h1).trans (V_main_arg1 m c),
      (Buf.eq_of_forall_mem_univ h2).trans (V_main_arg2 m c), (Buf.eq_of_forall_mem_univ h3).trans (V_main_arg3 m c),
      (Buf.eq_of_forall_mem_univ h4).trans (V_main_arg4 m c), (Buf.eq_of_forall_mem_univ h5).trans (V_main_arg5 m c),
      (Buf.eq_of_forall_mem_univ h6).trans (V_main_arg6 m c), (Buf.eq_of_forall_mem_univ h7).trans (V_main_arg7 m c)⟩,
      j, Buf.eq_of_forall_mem_univ g0, Buf.eq_of_forall_mem_univ g1, Buf.eq_of_forall_mem_univ g2, Buf.eq_of_forall_mem_univ g3⟩
  iexact HSI

set_option maxHeartbeats 0 in
set_option backward.isDefEq.respectTransparency.types false in
/-- Every run of the program ends with the arguments as launched, the results the body's and every counter at zero. -/
theorem run_main : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := fun c Q => hmainU m c Q)
    (hA := fun _ w => w.elim0)
    (X := intoΦ m) (Y := outOfΦ m) (Z := restOf m)
    (hX := hX m ρ) (hin := hin m) (hout := hout m)
    (QY := QY m) (hY := hY m)
    (hQ := fun _ hh hz => ⟨fun c => (hh c).2, hz⟩)

end Cert.Proof.Kernel

end
-- ==== Proof.RingIdeal.lean ====
/- The ring of two batch slots that KernelIdeal's loop keeps in flight: its names, its closed-form offsets and the resources a
   trip takes and leaves. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Guarded
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's algebra: the pipeline library's, beside the counters the copies ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## Names: batch `b` of `x`, slot `s` of the two-slot buffer, slot `s`'s cell -/

abbrev xM : Memref sig .tc .hbm S6x512x2304 .bf16 := Memref.whole main_arg0
abbrev bufM : Memref sig .tc .vmem S2x512x2304 .bf16 := Memref.whole cc0_scratch2

abbrev grpOff (b : Fin 6) : Fin 3 → Nat := ![b.val, 0, 0]
theorem grpOff_inb (b : Fin 6) : ∀ a, grpOff b a + S1x512x2304.size a ≤ S6x512x2304.size a := by
  have := b.isLt; intro a; fin_cases a
  · show b.val + 1 ≤ 6; omega
  · show 0 + 512 ≤ 512; omega
  · show 0 + 2304 ≤ 2304; omega
abbrev slotOff (s : Fin 2) : Fin 3 → Nat := ![s.val, 0, 0]
theorem slotOff_inb (s : Fin 2) : ∀ a, slotOff s a + S1x512x2304.size a ≤ S2x512x2304.size a := by
  have := s.isLt; intro a; fin_cases a
  · show s.val + 1 ≤ 2; omega
  · show 0 + 512 ≤ 512; omega
  · show 0 + 2304 ≤ 2304; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Batch `b` of `x`, as the body slices and squeezes it. -/
def grp (b : Fin 6) : Memref sig .tc .hbm S512x2304 .bf16 :=
  (xM.slice (Rect.unit (s := S6x512x2304) (grpOff b) S1x512x2304.size (grpOff_inb b)) (fun _ => rfl)).squeeze S512x2304 squeezes_S1x512x2304_S512x2304
/-- Slot `s` of the buffer, as the body slices and squeezes it. -/
def rslot (s : Fin 2) : Memref sig .tc .vmem S512x2304 .bf16 :=
  (bufM.slice (Rect.unit (s := S2x512x2304) (slotOff s) S1x512x2304.size (slotOff_inb s)) (fun _ => rfl)).squeeze S512x2304 squeezes_S1x512x2304_S512x2304
/-- Slot `s`'s DMA semaphore. -/
def csm (s : Fin 2) : DmaSems sig S_ := (cc0_scratch15.slice (Rect.unit (s := S2) (semOff s) S1.size (semOff_inb s))).squeeze S_ squeezes_S1_S_

instance (s : Fin 2) : ClosedOff (slotOff s) := ⟨slotOff s, rfl⟩
instance (b : Fin 6) : ClosedOff (grpOff b) := ⟨grpOff b, rfl⟩

/-! ## The trip's offsets in closed form -/

theorem trips_eq : k0_t1_loop.trips = 6 := by decide
theorem trip_lt (k : Fin k0_t1_loop.trips) : k.val < 6 := Nat.lt_of_lt_of_eq k.isLt trips_eq
/-- A property of the six trips, checked at each. -/
theorem six {P : Fin k0_t1_loop.trips → Prop} (h : ∀ i : Fin 6, P (i.cast trips_eq.symm)) (k : Fin k0_t1_loop.trips) : P k := by
  have := h (k.cast trips_eq); simpa using this

theorem off1_eq (k : Fin k0_t1_loop.trips) : k0_off1 k = semOff (Ring.sl 2 k.val) := six (P := fun k => k0_off1 k = semOff (Ring.sl 2 k.val)) (by decide) k
theorem off2_eq (k : Fin k0_t1_loop.trips) : k0_off2 k = slotOff (Ring.sl 2 k.val) := six (P := fun k => k0_off2 k = slotOff (Ring.sl 2 k.val)) (by decide) k
theorem off3_eq (k : Fin k0_t1_loop.trips) : k0_off3 k = grpOff (Ring.bk 6 k.val) := six (P := fun k => k0_off3 k = grpOff (Ring.bk 6 k.val)) (by decide) k
theorem off36_eq (k : Fin k0_t1_loop.trips) : k0_off36 k = semOff (Ring.sl 2 k.val) := six (P := fun k => k0_off36 k = semOff (Ring.sl 2 k.val)) (by decide) k
theorem off37_eq (k : Fin k0_t1_loop.trips) : k0_off37 k = slotOff (Ring.sl 2 k.val) := six (P := fun k => k0_off37 k = slotOff (Ring.sl 2 k.val)) (by decide) k
theorem off38_eq (k : Fin k0_t1_loop.trips) (hc : k0_cond1 k = 1#1) : k0_off38 k = grpOff (Ring.bk 6 (k.val + 2)) :=
  six (P := fun k => k0_cond1 k = 1#1 → k0_off38 k = grpOff (Ring.bk 6 (k.val + 2))) (by decide) k hc
theorem cond1_iff (k : Fin k0_t1_loop.trips) : k0_cond1 k = 1#1 ↔ k.val + 2 < 6 :=
  six (P := fun k => k0_cond1 k = 1#1 ↔ k.val + 2 < 6) (by decide) k

instance (k : Fin k0_t1_loop.trips) : ClosedOff (k0_off2 k) := ⟨slotOff (Ring.sl 2 k.val), off2_eq k⟩
instance (k : Fin k0_t1_loop.trips) : ClosedOff (k0_off37 k) := ⟨slotOff (Ring.sl 2 k.val), off37_eq k⟩
theorem off4_eq (k : Fin k0_t1_loop.trips) : k0_off4 k = ![(Ring.sl 2 k.val).val, 0, 0] := six (P := fun k => k0_off4 k = ![(Ring.sl 2 k.val).val, 0, 0]) (by decide) k
instance (k : Fin k0_t1_loop.trips) : ClosedOff (k0_off4 k) := ⟨![(Ring.sl 2 k.val).val, 0, 0], off4_eq k⟩
theorem off5_eq (k : Fin k0_t1_loop.trips) : k0_off5 k = ![(Ring.sl 2 k.val).val, 16, 0] := six (P := fun k => k0_off5 k = ![(Ring.sl 2 k.val).val, 16, 0]) (by decide) k
instance (k : Fin k0_t1_loop.trips) : ClosedOff (k0_off5 k) := ⟨![(Ring.sl 2 k.val).val, 16, 0], off5_eq k⟩
theorem off6_eq (k : Fin k0_t1_loop.trips) : k0_off6 k = ![(Ring.sl 2 k.val).val, 32, 0] := six (P := fun k => k0_off6 k = ![(Ring.sl 2 k.val).val, 32, 0]) (by decide) k
instance (k : Fin k0_t1_loop.trips) : ClosedOff (k0_off6 k) := ⟨![(Ring.sl 2 k.val).val, 32, 0], off6_eq k⟩
theorem off7_eq (k : Fin k0_t1_loop.trips) : k0_off7 k = ![(Ring.sl 2 k.val).val, 48, 0] := six (P := fun k => k0_off7 k = ![(Ring.sl 2 k.val).val, 48, 0]) (by decide) k
instance (k : Fin k0_t1_loop.trips) : ClosedOff (k0_off7 k) := ⟨![(Ring.sl 2 k.val).val, 48, 0], off7_eq k⟩
theorem off8_eq (k : Fin k0_t1_loop.trips) : k0_off8 k = ![(Ring.sl 2 k.val).val, 64, 0] := six (P := fun k => k0_off8 k = ![(Ring.sl 2 k.val).val, 64, 0]) (by decide) k
instance (k : Fin k0_t1_loop.trips) : ClosedOff (k0_off8 k) := ⟨![(Ring.sl 2 k.val).val, 64, 0], off8_eq k⟩
theorem off9_eq (k : Fin k0_t1_loop.trips) : k0_off9 k = ![(Ring.sl 2 k.val).val, 80, 0] := six (P := fun k => k0_off9 k = ![(Ring.sl 2 k.val).val, 80, 0]) (by decide) k
instance (k : Fin k0_t1_loop.trips) : ClosedOff (k0_off9 k) := ⟨![(Ring.sl 2 k.val).val, 80, 0], off9_eq k⟩
theorem off10_eq (k : Fin k0_t1_loop.trips) : k0_off10 k = ![(Ring.sl 2 k.val).val, 96, 0] := six (P := fun k => k0_off10 k = ![(Ring.sl 2 k.val).val, 96, 0]) (by decide) k
instance (k : Fin k0_t1_loop.trips) : ClosedOff (k0_off10 k) := ⟨![(Ring.sl 2 k.val).val, 96, 0], off10_eq k⟩
theorem off11_eq (k : Fin k0_t1_loop.trips) : k0_off11 k = ![(Ring.sl 2 k.val).val, 112, 0] := six (P := fun k => k0_off11 k = ![(Ring.sl 2 k.val).val, 112, 0]) (by decide) k
instance (k : Fin k0_t1_loop.trips) : ClosedOff (k0_off11 k) := ⟨![(Ring.sl 2 k.val).val, 112, 0], off11_eq k⟩
theorem off12_eq (k : Fin k0_t1_loop.trips) : k0_off12 k = ![(Ring.sl 2 k.val).val, 128, 0] := six (P := fun k => k0_off12 k = ![(Ring.sl 2 k.val).val, 128, 0]) (by decide) k
instance (k : Fin k0_t1_loop.trips) : ClosedOff (k0_off12 k) := ⟨![(Ring.sl 2 k.val).val, 128, 0], off12_eq k⟩
theorem off13_eq (k : Fin k0_t1_loop.trips) : k0_off13 k = ![(Ring.sl 2 k.val).val, 144, 0] := six (P := fun k => k0_off13 k = ![(Ring.sl 2 k.val).val, 144, 0]) (by decide) k
instance (k : Fin k0_t1_loop.trips) : ClosedOff (k0_off13 k) := ⟨![(Ring.sl 2 k.val).val, 144, 0], off13_eq k⟩
theorem off14_eq (k : Fin k0_t1_loop.trips) : k0_off14 k = ![(Ring.sl 2 k.val).val, 160, 0] := six (P := fun k => k0_off14 k = ![(Ring.sl 2 k.val).val, 160, 0]) (by decide) k
instance (k : Fin k0_t1_loop.trips) : ClosedOff (k0_off14 k) := ⟨![(Ring.sl 2 k.val).val, 160, 0], off14_eq k⟩
theorem off15_eq (k : Fin k0_t1_loop.trips) : k0_off15 k = ![(Ring.sl 2 k.val).val, 176, 0] := six (P := fun k => k0_off15 k = ![(Ring.sl 2 k.val).val, 176, 0]) (by decide) k
instance (k : Fin k0_t1_loop.trips) : ClosedOff (k0_off15 k) := ⟨![(Ring.sl 2 k.val).val, 176, 0], off15_eq k⟩
theorem off16_eq (k : Fin k0_t1_loop.trips) : k0_off16 k = ![(Ring.sl 2 k.val).val, 192, 0] := six (P := fun k => k0_off16 k = ![(Ring.sl 2 k.val).val, 192, 0]) (by decide) k
instance (k : Fin k0_t1_loop.trips) : ClosedOff (k0_off16 k) := ⟨![(Ring.sl 2 k.val).val, 192, 0], off16_eq k⟩
theorem off17_eq (k : Fin k0_t1_loop.trips) : k0_off17 k = ![(Ring.sl 2 k.val).val, 208, 0] := six (P := fun k => k0_off17 k = ![(Ring.sl 2 k.val).val, 208, 0]) (by decide) k
instance (k : Fin k0_t1_loop.trips) : ClosedOff (k0_off17 k) := ⟨![(Ring.sl 2 k.val).val, 208, 0], off17_eq k⟩
theorem off18_eq (k : Fin k0_t1_loop.trips) : k0_off18 k = ![(Ring.sl 2 k.val).val, 224, 0] := six (P := fun k => k0_off18 k = ![(Ring.sl 2 k.val).val, 224, 0]) (by decide) k
instance (k : Fin k0_t1_loop.trips) : ClosedOff (k0_off18 k) := ⟨![(Ring.sl 2 k.val).val, 224, 0], off18_eq k⟩
theorem off19_eq (k : Fin k0_t1_loop.trips) : k0_off19 k = ![(Ring.sl 2 k.val).val, 240, 0] := six (P := fun k => k0_off19 k = ![(Ring.sl 2 k.val).val, 240, 0]) (by decide) k
instance (k : Fin k0_t1_loop.trips) : ClosedOff (k0_off19 k) := ⟨![(Ring.sl 2 k.val).val, 240, 0], off19_eq k⟩
theorem off20_eq (k : Fin k0_t1_loop.trips) : k0_off20 k = ![(Ring.sl 2 k.val).val, 256, 0] := six (P := fun k => k0_off20 k = ![(Ring.sl 2 k.val).val, 256, 0]) (by decide) k
instance (k : Fin k0_t1_loop.trips) : ClosedOff (k0_off20 k) := ⟨![(Ring.sl 2 k.val).val, 256, 0], off20_eq k⟩
theorem off21_eq (k : Fin k0_t1_loop.trips) : k0_off21 k = ![(Ring.sl 2 k.val).val, 272, 0] := six (P := fun k => k0_off21 k = ![(Ring.sl 2 k.val).val, 272, 0]) (by decide) k
instance (k : Fin k0_t1_loop.trips) : ClosedOff (k0_off21 k) := ⟨![(Ring.sl 2 k.val).val, 272, 0], off21_eq k⟩
theorem off22_eq (k : Fin k0_t1_loop.trips) : k0_off22 k = ![(Ring.sl 2 k.val).val, 288, 0] := six (P := fun k => k0_off22 k = ![(Ring.sl 2 k.val).val, 288, 0]) (by decide) k
instance (k : Fin k0_t1_loop.trips) : ClosedOff (k0_off22 k) := ⟨![(Ring.sl 2 k.val).val, 288, 0], off22_eq k⟩
theorem off23_eq (k : Fin k0_t1_loop.trips) : k0_off23 k = ![(Ring.sl 2 k.val).val, 304, 0] := six (P := fun k => k0_off23 k = ![(Ring.sl 2 k.val).val, 304, 0]) (by decide) k
instance (k : Fin k0_t1_loop.trips) : ClosedOff (k0_off23 k) := ⟨![(Ring.sl 2 k.val).val, 304, 0], off23_eq k⟩
theorem off24_eq (k : Fin k0_t1_loop.trips) : k0_off24 k = ![(Ring.sl 2 k.val).val, 320, 0] := six (P := fun k => k0_off24 k = ![(Ring.sl 2 k.val).val, 320, 0]) (by decide) k
instance (k : Fin k0_t1_loop.trips) : ClosedOff (k0_off24 k) := ⟨![(Ring.sl 2 k.val).val, 320, 0], off24_eq k⟩
theorem off25_eq (k : Fin k0_t1_loop.trips) : k0_off25 k = ![(Ring.sl 2 k.val).val, 336, 0] := six (P := fun k => k0_off25 k = ![(Ring.sl 2 k.val).val, 336, 0]) (by decide) k
instance (k : Fin k0_t1_loop.trips) : ClosedOff (k0_off25 k) := ⟨![(Ring.sl 2 k.val).val, 336, 0], off25_eq k⟩
theorem off26_eq (k : Fin k0_t1_loop.trips) : k0_off26 k = ![(Ring.sl 2 k.val).val, 352, 0] := six (P := fun k => k0_off26 k = ![(Ring.sl 2 k.val).val, 352, 0]) (by decide) k
instance (k : Fin k0_t1_loop.trips) : ClosedOff (k0_off26 k) := ⟨![(Ring.sl 2 k.val).val, 352, 0], off26_eq k⟩
theorem off27_eq (k : Fin k0_t1_loop.trips) : k0_off27 k = ![(Ring.sl 2 k.val).val, 368, 0] := six (P := fun k => k0_off27 k = ![(Ring.sl 2 k.val).val, 368, 0]) (by decide) k
instance (k : Fin k0_t1_loop.trips) : ClosedOff (k0_off27 k) := ⟨![(Ring.sl 2 k.val).val, 368, 0], off27_eq k⟩
theorem off28_eq (k : Fin k0_t1_loop.trips) : k0_off28 k = ![(Ring.sl 2 k.val).val, 384, 0] := six (P := fun k => k0_off28 k = ![(Ring.sl 2 k.val).val, 384, 0]) (by decide) k
instance (k : Fin k0_t1_loop.trips) : ClosedOff (k0_off28 k) := ⟨![(Ring.sl 2 k.val).val, 384, 0], off28_eq k⟩
theorem off29_eq (k : Fin k0_t1_loop.trips) : k0_off29 k = ![(Ring.sl 2 k.val).val, 400, 0] := six (P := fun k => k0_off29 k = ![(Ring.sl 2 k.val).val, 400, 0]) (by decide) k
instance (k : Fin k0_t1_loop.trips) : ClosedOff (k0_off29 k) := ⟨![(Ring.sl 2 k.val).val, 400, 0], off29_eq k⟩
theorem off30_eq (k : Fin k0_t1_loop.trips) : k0_off30 k = ![(Ring.sl 2 k.val).val, 416, 0] := six (P := fun k => k0_off30 k = ![(Ring.sl 2 k.val).val, 416, 0]) (by decide) k
instance (k : Fin k0_t1_loop.trips) : ClosedOff (k0_off30 k) := ⟨![(Ring.sl 2 k.val).val, 416, 0], off30_eq k⟩
theorem off31_eq (k : Fin k0_t1_loop.trips) : k0_off31 k = ![(Ring.sl 2 k.val).val, 432, 0] := six (P := fun k => k0_off31 k = ![(Ring.sl 2 k.val).val, 432, 0]) (by decide) k
instance (k : Fin k0_t1_loop.trips) : ClosedOff (k0_off31 k) := ⟨![(Ring.sl 2 k.val).val, 432, 0], off31_eq k⟩
theorem off32_eq (k : Fin k0_t1_loop.trips) : k0_off32 k = ![(Ring.sl 2 k.val).val, 448, 0] := six (P := fun k => k0_off32 k = ![(Ring.sl 2 k.val).val, 448, 0]) (by decide) k
instance (k : Fin k0_t1_loop.trips) : ClosedOff (k0_off32 k) := ⟨![(Ring.sl 2 k.val).val, 448, 0], off32_eq k⟩
theorem off33_eq (k : Fin k0_t1_loop.trips) : k0_off33 k = ![(Ring.sl 2 k.val).val, 464, 0] := six (P := fun k => k0_off33 k = ![(Ring.sl 2 k.val).val, 464, 0]) (by decide) k
instance (k : Fin k0_t1_loop.trips) : ClosedOff (k0_off33 k) := ⟨![(Ring.sl 2 k.val).val, 464, 0], off33_eq k⟩
theorem off34_eq (k : Fin k0_t1_loop.trips) : k0_off34 k = ![(Ring.sl 2 k.val).val, 480, 0] := six (P := fun k => k0_off34 k = ![(Ring.sl 2 k.val).val, 480, 0]) (by decide) k
instance (k : Fin k0_t1_loop.trips) : ClosedOff (k0_off34 k) := ⟨![(Ring.sl 2 k.val).val, 480, 0], off34_eq k⟩
theorem off35_eq (k : Fin k0_t1_loop.trips) : k0_off35 k = ![(Ring.sl 2 k.val).val, 496, 0] := six (P := fun k => k0_off35 k = ![(Ring.sl 2 k.val).val, 496, 0]) (by decide) k
instance (k : Fin k0_t1_loop.trips) : ClosedOff (k0_off35 k) := ⟨![(Ring.sl 2 k.val).val, 496, 0], off35_eq k⟩
theorem off39_eq (k : Fin k0_t1_loop.trips) : k0_off39 k = ![k.val, 0, 0] := six (P := fun k => k0_off39 k = ![k.val, 0, 0]) (by decide) k
instance (k : Fin k0_t1_loop.trips) : ClosedOff (k0_off39 k) := ⟨![k.val, 0, 0], off39_eq k⟩
theorem off40_eq (k : Fin k0_t1_loop.trips) : k0_off40 k = ![k.val, 0, 0] := six (P := fun k => k0_off40 k = ![k.val, 0, 0]) (by decide) k
instance (k : Fin k0_t1_loop.trips) : ClosedOff (k0_off40 k) := ⟨![k.val, 0, 0], off40_eq k⟩
theorem off41_eq (k : Fin k0_t1_loop.trips) : k0_off41 k = ![k.val, 160, 0] := six (P := fun k => k0_off41 k = ![k.val, 160, 0]) (by decide) k
instance (k : Fin k0_t1_loop.trips) : ClosedOff (k0_off41 k) := ⟨![k.val, 160, 0], off41_eq k⟩
theorem off42_eq (k : Fin k0_t1_loop.trips) : k0_off42 k = ![k.val, 1, 0] := six (P := fun k => k0_off42 k = ![k.val, 1, 0]) (by decide) k
instance (k : Fin k0_t1_loop.trips) : ClosedOff (k0_off42 k) := ⟨![k.val, 1, 0], off42_eq k⟩
theorem off43_eq (k : Fin k0_t1_loop.trips) : k0_off43 k = ![k.val, 320, 0] := six (P := fun k => k0_off43 k = ![k.val, 320, 0]) (by decide) k
instance (k : Fin k0_t1_loop.trips) : ClosedOff (k0_off43 k) := ⟨![k.val, 320, 0], off43_eq k⟩
theorem off44_eq (k : Fin k0_t1_loop.trips) : k0_off44 k = ![k.val, 2, 0] := six (P := fun k => k0_off44 k = ![k.val, 2, 0]) (by decide) k
instance (k : Fin k0_t1_loop.trips) : ClosedOff (k0_off44 k) := ⟨![k.val, 2, 0], off44_eq k⟩
theorem off45_eq (k : Fin k0_t1_loop.trips) : k0_off45 k = ![k.val, 0, 128] := six (P := fun k => k0_off45 k = ![k.val, 0, 128]) (by decide) k
instance (k : Fin k0_t1_loop.trips) : ClosedOff (k0_off45 k) := ⟨![k.val, 0, 128], off45_eq k⟩
theorem off46_eq (k : Fin k0_t1_loop.trips) : k0_off46 k = ![k.val, 0, 128] := six (P := fun k => k0_off46 k = ![k.val, 0, 128]) (by decide) k
instance (k : Fin k0_t1_loop.trips) : ClosedOff (k0_off46 k) := ⟨![k.val, 0, 128], off46_eq k⟩
theorem off47_eq (k : Fin k0_t1_loop.trips) : k0_off47 k = ![k.val, 160, 128] := six (P := fun k => k0_off47 k = ![k.val, 160, 128]) (by decide) k
instance (k : Fin k0_t1_loop.trips) : ClosedOff (k0_off47 k) := ⟨![k.val, 160, 128], off47_eq k⟩
theorem off48_eq (k : Fin k0_t1_loop.trips) : k0_off48 k = ![k.val, 1, 128] := six (P := fun k => k0_off48 k = ![k.val, 1, 128]) (by decide) k
instance (k : Fin k0_t1_loop.trips) : ClosedOff (k0_off48 k) := ⟨![k.val, 1, 128], off48_eq k⟩
theorem off49_eq (k : Fin k0_t1_loop.trips) : k0_off49 k = ![k.val, 320, 128] := six (P := fun k => k0_off49 k = ![k.val, 320, 128]) (by decide) k
instance (k : Fin k0_t1_loop.trips) : ClosedOff (k0_off49 k) := ⟨![k.val, 320, 128], off49_eq k⟩
theorem off50_eq (k : Fin k0_t1_loop.trips) : k0_off50 k = ![k.val, 2, 128] := six (P := fun k => k0_off50 k = ![k.val, 2, 128]) (by decide) k
instance (k : Fin k0_t1_loop.trips) : ClosedOff (k0_off50 k) := ⟨![k.val, 2, 128], off50_eq k⟩
theorem off51_eq (k : Fin k0_t1_loop.trips) : k0_off51 k = ![k.val, 0, 256] := six (P := fun k => k0_off51 k = ![k.val, 0, 256]) (by decide) k
instance (k : Fin k0_t1_loop.trips) : ClosedOff (k0_off51 k) := ⟨![k.val, 0, 256], off51_eq k⟩
theorem off52_eq (k : Fin k0_t1_loop.trips) : k0_off52 k = ![k.val, 0, 256] := six (P := fun k => k0_off52 k = ![k.val, 0, 256]) (by decide) k
instance (k : Fin k0_t1_loop.trips) : ClosedOff (k0_off52 k) := ⟨![k.val, 0, 256], off52_eq k⟩
theorem off53_eq (k : Fin k0_t1_loop.trips) : k0_off53 k = ![k.val, 160, 256] := six (P := fun k => k0_off53 k = ![k.val, 160, 256]) (by decide) k
instance (k : Fin k0_t1_loop.trips) : ClosedOff (k0_off53 k) := ⟨![k.val, 160, 256], off53_eq k⟩
theorem off54_eq (k : Fin k0_t1_loop.trips) : k0_off54 k = ![k.val, 1, 256] := six (P := fun k => k0_off54 k = ![k.val, 1, 256]) (by decide) k
instance (k : Fin k0_t1_loop.trips) : ClosedOff (k0_off54 k) := ⟨![k.val, 1, 256], off54_eq k⟩
theorem off55_eq (k : Fin k0_t1_loop.trips) : k0_off55 k = ![k.val, 320, 256] := six (P := fun k => k0_off55 k = ![k.val, 320, 256]) (by decide) k
instance (k : Fin k0_t1_loop.trips) : ClosedOff (k0_off55 k) := ⟨![k.val, 320, 256], off55_eq k⟩
theorem off56_eq (k : Fin k0_t1_loop.trips) : k0_off56 k = ![k.val, 2, 256] := six (P := fun k => k0_off56 k = ![k.val, 2, 256]) (by decide) k
instance (k : Fin k0_t1_loop.trips) : ClosedOff (k0_off56 k) := ⟨![k.val, 2, 256], off56_eq k⟩
theorem off57_eq (k : Fin k0_t1_loop.trips) : k0_off57 k = ![k.val, 0, 384] := six (P := fun k => k0_off57 k = ![k.val, 0, 384]) (by decide) k
instance (k : Fin k0_t1_loop.trips) : ClosedOff (k0_off57 k) := ⟨![k.val, 0, 384], off57_eq k⟩
theorem off58_eq (k : Fin k0_t1_loop.trips) : k0_off58 k = ![k.val, 0, 384] := six (P := fun k => k0_off58 k = ![k.val, 0, 384]) (by decide) k
instance (k : Fin k0_t1_loop.trips) : ClosedOff (k0_off58 k) := ⟨![k.val, 0, 384], off58_eq k⟩
theorem off59_eq (k : Fin k0_t1_loop.trips) : k0_off59 k = ![k.val, 160, 384] := six (P := fun k => k0_off59 k = ![k.val, 160, 384]) (by decide) k
instance (k : Fin k0_t1_loop.trips) : ClosedOff (k0_off59 k) := ⟨![k.val, 160, 384], off59_eq k⟩
theorem off60_eq (k : Fin k0_t1_loop.trips) : k0_off60 k = ![k.val, 1, 384] := six (P := fun k => k0_off60 k = ![k.val, 1, 384]) (by decide) k
instance (k : Fin k0_t1_loop.trips) : ClosedOff (k0_off60 k) := ⟨![k.val, 1, 384], off60_eq k⟩
theorem off61_eq (k : Fin k0_t1_loop.trips) : k0_off61 k = ![k.val, 320, 384] := six (P := fun k => k0_off61 k = ![k.val, 320, 384]) (by decide) k
instance (k : Fin k0_t1_loop.trips) : ClosedOff (k0_off61 k) := ⟨![k.val, 320, 384], off61_eq k⟩
theorem off62_eq (k : Fin k0_t1_loop.trips) : k0_off62 k = ![k.val, 2, 384] := six (P := fun k => k0_off62 k = ![k.val, 2, 384]) (by decide) k
instance (k : Fin k0_t1_loop.trips) : ClosedOff (k0_off62 k) := ⟨![k.val, 2, 384], off62_eq k⟩

/-! ### The body's slices are `csm`, `rslot`, `grp` -/

section Canon

private theorem csm_congr {off : Fin 1 → Nat} {s : Fin 2} (e : off = semOff s) (hh) :
    (cc0_scratch15.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (bufM.slice (Rect.unit (s := S2x512x2304) off S1x512x2304.size hh) hs).squeeze S512x2304 squeezes_S1x512x2304_S512x2304 = rslot s :=
  congrArg (fun M : Memref sig .tc .vmem S1x512x2304 .bf16 => M.squeeze S512x2304 squeezes_S1x512x2304_S512x2304) (Memref.slice_unit_congr _ e _ _ _ _)
private theorem grp_congr {off : Fin 3 → Nat} {b : Fin 6} (e : off = grpOff b) (hh hs) :
    (xM.slice (Rect.unit (s := S6x512x2304) off S1x512x2304.size hh) hs).squeeze S512x2304 squeezes_S1x512x2304_S512x2304 = grp b :=
  congrArg (fun M : Memref sig .tc .hbm S1x512x2304 .bf16 => M.squeeze S512x2304 squeezes_S1x512x2304_S512x2304) (Memref.slice_unit_congr _ e _ _ _ _)

/-- The first two copies' literal slices: slots, cells and batches 0 and 1. -/
@[sl_canon] theorem semL0 (hh) : (cc0_scratch15.slice (Rect.unit (s := S2) ![0] S1.size hh)).squeeze S_ squeezes_S1_S_ = csm 0 := csm_congr (by decide) _
@[sl_canon] theorem semL1 (hh) : (cc0_scratch15.slice (Rect.unit (s := S2) ![1] S1.size hh)).squeeze S_ squeezes_S1_S_ = csm 1 := csm_congr (by decide) _
@[sl_canon] theorem slotL0 (hh hs) : (bufM.slice (Rect.unit (s := S2x512x2304) ![0, 0, 0] S1x512x2304.size hh) hs).squeeze S512x2304 squeezes_S1x512x2304_S512x2304 = rslot 0 := rslot_congr (by decide) _ _
@[sl_canon] theorem slotL1 (hh hs) : (bufM.slice (Rect.unit (s := S2x512x2304) ![1, 0, 0] S1x512x2304.size hh) hs).squeeze S512x2304 squeezes_S1x512x2304_S512x2304 = rslot 1 := rslot_congr (by decide) _ _
@[sl_canon] theorem grpL0 (hh hs) : (xM.slice (Rect.unit (s := S6x512x2304) ![0, 0, 0] S1x512x2304.size hh) hs).squeeze S512x2304 squeezes_S1x512x2304_S512x2304 = grp 0 := grp_congr (by decide) _ _
@[sl_canon] theorem grpL1 (hh hs) : (xM.slice (Rect.unit (s := S6x512x2304) ![1, 0, 0] S1x512x2304.size hh) hs).squeeze S512x2304 squeezes_S1x512x2304_S512x2304 = grp 1 := grp_congr (by decide) _ _

/-- Trip `k`: cell and slot `k % 2`, batch `k` waited for, batch `k + 2` issued. -/
@[sl_canon] theorem semK (k : Fin k0_t1_loop.trips) (hh) :
    (cc0_scratch15.slice (Rect.unit (s := S2) (k0_off1 k) S1.size hh)).squeeze S_ squeezes_S1_S_ = csm (Ring.sl 2 k.val) := csm_congr (off1_eq k) _
@[sl_canon] theorem slotK (k : Fin k0_t1_loop.trips) (hh hs) :
    (bufM.slice (Rect.unit (s := S2x512x2304) (k0_off2 k) S1x512x2304.size hh) hs).squeeze S512x2304 squeezes_S1x512x2304_S512x2304 = rslot (Ring.sl 2 k.val) := rslot_congr (off2_eq k) _ _
@[sl_canon] theorem grpW (k : Fin k0_t1_loop.trips) (hh hs) :
    (xM.slice (Rect.unit (s := S6x512x2304) (k0_off3 k) S1x512x2304.size hh) hs).squeeze S512x2304 squeezes_S1x512x2304_S512x2304 = grp (Ring.bk 6 k.val) := grp_congr (off3_eq k) _ _
@[sl_canon] theorem semI (k : Fin k0_t1_loop.trips) (hh) :
    (cc0_scratch15.slice (Rect.unit (s := S2) (k0_off36 k) S1.size hh)).squeeze S_ squeezes_S1_S_ = csm (Ring.sl 2 k.val) := csm_congr (off36_eq k) _
@[sl_canon] theorem slotI (k : Fin k0_t1_loop.trips) (hh hs) :
    (bufM.slice (Rect.unit (s := S2x512x2304) (k0_off37 k) S1x512x2304.size hh) hs).squeeze S512x2304 squeezes_S1x512x2304_S512x2304 = rslot (Ring.sl 2 k.val) := rslot_congr (off37_eq k) _ _
@[sl_canon] theorem grpI (k : Fin k0_t1_loop.trips) (hc : k0_cond1 k = 1#1) (hh hs) :
    (xM.slice (Rect.unit (s := S6x512x2304) (k0_off38 k) S1x512x2304.size hh) hs).squeeze S512x2304 squeezes_S1x512x2304_S512x2304 = grp (Ring.bk 6 (k.val + 2)) := grp_congr (off38_eq k hc) _ _

end Canon

/-! ## The pieces: a batch home, a slot held, a slot's cell, a slot in flight -/

section Pieces
variable (c : Dev nD) (X : Buf (Elt F) (xM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Batch `b` at home: held on its elements at `x`'s contents. -/
abbrev homeP (b : Fin 6) : sProp 𝕄 := (grp b).view.loc (c : Thread nD τ) ↦[(grp b).view.set]{fullShare} X
/-- Batch `b`'s words as a slot's payload. -/
abbrev payload (b : Fin 6) : S512x2304.Idx → Elt F .bf16 := ReadAs.same.apply ((grp b).view.read (Elt F) X)
/-- What batch `b`'s copy leaves in slot `s` over prior contents `f`. -/
abbrev landed (s : Fin 2) (b : Fin 6) (f : Buf (Elt F) ((rslot s).view.loc (c : Thread nD τ))) : Buf (Elt F) ((rslot s).view.loc (c : Thread nD τ)) :=
  (rslot s).view.writes (Elt F) f [⟨Rect.whole S512x2304, payload c X b⟩]
/-- Slot `s` in flight with batch `b`, issued over `f`. -/
abbrev flightP (s : Fin 2) (b : Fin 6) (f : Buf (Elt F) ((rslot s).view.loc (c : Thread nD τ))) : sProp 𝕄 :=
  Transfers.Flight countersEmb (c : Thread nD τ) (SemLoc.dma (csm s).sem) () 73728 iprop(slotP c s (landed c X s b f) ∗ homeP c X b)

/-- The slot of batch `j` before its trip: in flight when there is such a batch, at rest when there is none. -/
def slotSt (j : ℕ) : sProp 𝕄 :=
  Guarded (j < 6) (fun _ => iprop(∃ f, flightP c X (Ring.sl 2 j) (Ring.bk 6 j) f))
    (fun _ => iprop((∃ f, slotP c (Ring.sl 2 j) f) ∗ cellP c (Ring.sl 2 j)))

/-- The batches at home before trip `k` that trip `k` does not send out. -/
def restP (k : ℕ) : sProp 𝕄 :=
  if k + 2 < 6 then bigSep ((Ring.homeSet (NB := 6) 2 k).erase (Ring.bk 6 (k + 2))) (homeP c X) else bigSep (Ring.homeSet (NB := 6) 2 k) (homeP c X)

/-- The batches at home before trip `k`: the one it sends out, if any, beside the rest; -/
theorem homes_here (k : Fin k0_t1_loop.trips) :
    bigSep (Ring.homeSet (NB := 6) 2 k.val) (homeP c X)
      = iprop(Guarded (k0_cond1 k = 1#1) (fun _ => homeP c X (Ring.bk 6 (k.val + 2))) (fun _ => (iprop(emp) : sProp 𝕄)) ∗ restP c X k.val) := by
  by_cases h : k.val + 2 < 6
  · rw [Guarded.pos ((cond1_iff k).2 h), restP, if_pos h]
    conv_lhs => rw [Ring.homeSet_out 2 k.val h, bigSep_insert (Ring.bkL_not_mem_erase 2 k.val)]
    rfl
  · rw [Guarded.neg (mt (cond1_iff k).1 h), restP, if_neg h, emp_sep_eq'']
/-- after it, the one just read beside them. -/
theorem homes_next (k : Fin k0_t1_loop.trips) :
    bigSep (Ring.homeSet (NB := 6) 2 (k.val + 1)) (homeP c X) = iprop(homeP c X (Ring.bk 6 k.val) ∗ restP c X k.val) := by
  have hk := trip_lt k
  by_cases h : k.val + 2 < 6
  · rw [restP, if_pos h, Ring.homeSet_succ 2 k.val h, bigSep_insert (Ring.bk_not_mem_erase 2 k.val (by omega) (by decide))]; rfl
  · rw [restP, if_neg h, Ring.homeSet_succ_tail 2 k.val (by omega) hk, bigSep_insert (Ring.bk_not_mem_homeSet 2 k.val hk (by decide))]; rfl

/-- The flight a trip issues, as the run states it: into the slot as the last batch's copy left it, the new payload
    listed before the old one. -/
theorem flightP_after (s : Fin 2) (b b' : Fin 6) :
    flightP c X s b' ((rslot s).view.writes (Elt F) (rslot s).view.junk [⟨Rect.whole S512x2304, payload c X b⟩])
      = Transfers.Flight countersEmb (c : Thread nD τ) (SemLoc.dma (csm s).sem) () 73728
          iprop(((rslot s).view.loc (c : Thread nD τ) ↦[(rslot s).view.set]{fullShare}
                  (rslot s).view.writes (Elt F) (rslot s).view.junk [⟨Rect.whole S512x2304, payload c X b'⟩, ⟨Rect.whole S512x2304, payload c X b⟩])
                ∗ homeP c X b') := by
  simp only [flightP, landed, slotP, View.writes]

theorem sl2_add2 (k : ℕ) : Ring.sl 2 (k + 1 + 1) = Ring.sl 2 k := by rw [show k + 1 + 1 = k + 2 from rfl, Ring.sl_add]

end Pieces

end Cert.Proof.KernelIdeal

end
-- ==== Proof.TripIdeal.lean ====
/- One trip of KernelIdeal's loop over the batches, run at a symbolic trip; the loop's invariant. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Guarded
public import Idealize.ShloMosaic.Lib.Tactic
public import proofs.«01_k».proof.Proof.RingIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-! ## The other buffers, by name -/

abbrev wtM : Memref sig .tc .vmem S960x2304 .bf16 := Memref.whole cc0_scratch0
abbrev stageM : Memref sig .tc .vmem S2x480x2304 .fp8e4m3 := Memref.whole cc0_scratch1
abbrev hbM : Memref sig .tc .vmem S512x2304 .bf16 := Memref.whole cc0_scratch3
abbrev kvM : Memref sig .tc .vmem S960x512 .f32 := Memref.whole cc0_scratch4
abbrev kcM : Memref sig .tc .vmem S6x480x512 .fp8e4m3 := Memref.whole cc0_scratch5
abbrev vcM : Memref sig .tc .vmem S6x480x512 .fp8e4m3 := Memref.whole cc0_scratch6
abbrev ksM : Memref sig .tc .vmem S6x3x512 .f32 := Memref.whole cc0_scratch7
abbrev vsM : Memref sig .tc .vmem S6x3x512 .f32 := Memref.whole cc0_scratch8
abbrev gnM : Memref sig .tc .vmem S3x1x2304 .f32 := Memref.whole cc0_scratch9
abbrev ctM : Memref sig .tc .vmem S80x512 .f32 := Memref.whole cc0_scratch10
abbrev snM : Memref sig .tc .vmem S80x512 .f32 := Memref.whole cc0_scratch11
abbrev skM : Memref sig .tc .vmem S72x480 .i8 := Memref.whole cc0_scratch12
abbrev svM : Memref sig .tc .vmem S72x480 .i8 := Memref.whole cc0_scratch13
abbrev gaH : Memref sig .tc .hbm S1x2304 .f32 := Memref.whole main_v0
abbrev wkH : Memref sig .tc .hbm S480x2304 .fp8e4m3 := Memref.whole main_v1
abbrev skH : Memref sig .tc .hbm S72x480 .i8 := Memref.whole main_arg3
abbrev wvH : Memref sig .tc .hbm S480x2304 .fp8e4m3 := Memref.whole main_v2
abbrev svH : Memref sig .tc .hbm S72x480 .i8 := Memref.whole main_arg5
abbrev ctH : Memref sig .tc .hbm S80x512 .f32 := Memref.whole main_arg6
abbrev snH : Memref sig .tc .hbm S80x512 .f32 := Memref.whole main_arg7
abbrev kcH : Memref sig .tc .hbm S6x480x512 .fp8e4m3 := Memref.whole main_v3_0
abbrev ksH : Memref sig .tc .hbm S6x3x512 .f32 := Memref.whole main_v3_1
abbrev vcH : Memref sig .tc .hbm S6x480x512 .fp8e4m3 := Memref.whole main_v3_2
abbrev vsH : Memref sig .tc .hbm S6x3x512 .f32 := Memref.whole main_v3_3

section Trip

variable (c : Dev nD) (X : Buf (Elt F) (xM.view.loc (c : Thread nD τ)))
  (W : Buf (Elt F) (wtM.view.loc (c : Thread nD τ))) (G : Buf (Elt F) (gnM.view.loc (c : Thread nD τ)))
  (C : Buf (Elt F) (ctM.view.loc (c : Thread nD τ))) (S : Buf (Elt F) (snM.view.loc (c : Thread nD τ)))

/-- The four result buffers' contents. -/
structure Res where
  kc : Buf (Elt F) (kcM.view.loc (c : Thread nD τ))
  vc : Buf (Elt F) (vcM.view.loc (c : Thread nD τ))
  ks : Buf (Elt F) (ksM.view.loc (c : Thread nD τ))
  vs : Buf (Elt F) (vsM.view.loc (c : Thread nD τ))

/-- What every trip finds and leaves, the result buffers at `a`, the batches aside. -/
def bufsP (a : Res (F := F) c) : sProp 𝕄 :=
  iprop((wtM.view.loc (c : Thread nD τ) ↦[wtM.view.set]{fullShare} W) ∗ (gnM.view.loc (c : Thread nD τ) ↦[gnM.view.set]{fullShare} G)
    ∗ (ctM.view.loc (c : Thread nD τ) ↦[ctM.view.set]{fullShare} C) ∗ (snM.view.loc (c : Thread nD τ) ↦[snM.view.set]{fullShare} S)
    ∗ (∃ f, hbM.view.loc (c : Thread nD τ) ↦[hbM.view.set]{fullShare} f) ∗ (∃ f, kvM.view.loc (c : Thread nD τ) ↦[kvM.view.set]{fullShare} f)
    ∗ (kcM.view.loc (c : Thread nD τ) ↦[kcM.view.set]{fullShare} a.kc) ∗ (vcM.view.loc (c : Thread nD τ) ↦[vcM.view.set]{fullShare} a.vc)
    ∗ (ksM.view.loc (c : Thread nD τ) ↦[ksM.view.set]{fullShare} a.ks) ∗ (vsM.view.loc (c : Thread nD τ) ↦[vsM.view.set]{fullShare} a.vs))

/-- The resources before trip `k`, the result buffers at `a`: the buffers, the batches at home, the two slots. -/
def resAt (k : ℕ) (a : Res (F := F) c) : sProp 𝕄 :=
  iprop(bufsP c W G C S a ∗ (∃ w, owes (c : Thread nD τ) 0 w) ∗ bigSep (Ring.homeSet (NB := 6) 2 k) (homeP c X)
    ∗ slotSt c X k ∗ slotSt c X (k + 1))

set_option backward.proofsInPublic true in
set_option maxHeartbeats 0 in
/-- One trip at a symbolic `k`, the contents it leaves in the result buffers to be found. -/
def tripRun (c0 c1 : BitVec 32) (k : Fin k0_t1_loop.trips) (a : Res (F := F) c) :
    { w : Res (F := F) c //
      resAt c X W G C S k.val a ⊢ wp frame (wpE (defs₀ (F := F)) 𝒱₀ (c : Thread nD τ) none) Set.univ
        (k0_t1_body (F := F) xM (Memref.isWhole_whole _) gaH (Memref.isWhole_whole _) wkH (Memref.isWhole_whole _) skH (Memref.isWhole_whole _) wvH (Memref.isWhole_whole _) svH (Memref.isWhole_whole _) ctH (Memref.isWhole_whole _) snH (Memref.isWhole_whole _) kcH (Memref.isWhole_whole _) ksH (Memref.isWhole_whole _) vcH (Memref.isWhole_whole _) vsH (Memref.isWhole_whole _) wtM (Memref.isWhole_whole _) stageM (Memref.isWhole_whole _) bufM (Memref.isWhole_whole _) hbM (Memref.isWhole_whole _) kvM (Memref.isWhole_whole _) kcM (Memref.isWhole_whole _) vcM (Memref.isWhole_whole _) ksM (Memref.isWhole_whole _) vsM (Memref.isWhole_whole _) gnM (Memref.isWhole_whole _) ctM (Memref.isWhole_whole _) snM (Memref.isWhole_whole _) skM (Memref.isWhole_whole _) svM (Memref.isWhole_whole _) cc0_scratch14 cc0_scratch15 cc0_scratch16 c0 c1 k ())
        (fun _ => resAt c X W G C S (k.val + 1) w) } := by
  refine ⟨⟨?_, ?_, ?_, ?_⟩, ?run⟩
  case run =>
    have hk6 : k.val < 6 := trip_lt k
    unfold resAt bufsP
    rw [homes_here c X k, homes_next c X k]
    conv => lhs; rw [slotSt, Guarded.pos hk6]
    iintro ⟨⟨HW, HG, HC, HS, ⟨%fh, Hhb⟩, ⟨%fk, Hkv⟩, Hkc, Hvc, Hks, Hvs⟩, ⟨%w, HO⟩, ⟨Hg, Hrest⟩, ⟨%f0, HF0⟩, HF1⟩
    sl_unfold [k0_t1_body]
    sl_exec
    sl_step
    isplitl [HW HG HC HS Hhb Hkv Hkc Hvc Hks Hvs]
    · isplitl [HW]; · iexact HW
      isplitl [HG]; · iexact HG
      isplitl [HC]; · iexact HC
      isplitl [HS]; · iexact HS
      isplitl [Hhb]; · iexists _; iexact Hhb
      isplitl [Hkv]; · iexists _; iexact Hkv
      isplitl [Hkc]; · iexact Hkc
      isplitl [Hvc]; · iexact Hvc
      isplitl [Hks]; · iexact Hks
      iexact Hvs
    isplitl [HO]; · iexists _; iexact HO
    isplitl [HF0_src Hrest]
    · isplitl [HF0_src]; · iexact HF0_src
      iexact Hrest
    isplitl [HF1]; · iexact HF1
    unfold slotSt
    rw [sl2_add2]
    by_cases hc : k0_cond1 k = 1#1
    · rw [Guarded.pos ((cond1_iff k).1 hc)]
      ihave H := (Guarded.elim_pos hc) $$ if1
      iexists ((rslot (Ring.sl 2 k.val)).view.writes (Elt F) (rslot (Ring.sl 2 k.val)).view.junk [⟨Rect.whole S512x2304, payload c X (Ring.bk 6 k.val)⟩])
      irw [flightP_after]
      iexact H
    · rw [Guarded.neg (mt (cond1_iff k).2 hc)]
      ihave H := (Guarded.elim_neg hc) $$ if1
      icases H with ⟨H1, H2⟩
      isplitl [H1]; · iexists _; iexact H1
      iexact H2

end Trip

end Cert.Proof.KernelIdeal

end
-- ==== Proof.LoopIdeal.lean ====
/- The invariant of KernelIdeal's loop over the batches. -/
module

public import proofs.«01_k».proof.Proof.TripIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

section Loop

variable (c : Dev nD) (X : Buf (Elt F) (xM.view.loc (c : Thread nD τ)))
  (W : Buf (Elt F) (wtM.view.loc (c : Thread nD τ))) (G : Buf (Elt F) (gnM.view.loc (c : Thread nD τ)))
  (C : Buf (Elt F) (ctM.view.loc (c : Thread nD τ))) (S : Buf (Elt F) (snM.view.loc (c : Thread nD τ)))

/-- The result buffers before trip `k`, from their contents at the loop's entry: what each trip leaves. -/
def acc (c0 c1 : BitVec 32) (a : Res (F := F) c) : ℕ → Res (F := F) c
  | 0 => a
  | k + 1 => if h : k < k0_t1_loop.trips then (tripRun c X W G C S c0 c1 ⟨k, h⟩ (acc c0 c1 a k)).1 else acc c0 c1 a k

/-- The resources before a trip: at the first one the two copies under way are written out. -/
def invAt (a : Res (F := F) c) : ℕ → sProp 𝕄
  | 0 => iprop(bufsP c W G C S a ∗ (∃ w, owes (c : Thread nD τ) 0 w) ∗ bigSep (Ring.homeSet (NB := 6) 2 0) (homeP c X)
      ∗ (∃ f, flightP c X 0 0 f) ∗ (∃ f, flightP c X 1 1 f))
  | k + 1 => iprop(bufsP c W G C S a ∗ (∃ w, owes (c : Thread nD τ) 0 w) ∗ bigSep (Ring.homeSet (NB := 6) 2 (k + 1)) (homeP c X)
      ∗ (∃ _u : Unit, slotSt c X (k + 1)) ∗ (∃ _u : Unit, slotSt c X (k + 1 + 1)))

theorem sl2_0 : Ring.sl 2 0 = 0 := Fin.ext (by rfl)
theorem sl2_1 : Ring.sl 2 (0 + 1) = 1 := Fin.ext (by rfl)
theorem bk6_0 : Ring.bk 6 0 = 0 := Fin.ext (by rfl)
theorem bk6_1 : Ring.bk 6 (0 + 1) = 1 := Fin.ext (by rfl)

theorem invAt_res (a : Res (F := F) c) (k : ℕ) : invAt c X W G C S a k ⊢ resAt c X W G C S k a := by
  cases k with
  | zero =>
    unfold invAt resAt slotSt
    rw [Guarded.pos (by decide : 0 < 6), Guarded.pos (by decide : 0 + 1 < 6), sl2_0, sl2_1, bk6_0, bk6_1]
  | succ k =>
    unfold invAt resAt
    iintro ⟨H1, H2, H3, ⟨%_, H4⟩, ⟨%_, H5⟩⟩
    isplitl [H1]; · iexact H1
    isplitl [H2]; · iexact H2
    isplitl [H3]; · iexact H3
    isplitl [H4]; · iexact H4
    iexact H5

theorem invAt_of_res (a : Res (F := F) c) (k : ℕ) : resAt c X W G C S (k + 1) a ⊢ invAt c X W G C S a (k + 1) := by
  unfold invAt resAt
  iintro ⟨H1, H2, H3, H4, H5⟩
  isplitl [H1]; · iexact H1
  isplitl [H2]; · iexact H2
  isplitl [H3]; · iexact H3
  isplitl [H4]
  · iexists (); iexact H4
  · iexists (); iexact H5

set_option warn.classDefReducibility false in
/-- The loop's invariant. -/
@[sl_loop] def loopInv1 (c0 c1 : BitVec 32) (a1 : Buf (Elt F) (kcM.view.loc (c : Thread nD τ))) (a2 : Buf (Elt F) (vcM.view.loc (c : Thread nD τ)))
    (a3 : Buf (Elt F) (ksM.view.loc (c : Thread nD τ))) (a4 : Buf (Elt F) (vsM.view.loc (c : Thread nD τ))) :
    LoopInvTy_k0_t1 (F := F) Unit ℕ (UU nD τ) ℕ 𝒱₀ c none Set.univ xM (Memref.isWhole_whole _) gaH (Memref.isWhole_whole _) wkH (Memref.isWhole_whole _) skH (Memref.isWhole_whole _) wvH (Memref.isWhole_whole _) svH (Memref.isWhole_whole _) ctH (Memref.isWhole_whole _) snH (Memref.isWhole_whole _) kcH (Memref.isWhole_whole _) ksH (Memref.isWhole_whole _) vcH (Memref.isWhole_whole _) vsH (Memref.isWhole_whole _) wtM (Memref.isWhole_whole _) stageM (Memref.isWhole_whole _) bufM (Memref.isWhole_whole _) hbM (Memref.isWhole_whole _) kvM (Memref.isWhole_whole _) kcM (Memref.isWhole_whole _) vcM (Memref.isWhole_whole _) ksM (Memref.isWhole_whole _) vsM (Memref.isWhole_whole _) gnM (Memref.isWhole_whole _) ctM (Memref.isWhole_whole _) snM (Memref.isWhole_whole _) skM (Memref.isWhole_whole _) svM (Memref.isWhole_whole _) cc0_scratch14 cc0_scratch15 cc0_scratch16 c0 c1 where
  inv k _ := invAt c X W G C S (acc c X W G C S c0 c1 ⟨a1, a2, a3, a4⟩ k) k
  step k _ := by
    have e : acc c X W G C S c0 c1 ⟨a1, a2, a3, a4⟩ (k.val + 1)
        = (tripRun c X W G C S c0 c1 k (acc c X W G C S c0 c1 ⟨a1, a2, a3, a4⟩ k)).1 := by
      rw [acc, dif_pos k.isLt]
    iintro H
    iapply (wp_wand_r Idealize.ShloMosaic.frame (wpE (defs₀ (F := F)) 𝒱₀ (c : Thread nD τ) none) Set.univ)
    isplitl [H]
    · iapply (tripRun c X W G C S c0 c1 k _).2
      iapply (invAt_res c X W G C S _ k.val)
      iexact H
    · iintro %_ H'
      rw [e]
      iapply (invAt_of_res c X W G C S _ k.val)
      iexact H'

end Loop

end Cert.Proof.KernelIdeal

end
-- ==== Proof.BodyIdeal.lean ====
/- KernelIdeal's body: the copies in, the two dequantised weights, the loop by its invariant, the four copies out. -/
module

public import proofs.«01_k».proof.Proof.LoopIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-! ## The whole body -/

section Body

variable (c : Dev nD) (X : Buf (Elt F) (xM.view.loc (c : Thread nD τ)))

/-- The two halves of the staged codes. -/
abbrev stg0 : Memref sig .tc .vmem S480x2304 .fp8e4m3 :=
  (stageM.slice (Rect.unit (s := S2x480x2304) ![0, 0, 0] S1x480x2304.size inb_S2x480x2304_S1x480x2304_0_0_0) (fun _ => rfl)).squeeze S480x2304 squeezes_S1x480x2304_S480x2304
abbrev stg1 : Memref sig .tc .vmem S480x2304 .fp8e4m3 :=
  (stageM.slice (Rect.unit (s := S2x480x2304) ![1, 0, 0] S1x480x2304.size inb_S2x480x2304_S1x480x2304_1_0_0) (fun _ => rfl)).squeeze S480x2304 squeezes_S1x480x2304_S480x2304

/-- What the body is handed. -/
structure Ini where
  ga : Buf (Elt F) (gaH.view.loc (c : Thread nD τ))
  wk : Buf (Elt F) (wkH.view.loc (c : Thread nD τ))
  sk : Buf (Elt F) (skH.view.loc (c : Thread nD τ))
  wv : Buf (Elt F) (wvH.view.loc (c : Thread nD τ))
  sv : Buf (Elt F) (svH.view.loc (c : Thread nD τ))
  ct : Buf (Elt F) (ctH.view.loc (c : Thread nD τ))
  sn : Buf (Elt F) (snH.view.loc (c : Thread nD τ))

/-- What the buffers held. -/
structure Junk where
  okc : Buf (Elt F) (kcH.view.loc (c : Thread nD τ))
  oks : Buf (Elt F) (ksH.view.loc (c : Thread nD τ))
  ovc : Buf (Elt F) (vcH.view.loc (c : Thread nD τ))
  ovs : Buf (Elt F) (vsH.view.loc (c : Thread nD τ))
  wt : Buf (Elt F) (wtM.view.loc (c : Thread nD τ))
  st0 : Buf (Elt F) (stg0.view.loc (c : Thread nD τ))
  st1 : Buf (Elt F) (stg1.view.loc (c : Thread nD τ))
  a : Res (F := F) c
  gn : Buf (Elt F) (gnM.view.loc (c : Thread nD τ))
  tc : Buf (Elt F) (ctM.view.loc (c : Thread nD τ))
  ts : Buf (Elt F) (snM.view.loc (c : Thread nD τ))
  dk : Buf (Elt F) (skM.view.loc (c : Thread nD τ))
  dv : Buf (Elt F) (svM.view.loc (c : Thread nD τ))

/-- The cells at rest. -/
abbrev cellsP : sProp 𝕄 :=
  iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ cellP c 0 ∗ cellP c 1 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)

abbrev ptsW {sp : Space} {s : Shape} {e : EltTy} (M : Memref sig .tc sp s e) (f : Buf (Elt F) (M.view.loc (c : Thread nD τ))) : sProp 𝕄 :=
  M.view.loc (c : Thread nD τ) ↦[M.view.set]{fullShare} f

/-- What the body is handed, the batches, slots and cells aside. -/
abbrev memP (i : Ini (F := F) c) (j : Junk (F := F) c) : sProp 𝕄 :=
  iprop(ptsW c gaH i.ga ∗ ptsW c wkH i.wk ∗ ptsW c skH i.sk ∗ ptsW c wvH i.wv ∗ ptsW c svH i.sv ∗ ptsW c ctH i.ct ∗ ptsW c snH i.sn
    ∗ ptsW c kcH j.okc ∗ ptsW c ksH j.oks ∗ ptsW c vcH j.ovc ∗ ptsW c vsH j.ovs
    ∗ ptsW c wtM j.wt ∗ ptsW c stg0 j.st0 ∗ ptsW c stg1 j.st1 ∗ (∃ f, ptsW c hbM f) ∗ (∃ f, ptsW c kvM f)
    ∗ ptsW c kcM j.a.kc ∗ ptsW c vcM j.a.vc ∗ ptsW c ksM j.a.ks ∗ ptsW c vsM j.a.vs ∗ ptsW c gnM j.gn ∗ ptsW c ctM j.tc ∗ ptsW c snM j.ts
    ∗ ptsW c skM j.dk ∗ ptsW c svM j.dv)

/-- The four results' contents in HBM. -/
structure Out where
  kc : Buf (Elt F) (kcH.view.loc (c : Thread nD τ))
  ks : Buf (Elt F) (ksH.view.loc (c : Thread nD τ))
  vc : Buf (Elt F) (vcH.view.loc (c : Thread nD τ))
  vs : Buf (Elt F) (vsH.view.loc (c : Thread nD τ))

abbrev inP (i : Ini (F := F) c) : sProp 𝕄 :=
  iprop(ptsW c gaH i.ga ∗ ptsW c wkH i.wk ∗ ptsW c skH i.sk ∗ ptsW c wvH i.wv ∗ ptsW c svH i.sv ∗ ptsW c ctH i.ct ∗ ptsW c snH i.sn)

abbrev outP (o : Out (F := F) c) : sProp 𝕄 :=
  iprop(ptsW c kcH o.kc ∗ ptsW c ksH o.ks ∗ ptsW c vcH o.vc ∗ ptsW c vsH o.vs)

abbrev anyP {sp : Space} {s : Shape} {e : EltTy} (M : Memref sig .tc sp s e) : sProp 𝕄 :=
  iprop(∃ f : Buf (Elt F) (M.view.loc (c : Thread nD τ)), ptsW c M f)

/-- The scratch buffers but the batch slots, at anything. -/
abbrev scrP : sProp 𝕄 :=
  iprop(anyP (F := F) c wtM ∗ anyP (F := F) c stg0 ∗ anyP (F := F) c stg1 ∗ anyP (F := F) c hbM ∗ anyP (F := F) c kvM ∗ anyP (F := F) c kcM ∗ anyP (F := F) c vcM ∗ anyP (F := F) c ksM ∗ anyP (F := F) c vsM ∗ anyP (F := F) c gnM ∗ anyP (F := F) c ctM ∗ anyP (F := F) c snM ∗ anyP (F := F) c skM ∗ anyP (F := F) c svM)

/-- What the body hands back. -/
abbrev POST (i : Ini (F := F) c) (o : Out (F := F) c) : sProp 𝕄 :=
  iprop(inP c i ∗ outP c o ∗ scrP (F := F) c ∗ bigSep Finset.univ (homeP c X) ∗ (∃ f, slotP (F := F) c 0 f) ∗ (∃ f, slotP (F := F) c 1 f)
    ∗ cellsP (F := F) c ∗ ∃ w, owes (c : Thread nD τ) 0 w)

theorem sl2_6 : Ring.sl 2 (5 + 1) = 0 := Fin.ext (by rfl)
theorem sl2_7 : Ring.sl 2 (5 + 1 + 1) = 1 := Fin.ext (by rfl)
theorem homes_six : Ring.homeSet (NB := 6) 2 (5 + 1) = Finset.univ := by decide

set_option backward.proofsInPublic true in
set_option maxHeartbeats 0 in
attribute [local sl_canon] sl2_0 sl2_1 bk6_0 bk6_1 in
/-- The body run: the contents it leaves in the results to be found. -/
def bodyRun (i : Ini (F := F) c) (j : Junk (F := F) c) :
    { o : Out (F := F) c // ∀ (w : Waits sig Unit) (Q : PUnit → sProp 𝕄), iprop((memP c i j ∗ homeP c X 0 ∗ homeP c X 1 ∗ bigSep (Ring.homeSet 2 0) (homeP c X) ∗ (∃ f, slotP c 0 f) ∗ (∃ f, slotP c 1 f)
      ∗ cellsP c ∗ owes (c : Thread nD τ) 0 w) ∗ (POST c X i o -∗ Q ⟨⟩))
      ⊢ wp frame (wpE (defs₀ (F := F)) 𝒱₀ (c : Thread nD τ) none) Set.univ
        (cc0_last_layer xM (Memref.isWhole_whole _) gaH (Memref.isWhole_whole _) wkH (Memref.isWhole_whole _) skH (Memref.isWhole_whole _) wvH (Memref.isWhole_whole _) svH (Memref.isWhole_whole _) ctH (Memref.isWhole_whole _) snH (Memref.isWhole_whole _) kcH (Memref.isWhole_whole _) ksH (Memref.isWhole_whole _) vcH (Memref.isWhole_whole _) vsH (Memref.isWhole_whole _) wtM (Memref.isWhole_whole _) stageM (Memref.isWhole_whole _) bufM (Memref.isWhole_whole _) hbM (Memref.isWhole_whole _) kvM (Memref.isWhole_whole _) kcM (Memref.isWhole_whole _) vcM (Memref.isWhole_whole _) ksM (Memref.isWhole_whole _) vsM (Memref.isWhole_whole _) gnM (Memref.isWhole_whole _) ctM (Memref.isWhole_whole _) snM (Memref.isWhole_whole _) skM (Memref.isWhole_whole _) svM (Memref.isWhole_whole _) cc0_scratch14 cc0_scratch15 cc0_scratch16)
        Q } := by
  refine ⟨⟨?_, ?_, ?_, ?_⟩, ?run⟩
  case run =>
  intro w Q
  iintro ⟨⟨⟨Hga, Hwk, Hsk, Hwv, Hsv, Hct, Hsn, Hokc, Hoks, Hovc, Hovs, Hwt, Hst0, Hst1, ⟨%fh, Hhb⟩, ⟨%fk, Hkv⟩, Hkc, Hvc, Hks, Hvs, Hgn, Htc, Hts, Hdk, Hdv⟩,
    Hg0, Hg1, Hh, ⟨%f0, Hs0⟩, ⟨%f1, Hs1⟩, ⟨Hc0, Hc1, Hc2, Hc3, Hc4, Hc5, Hc6, Hd0, Hd1, Hc9, Hc10, Hc11, Hc12⟩, HO⟩, HQ⟩
  sl_exec
  rw [sl2_6, sl2_7, homes_six]
  ihave H0 := (Guarded.elim_neg (by decide : ¬ 5 + 1 < 6)) $$ Hd0
  ihave H1 := (Guarded.elim_neg (by decide : ¬ 5 + 1 + 1 < 6)) $$ Hd1
  icases H0 with ⟨⟨%g0, Hs0⟩, Hk0⟩
  icases H1 with ⟨⟨%g1, Hs1⟩, Hk1⟩
  sl_step
  iapply HQ
  isplitl [Hga Hwk Hsk Hwv Hsv Hct Hsn]
  · skip
    isplitl [Hga]; · iexact Hga
    isplitl [Hwk]; · iexact Hwk
    isplitl [Hsk]; · iexact Hsk
    isplitl [Hwv]; · iexact Hwv
    isplitl [Hsv]; · iexact Hsv
    isplitl [Hct]; · iexact Hct
    iexact Hsn
  isplitl [Hokc Hoks Hovc Hovs]
  · skip
    isplitl [Hokc]; · iexact Hokc
    isplitl [Hoks]; · iexact Hoks
    isplitl [Hovc]; · iexact Hovc
    iexact Hovs
  isplitl [Hwt Hst0 Hst1 Hhb Hkv Hkc Hvc Hks Hvs Hgn Htc Hts Hdk Hdv]
  · skip
    isplitl [Hwt]; · iexists _; iexact Hwt
    isplitl [Hst0]; · iexists _; iexact Hst0
    isplitl [Hst1]; · iexists _; iexact Hst1
    isplitl [Hhb]; · iexists _; iexact Hhb
    isplitl [Hkv]; · iexists _; iexact Hkv
    isplitl [Hkc]; · iexists _; iexact Hkc
    isplitl [Hvc]; · iexists _; iexact Hvc
    isplitl [Hks]; · iexists _; iexact Hks
    isplitl [Hvs]; · iexists _; iexact Hvs
    isplitl [Hgn]; · iexists _; iexact Hgn
    isplitl [Htc]; · iexists _; iexact Htc
    isplitl [Hts]; · iexists _; iexact Hts
    isplitl [Hdk]; · iexists _; iexact Hdk
    iexists _; iexact Hdv
  isplitl [Hh]; · iexact Hh
  isplitl [Hs0]; · iexists _; iexact Hs0
  isplitl [Hs1]; · iexists _; iexact Hs1
  isplitl [Hc0 Hc1 Hc2 Hc3 Hc4 Hc5 Hc6 Hk0 Hk1 Hc9 Hc10 Hc11 Hc12]
  · skip
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hk0]; · iexact Hk0
    isplitl [Hk1]; · iexact Hk1
    isplitl [Hc9]; · iexact Hc9
    isplitl [Hc10]; · iexact Hc10
    isplitl [Hc11]; · iexact Hc11
    iexact Hc12
  iexists _; iexact HO

end Body

end Cert.Proof.KernelIdeal

end
-- ==== Proof.LaunchIdeal.lean ====
/- KernelIdeal's launch: the body's resources from the region's, the run of the whole program. -/
module

public import proofs.«01_k».proof.Proof.BodyIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-- A whole buffer's points-to under the memref's name. -/
theorem ptsW_whole (c : Dev nD) (b : Ref sig .tc) (f : Buf (Elt F) ((c : Thread nD τ).loc b)) :
    (ptsW c (Memref.whole b) f : sProp 𝕄) = (((c : Thread nD τ).loc b) ↦{fullShare} f) :=
  congrArg (fun S => ((((c : Thread nD τ).loc b)) ↦[S]{fullShare} f : sProp 𝕄)) (View.set_whole b)

set_option maxHeartbeats 800000 in
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The operands and the results under the launch's names. -/
theorem inP_eq (c : Dev nD) (i : Ini (F := F) c) : inP c i
    = (iprop((((c : Thread nD τ).loc main_v0) ↦{fullShare} i.ga) ∗ (((c : Thread nD τ).loc main_v1) ↦{fullShare} i.wk)
      ∗ (((c : Thread nD τ).loc main_arg3) ↦{fullShare} i.sk) ∗ (((c : Thread nD τ).loc main_v2) ↦{fullShare} i.wv)
      ∗ (((c : Thread nD τ).loc main_arg5) ↦{fullShare} i.sv) ∗ (((c : Thread nD τ).loc main_arg6) ↦{fullShare} i.ct)
      ∗ (((c : Thread nD τ).loc main_arg7) ↦{fullShare} i.sn)) : sProp 𝕄) := by
  rw [← ptsW_whole c main_v0, ← ptsW_whole c main_v1, ← ptsW_whole c main_arg3, ← ptsW_whole c main_v2, ← ptsW_whole c main_arg5,
    ← ptsW_whole c main_arg6, ← ptsW_whole c main_arg7]
theorem outP_eq (c : Dev nD) (o : Out (F := F) c) : outP c o
    = (iprop((((c : Thread nD τ).loc main_v3_0) ↦{fullShare} o.kc) ∗ (((c : Thread nD τ).loc main_v3_1) ↦{fullShare} o.ks)
      ∗ (((c : Thread nD τ).loc main_v3_2) ↦{fullShare} o.vc) ∗ (((c : Thread nD τ).loc main_v3_3) ↦{fullShare} o.vs)) : sProp 𝕄) := by
  rw [← ptsW_whole c main_v3_0, ← ptsW_whole c main_v3_1, ← ptsW_whole c main_v3_2, ← ptsW_whole c main_v3_3]

/-- `x` as the launch finds it, and the other operands. -/
abbrev X₀ (c : Dev nD) : Buf (Elt F) (xM.view.loc (c : Thread nD τ)) := V m c main_arg0
abbrev ini (c : Dev nD) : Ini (F := F) c :=
  ⟨V m c main_v0, V m c main_v1, V m c main_arg3, V m c main_v2, V m c main_arg5, V m c main_arg6, V m c main_arg7⟩

abbrev osem : Fin 13 → SemLoc sig := fun j =>
  (![.dma 0, .dma 1, .dma 2, .dma 3, .dma 4, .dma 5, .dma 6, .dma (csm 0).sem, .dma (csm 1).sem, .dma 9, .dma 10, .dma 11, .dma 12] : Fin 13 → SemLoc sig) j
theorem ownSemFacts : Pipeline.OwnSemFacts (cfg0.spec) osem := by decide

omit [FloatOps F] in
theorem ownSems0_eq (c : Dev nD) : (Pipeline.ownSems0 (Ix := Unit) (Name := ℕ) (U := UU nD τ) (Lvl := ℕ) (Val := Elt F) (τ := τ) osem c : sProp 𝕄)
    = cellsP (F := F) c := by
  rw [Pipeline.ownSems0_eq_of_list c osem [0, 1, 2, 3, 4, 5, 6, 7, 8, 9, 10, 11, 12] (by decide) (by decide)]; rfl

/-! ## `x`'s six batches, the two slots, the two halves of the staged codes -/

abbrev G6 (b : Fin 6) : Finset S6x512x2304.Idx := (Rect.unit (s := S6x512x2304) (grpOff b) S1x512x2304.size (grpOff_inb b)).set
abbrev T2 (s : Fin 2) : Finset S2x512x2304.Idx := (Rect.unit (s := S2x512x2304) (slotOff s) S1x512x2304.size (slotOff_inb s)).set
theorem stgOff_inb (s : Fin 2) : ∀ a, slotOff s a + S1x480x2304.size a ≤ S2x480x2304.size a := by
  have := s.isLt; intro a; fin_cases a
  · show s.val + 1 ≤ 2; omega
  · show 0 + 480 ≤ 480; omega
  · show 0 + 2304 ≤ 2304; omega
abbrev C2 (s : Fin 2) : Finset S2x480x2304.Idx := (Rect.unit (s := S2x480x2304) (slotOff s) S1x480x2304.size (stgOff_inb s)).set

omit [FloatOps F] in
theorem grp_set (b : Fin 6) : (grp b : Memref sig .tc .hbm _ _).view.set = G6 b := (View.set_reshape _ _).trans (View.set_slice_whole _ _)
omit [FloatOps F] in
theorem rslot_set (s : Fin 2) : (rslot s : Memref sig .tc .vmem _ _).view.set = T2 s := (View.set_reshape _ _).trans (View.set_slice_whole _ _)
omit [FloatOps F] in
theorem stg0_set : (stg0 : Memref sig .tc .vmem _ _).view.set = C2 0 := (View.set_reshape _ _).trans (View.set_slice_whole _ _)
omit [FloatOps F] in
theorem stg1_set : (stg1 : Memref sig .tc .vmem _ _).view.set = C2 1 := (View.set_reshape _ _).trans (View.set_slice_whole _ _)

theorem mem_G6 (b : Fin 6) (y : S6x512x2304.Idx) : y ∈ G6 b ↔ (y 0).val = b.val := by
  rw [Rect.mem_set_unit]
  have h1 : (y 1).val < 512 := (y 1).isLt
  have h2 : (y 2).val < 2304 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 512; omega
    · show 0 ≤ (y 2).val ∧ (y 2).val < 0 + 2304; omega
theorem mem_T2 (s : Fin 2) (y : S2x512x2304.Idx) : y ∈ T2 s ↔ (y 0).val = s.val := by
  rw [Rect.mem_set_unit]
  have h1 : (y 1).val < 512 := (y 1).isLt
  have h2 : (y 2).val < 2304 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 2304; omega
theorem mem_C2 (s : Fin 2) (y : S2x480x2304.Idx) : y ∈ C2 s ↔ (y 0).val = s.val := by
  rw [Rect.mem_set_unit]
  have h1 : (y 1).val < 480 := (y 1).isLt
  have h2 : (y 2).val < 2304 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 480; omega
    · show 0 ≤ (y 2).val ∧ (y 2).val < 0 + 2304; omega
theorem G6_disjoint : ∀ b b' : Fin 6, b ≠ b' → Disjoint (G6 b) (G6 b') := by
  intro b b' hne; rw [Finset.disjoint_left]; intro y hy hy'; rw [mem_G6] at hy hy'; exact hne (Fin.ext (hy.symm.trans hy'))
theorem G6_cover : (Finset.univ : Finset (Fin 6)).biUnion G6 = Finset.univ := by
  ext y; simp only [Finset.mem_biUnion, Finset.mem_univ, true_and, iff_true]; exact ⟨(y 0).cast (by decide), by rw [mem_G6]; rfl⟩
theorem T2_disjoint : ∀ s s' : Fin 2, s ≠ s' → Disjoint (T2 s) (T2 s') := by
  intro s s' hne; rw [Finset.disjoint_left]; intro y hy hy'; rw [mem_T2] at hy hy'; exact hne (Fin.ext (hy.symm.trans hy'))
theorem T2_cover : (Finset.univ : Finset (Fin 2)).biUnion T2 = Finset.univ := by
  ext y; simp only [Finset.mem_biUnion, Finset.mem_univ, true_and, iff_true]; exact ⟨(y 0).cast (by decide), by rw [mem_T2]; rfl⟩
theorem C2_disjoint : ∀ s s' : Fin 2, s ≠ s' → Disjoint (C2 s) (C2 s') := by
  intro s s' hne; rw [Finset.disjoint_left]; intro y hy hy'; rw [mem_C2] at hy hy'; exact hne (Fin.ext (hy.symm.trans hy'))
theorem C2_cover : (Finset.univ : Finset (Fin 2)).biUnion C2 = Finset.univ := by
  ext y; simp only [Finset.mem_biUnion, Finset.mem_univ, true_and, iff_true]; exact ⟨(y 0).cast (by decide), by rw [mem_C2]; rfl⟩

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- `x` whole is its six batches home; -/
theorem x_eq (c : Dev nD) (X : Buf (Elt F) (xM.view.loc (c : Thread nD τ))) :
    (((c : Thread nD τ).loc main_arg0) ↦{fullShare} X : sProp 𝕄) = bigSep Finset.univ (homeP c X) := by
  rw [Ring.pointsTo_blocks (ℓ := (c : Thread nD τ).loc main_arg0) G6 G6_disjoint G6_cover]
  exact bigSep_congr fun b _ => by rw [← grp_set]; rfl
/-- at the body's entry, batches 0 and 1 apart from the rest. -/
theorem homes_zero (c : Dev nD) (X : Buf (Elt F) (xM.view.loc (c : Thread nD τ))) :
    bigSep Finset.univ (homeP c X) = iprop(homeP c X 0 ∗ homeP c X 1 ∗ bigSep (Ring.homeSet 2 0) (homeP c X)) := by
  have e : (Finset.univ : Finset (Fin 6)) = insert 0 (insert 1 (Ring.homeSet (NB := 6) 2 0)) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet])]; rfl

omit [FloatOps F] in
theorem slotP_eq (c : Dev nD) (s : Fin 2) (f) : slotP c s f = (((c : Thread nD τ).loc cc0_scratch2) ↦[T2 s]{fullShare} f : sProp 𝕄) :=
  congrArg (fun S => (_ ↦[S]{fullShare} f : sProp 𝕄)) (rslot_set s)
omit [FloatOps F] in
theorem stg0_eq (c : Dev nD) (f) : ptsW c stg0 f = (((c : Thread nD τ).loc cc0_scratch1) ↦[C2 0]{fullShare} f : sProp 𝕄) :=
  congrArg (fun S => (_ ↦[S]{fullShare} f : sProp 𝕄)) stg0_set
omit [FloatOps F] in
theorem stg1_eq (c : Dev nD) (f) : ptsW c stg1 f = (((c : Thread nD τ).loc cc0_scratch1) ↦[C2 1]{fullShare} f : sProp 𝕄) :=
  congrArg (fun S => (_ ↦[S]{fullShare} f : sProp 𝕄)) stg1_set
/-- The slots' buffer whole is its two slots, and back. -/
theorem buf_split (c : Dev nD) :
    iprop(∃ f : Buf (Elt F) ((c : Thread nD τ).loc cc0_scratch2), ((c : Thread nD τ).loc cc0_scratch2) ↦{fullShare} f)
      ⊢ (iprop((∃ f, slotP c 0 f) ∗ ∃ f, slotP c 1 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch2) T2 T2_disjoint T2_cover f).trans (bigSep_fin2 _))) $$ H
  icases H2 with ⟨H0, H1⟩
  isplitl [H0]
  · iexists f; iapply (Entails.of_eq (slotP_eq c 0 f).symm); iexact H0
  · iexists f; iapply (Entails.of_eq (slotP_eq c 1 f).symm); iexact H1
theorem buf_join (c : Dev nD) :
    iprop((∃ f, slotP c 0 f) ∗ ∃ f, slotP c 1 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) T2 T2_disjoint T2_cover f0)
  irw [bigSep_fin2]
  isplitl [H0]
  · iexists f0; iapply (Entails.of_eq (slotP_eq c 0 f0)); iexact H0
  · iexists f1; iapply (Entails.of_eq (slotP_eq c 1 f1)); iexact H1
/-- The staged codes' buffer whole is its two halves, and back. -/
theorem stg_split (c : Dev nD) :
    iprop(∃ f : Buf (Elt F) ((c : Thread nD τ).loc cc0_scratch1), ((c : Thread nD τ).loc cc0_scratch1) ↦{fullShare} f)
      ⊢ (iprop(anyP c stg0 ∗ anyP c stg1) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch1) C2 C2_disjoint C2_cover f).trans (bigSep_fin2 _))) $$ H
  icases H2 with ⟨H0, H1⟩
  isplitl [H0]
  · iexists f; iapply (Entails.of_eq (stg0_eq c f).symm); iexact H0
  · iexists f; iapply (Entails.of_eq (stg1_eq c f).symm); iexact H1
theorem stg_join (c : Dev nD) :
    iprop(anyP c stg0 ∗ anyP c stg1)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) C2 C2_disjoint C2_cover f0)
  irw [bigSep_fin2]
  isplitl [H0]
  · iexists f0; iapply (Entails.of_eq (stg0_eq c f0)); iexact H0
  · iexists f1; iapply (Entails.of_eq (stg1_eq c f1)); iexact H1

/-- The scratch buffers as the launch lists them are the body's. -/
theorem scr_eq (c : Dev nD) (b : Ref sig .tc) :
    (iprop(∃ f : Buf (Elt F) ((c : Thread nD τ).loc b), ((c : Thread nD τ).loc b) ↦{fullShare} f) : sProp 𝕄) = anyP c (Memref.whole b) :=
  congrArg BIBase.exists (funext fun f => (ptsW_whole c b f).symm)

theorem scr_split (c : Dev nD) :
    (Pipeline.scopedRest (Ix := Unit) (Name := ℕ) (U := UU nD τ) (Lvl := ℕ) (Val := Elt F) (cfg0.spec) c : sProp 𝕄)
      ⊢ iprop(scrP (F := F) c ∗ (∃ f, slotP c 0 f) ∗ ∃ f, slotP c 1 f) := by
  rw [scopedRest0_eq]
  iintro ⟨H0, H1, H2, H3, H4, H5, H6, H7, H8, H9, H10, H11, H12, H13⟩
  ihave H1 := (stg_split c) $$ H1
  icases H1 with ⟨H1a, H1b⟩
  ihave H2 := (buf_split c) $$ H2
  isplitr [H2]
  · isplitl [H0]; · iapply (Entails.of_eq (scr_eq c _)); iexact H0
    isplitl [H1a]; · iexact H1a
    isplitl [H1b]; · iexact H1b
    isplitl [H3]; · iapply (Entails.of_eq (scr_eq c _)); iexact H3
    isplitl [H4]; · iapply (Entails.of_eq (scr_eq c _)); iexact H4
    isplitl [H5]; · iapply (Entails.of_eq (scr_eq c _)); iexact H5
    isplitl [H6]; · iapply (Entails.of_eq (scr_eq c _)); iexact H6
    isplitl [H7]; · iapply (Entails.of_eq (scr_eq c _)); iexact H7
    isplitl [H8]; · iapply (Entails.of_eq (scr_eq c _)); iexact H8
    isplitl [H9]; · iapply (Entails.of_eq (scr_eq c _)); iexact H9
    isplitl [H10]; · iapply (Entails.of_eq (scr_eq c _)); iexact H10
    isplitl [H11]; · iapply (Entails.of_eq (scr_eq c _)); iexact H11
    isplitl [H12]; · iapply (Entails.of_eq (scr_eq c _)); iexact H12
    iapply (Entails.of_eq (scr_eq c _)); iexact H13
  · iexact H2

theorem scr_join (c : Dev nD) :
    iprop(scrP (F := F) c ∗ (∃ f, slotP c 0 f) ∗ ∃ f, slotP c 1 f)
      ⊢ (Pipeline.scopedRest (Ix := Unit) (Name := ℕ) (U := UU nD τ) (Lvl := ℕ) (Val := Elt F) (cfg0.spec) c : sProp 𝕄) := by
  rw [scopedRest0_eq]
  iintro ⟨⟨H0, H1a, H1b, H3, H4, H5, H6, H7, H8, H9, H10, H11, H12, H13⟩, H2⟩
  isplitl [H0]; · iapply (Entails.of_eq (scr_eq c _).symm); iexact H0
  isplitl [H1a H1b]
  · iapply (stg_join c)
    isplitl [H1a]; · iexact H1a
    iexact H1b
  isplitl [H2]; · iapply (buf_join c); iexact H2
  isplitl [H3]; · iapply (Entails.of_eq (scr_eq c _).symm); iexact H3
  isplitl [H4]; · iapply (Entails.of_eq (scr_eq c _).symm); iexact H4
  isplitl [H5]; · iapply (Entails.of_eq (scr_eq c _).symm); iexact H5
  isplitl [H6]; · iapply (Entails.of_eq (scr_eq c _).symm); iexact H6
  isplitl [H7]; · iapply (Entails.of_eq (scr_eq c _).symm); iexact H7
  isplitl [H8]; · iapply (Entails.of_eq (scr_eq c _).symm); iexact H8
  isplitl [H9]; · iapply (Entails.of_eq (scr_eq c _).symm); iexact H9
  isplitl [H10]; · iapply (Entails.of_eq (scr_eq c _).symm); iexact H10
  isplitl [H11]; · iapply (Entails.of_eq (scr_eq c _).symm); iexact H11
  isplitl [H12]; · iapply (Entails.of_eq (scr_eq c _).symm); iexact H12
  iapply (Entails.of_eq (scr_eq c _).symm); iexact H13

/-! ## The pipeline's proof data -/

/-- What the region holds, the results at `o`. -/
def Φ (c : Dev nD) (o : Out (F := F) c) : sProp 𝕄 :=
  iprop(inP c (ini m c) ∗ outP c o ∗ scrP (F := F) c ∗ bigSep Finset.univ (homeP c (X₀ m c)) ∗ (∃ f, slotP (F := F) c 0 f) ∗ (∃ f, slotP (F := F) c 1 f)
    ∗ cellsP (F := F) c)

/-- The results before the call. -/
abbrev out₀ (c : Dev nD) : Out (F := F) c := ⟨V m c main_v3_0, V m c main_v3_1, V m c main_v3_2, V m c main_v3_3⟩

/-- Before the point, and after it: then the results are the body's, from whatever the scratch buffers held. -/
def ΦAt (c : Dev nD) : ℕ → sProp 𝕄
  | 0 => Φ m c (out₀ m c)
  | _ + 1 => iprop(∃ j : Junk (F := F) c, Φ m c (bodyRun c (X₀ m c) (ini m c) j).1)

def dats (_ : Fin 1) (c : Dev nD) : Dat τ (Elt F) Unit ℕ (UU nD τ) ℕ cfg0 c where
  A w := V m c (Pipeline.arrRef (cfg0.spec) w)
  after w t := w.elim0
  Φ t := ΦAt m c t.val
  q _ := fullShare
  owed _ := 0

theorem defs_tc : (defs₀ (F := F)) .tc cfg0.body = fun a => bodyAt0 (F := F) ⟨0, by decide⟩ := rfl
theorem prog_eq (t : Fin cfg0.N) : (defs₀ (F := F)) .tc cfg0.body (cfg0.bodyArgs t (cfg0.slots t)) = bodyAt0 (F := F) t :=
  (congrFun defs_tc _).trans rfl

set_option maxHeartbeats 0 in
set_option backward.isDefEq.respectTransparency.types false in
theorem body_obligation (c : Dev nD) : BodyObligation (dats (F := F) m 0 c) (defs₀ (F := F)) 𝒱₀ () Set.univ := fun t => by
  have ht : t.val = 0 := by have := t.isLt; have h1 : cfg0.N = 1 := N_0; omega
  rw [show (dats m 0 c).Φ t.castSucc = Φ m c (out₀ m c) from by show ΦAt m c t.val = _; rw [ht]; rfl,
    show (dats m 0 c).Φ t.succ = iprop(∃ j : Junk (F := F) c, Φ m c (bodyRun c (X₀ m c) (ini m c) j).1) from by show ΦAt m c (t.val + 1) = _; rfl]
  unfold Dat.owesAt Pipeline.owesWithin
  rw [show (dats m 0 c).owed t.castSucc = 0 from rfl, show (dats m 0 c).owed t.succ = 0 from rfl]
  unfold Φ
  iintro ⟨⟨⟨Hga, Hwk, Hsk, Hwv, Hsv, Hct, Hsn⟩, ⟨Hokc, Hoks, Hovc, Hovs⟩, ⟨⟨%f0, Hwt⟩, ⟨%f1, Hst0⟩, ⟨%f2, Hst1⟩, Hhb, Hkv, ⟨%f5, Hkc⟩, ⟨%f6, Hvc⟩, ⟨%f7, Hks⟩, ⟨%f8, Hvs⟩, ⟨%f9, Hgn⟩, ⟨%f10, Htc⟩, ⟨%f11, Hts⟩, ⟨%f12, Hdk⟩, ⟨%f13, Hdv⟩⟩, Hh6, Hs0, Hs1, Hc⟩, ⟨%W, -, HW⟩, HE⟩
  ihave Hh3 := (Entails.of_eq (homes_zero c (X₀ m c))) $$ Hh6
  icases Hh3 with ⟨Hg0, Hg1, Hh⟩
  sl_rw [prog_eq t]
  iapply ((bodyRun c (X₀ m c) (ini m c) ⟨V m c main_v3_0, V m c main_v3_1, V m c main_v3_2, V m c main_v3_3, f0, f1, f2, ⟨f5, f6, f7, f8⟩, f9, f10, f11, f12, f13⟩).2 W _)
  isplitr [HE]
  · isplitr [Hg0 Hg1 Hh Hs0 Hs1 Hc HW]
    · isplitl [Hga]; · iexact Hga
      isplitl [Hwk]; · iexact Hwk
      isplitl [Hsk]; · iexact Hsk
      isplitl [Hwv]; · iexact Hwv
      isplitl [Hsv]; · iexact Hsv
      isplitl [Hct]; · iexact Hct
      isplitl [Hsn]; · iexact Hsn
      isplitl [Hokc]; · iexact Hokc
      isplitl [Hoks]; · iexact Hoks
      isplitl [Hovc]; · iexact Hovc
      isplitl [Hovs]; · iexact Hovs
      isplitl [Hwt]; · iexact Hwt
      isplitl [Hst0]; · iexact Hst0
      isplitl [Hst1]; · iexact Hst1
      isplitl [Hhb]; · iexact Hhb
      isplitl [Hkv]; · iexact Hkv
      isplitl [Hkc]; · iexact Hkc
      isplitl [Hvc]; · iexact Hvc
      isplitl [Hks]; · iexact Hks
      isplitl [Hvs]; · iexact Hvs
      isplitl [Hgn]; · iexact Hgn
      isplitl [Htc]; · iexact Htc
      isplitl [Hts]; · iexact Hts
      isplitl [Hdk]; · iexact Hdk
      iexact Hdv
    isplitl [Hg0]; · iexact Hg0
    isplitl [Hg1]; · iexact Hg1
    isplitl [Hh]; · iexact Hh
    isplitl [Hs0]; · iexact Hs0
    isplitl [Hs1]; · iexact Hs1
    isplitl [Hc]; · iexact Hc
    iexact HW
  · iintro ⟨Hin, Hout, Hscr, Hh, Hs0, Hs1, Hc, ⟨%W', HW⟩⟩
    isplitr [HW HE]
    · iexists _
      isplitl [Hin]; · iexact Hin
      isplitl [Hout]; · iexact Hout
      isplitl [Hscr]; · iexact Hscr
      isplitl [Hh]; · iexact Hh
      isplitl [Hs0]; · iexact Hs0
      isplitl [Hs1]; · iexact Hs1
      iexact Hc
    isplitl [HW]
    · iexists W'; isplitr; · ipureintro; exact fun _ _ => Or.inl trivial
      iexact HW
    iexact HE

/-! ## The run -/

def intoΦ (c : Dev nD) : sProp 𝕄 :=
  iprop(inP c (ini m c) ∗ outP c (out₀ m c) ∗ bigSep Finset.univ (homeP c (X₀ m c)) ∗ Pipeline.ownSems0 osem c)
def outOfΦ (c : Dev nD) : sProp 𝕄 :=
  iprop(inP c (ini m c) ∗ (((c : Thread nD τ).loc main_arg0) ↦{fullShare} X₀ m c) ∗ ∃ j : Junk (F := F) c, outP c (bodyRun c (X₀ m c) (ini m c) j).1)
def restOf (c : Dev nD) : sProp 𝕄 :=
  iprop((((c : Thread nD τ).loc main_arg1) ↦{fullShare} V m c main_arg1) ∗ (((c : Thread nD τ).loc main_arg2) ↦{fullShare} V m c main_arg2)
    ∗ (((c : Thread nD τ).loc main_arg4) ↦{fullShare} V m c main_arg4))

def u₀ : UU nD τ := (initOf (Pipeline.cells cfgs Cert.KernelIdeal.Gen.cellOf_inj) (Pipeline.launchToks cfgs Cert.KernelIdeal.Gen.cellOf_inj), 1)

/-- The arguments as launched, the results the body's. -/
def QY (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7))
  ∧ ∃ j : Junk (F := F) c,
    s.mem ((c.tc : Thread nD τ).loc main_v3_0) = (bodyRun c (X₀ m c) (ini m c) j).1.kc
    ∧ s.mem ((c.tc : Thread nD τ).loc main_v3_1) = (bodyRun c (X₀ m c) (ini m c) j).1.ks
    ∧ s.mem ((c.tc : Thread nD τ).loc main_v3_2) = (bodyRun c (X₀ m c) (ini m c) j).1.vc
    ∧ s.mem ((c.tc : Thread nD τ).loc main_v3_3) = (bodyRun c (X₀ m c) (ini m c) j).1.vs

theorem hX (c : Dev nD) : iprop(Pipeline.unscopedRest (cfg0.spec) c (V m c) ∗ Pipeline.ownSems0 osem c ∗ levels0 c ∗ prngReg c (ρ c) ∗ (emp : sProp 𝕄))
    ⊢ |={Set.univ}=> iprop(intoΦ m c ∗ restOf m c) := by
  rw [unscopedRest0_eq, x_eq c (X₀ m c)]
  unfold intoΦ restOf
  rw [inP_eq, outP_eq]
  iintro ⟨⟨H0, H1, H2, H3, H4, H5, H6, H7, Hv0, Hv1, Hv2, Ho0, Ho1, Ho2, Ho3⟩, HS, -, -, -⟩; imodintro
  isplitr [H1 H2 H4]
  · isplitl [H3 H5 H6 H7 Hv0 Hv1 Hv2]
    · isplitl [Hv0]; · iexact Hv0
      isplitl [Hv1]; · iexact Hv1
      isplitl [H3]; · iexact H3
      isplitl [Hv2]; · iexact Hv2
      isplitl [H5]; · iexact H5
      isplitl [H6]; · iexact H6
      iexact H7
    isplitl [Ho0 Ho1 Ho2 Ho3]
    · isplitl [Ho0]; · iexact Ho0
      isplitl [Ho1]; · iexact Ho1
      isplitl [Ho2]; · iexact Ho2
      iexact Ho3
    isplitl [H0]; · iexact H0
    iexact HS
  · isplitl [H1]; · iexact H1
    isplitl [H2]; · iexact H2
    iexact H4

theorem hin (c : Dev nD) : iprop(intoΦ m c ∗ Pipeline.scopedRest (cfg0.spec) c) ⊢ (dats (F := F) m 0 c).Φ 0 := by
  rw [show (dats m 0 c).Φ 0 = Φ m c (out₀ m c) from rfl]
  unfold intoΦ Φ; rw [ownSems0_eq]
  iintro ⟨⟨Hi, Ho, Hh, Hc⟩, Hb⟩
  ihave Hs := (scr_split c) $$ Hb
  icases Hs with ⟨Hscr, Hs0, Hs1⟩
  isplitl [Hi]; · iexact Hi
  isplitl [Ho]; · iexact Ho
  isplitl [Hscr]; · iexact Hscr
  isplitl [Hh]; · iexact Hh
  isplitl [Hs0]; · iexact Hs0
  isplitl [Hs1]; · iexact Hs1
  iexact Hc

theorem hout (c : Dev nD) : (dats (F := F) m 0 c).Φ (Fin.last cfg0.N)
    ⊢ iprop(outOfΦ m c ∗ Pipeline.ownSems0 osem c ∗ Pipeline.scopedRest (cfg0.spec) c) := by
  rw [show (dats m 0 c).Φ (Fin.last cfg0.N) = iprop(∃ j : Junk (F := F) c, Φ m c (bodyRun c (X₀ m c) (ini m c) j).1) from by
    show ΦAt m c cfg0.N = _; rw [show cfg0.N = 1 from N_0]; rfl]
  unfold outOfΦ Φ; rw [ownSems0_eq, x_eq c (X₀ m c)]
  iintro ⟨%j, Hi, Ho, Hscr, Hh, Hs0, Hs1, Hc⟩
  isplitl [Hi Ho Hh]
  · isplitl [Hi]; · iexact Hi
    isplitl [Hh]; · iexact Hh
    iexists j; iexact Ho
  isplitl [Hc]; · iexact Hc
  iapply (scr_join c)
  isplitl [Hscr]; · iexact Hscr
  isplitl [Hs0]; · iexact Hs0
  iexact Hs1

theorem hY (c : Dev nD) (s' : Phys nD τ sig (Elt F)) : iprop(outOfΦ m c ∗ restOf m c ∗ SI s') ⊢ |={Set.univ}=> iprop(⌜QY m c s'.mem⌝ ∗ (SI s' : sProp 𝕄)) := by
  unfold outOfΦ restOf
  rw [inP_eq]
  simp only [outP_eq]
  iintro ⟨⟨⟨-, -, H3, -, H5, H6, H7⟩, H0, ⟨%j, O0, O1, O2, O3⟩⟩, ⟨H1, H2, H4⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  icombine HSI O0 gives %g0
  icombine HSI O1 gives %g1
  icombine HSI O2 gives %g2
  icombine HSI O3 gives %g3
  imodintro
  isplitr
  · ipureintro
    exact ⟨⟨(Buf.eq_of_forall_mem_univ h0).trans (V_main_arg0 m c), (Buf.eq_of_forall_mem_univ h1).trans (V_main_arg1 m c),
      (Buf.eq_of_forall_mem_univ h2).trans (V_main_arg2 m c), (Buf.eq_of_forall_mem_univ h3).trans (V_main_arg3 m c),
      (Buf.eq_of_forall_mem_univ h4).trans (V_main_arg4 m c), (Buf.eq_of_forall_mem_univ h5).trans (V_main_arg5 m c),
      (Buf.eq_of_forall_mem_univ h6).trans (V_main_arg6 m c), (Buf.eq_of_forall_mem_univ h7).trans (V_main_arg7 m c)⟩,
      j, Buf.eq_of_forall_mem_univ g0, Buf.eq_of_forall_mem_univ g1, Buf.eq_of_forall_mem_univ g2, Buf.eq_of_forall_mem_univ g3⟩
  iexact HSI

set_option maxHeartbeats 0 in
set_option backward.isDefEq.respectTransparency.types false in
/-- Every run of the program ends with the arguments as launched, the results the body's and every counter at zero. -/
theorem run_main : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := fun c Q => hmainU m c Q)
    (hA := fun _ w => w.elim0)
    (X := intoΦ m) (Y := outOfΦ m) (Z := restOf m)
    (hX := hX m ρ) (hin := hin m) (hout := hout m)
    (QY := QY m) (hY := hY m)
    (hQ := fun _ hh hz => ⟨fun c => (hh c).2, hz⟩)

end Cert.Proof.KernelIdeal

end
-- ==== Proof.Frames.lean ====
/- The frame claims of the two kernels, from what each of their runs leaves (Launch.lean, LaunchIdeal.lean); the
   reference's, which its generated frame states; and the claim about the one named constant of the kernel. -/
module

public import proofs.«01_k».proof.Defs
public import proofs.«01_k».proof.Proof.Launch
public import proofs.«01_k».proof.Proof.LaunchIdeal
public import proofs.«01_k».proof.Proof.Gen.ReferenceIdeal.Frame

@[expose] public section

noncomputable section

namespace Cert.Proof

open Idealize.ShloMosaic Idealize.SL.Sem

attribute [local instance] Cert.Kernel.Gen.facts Cert.KernelIdeal.Gen.facts Cert.ReferenceIdeal.Gen.facts

/-- The kernel runs, leaves its arguments as they were and every counter at zero. -/
theorem frame_kernel : quiescent_Kernel := fun m g _ =>
  (θ_run _ _ _).mono (fun _ h => ⟨fun c => (h.1 c).1, h.2⟩) (Kernel.run_main (F := Bits) m g)

/-- The same of the kernel over the extended reals. -/
theorem frame_ideal : quiescent_KernelIdeal := fun m g _ =>
  (θ_run _ _ _).mono (fun _ h => ⟨fun c => (h.1 c).1, h.2⟩) (KernelIdeal.run_main (F := Ideal) m g)

/-- The same of the reference over the extended reals. -/
theorem frame_reference : quiescent_ReferenceIdeal := fun m g _ => Cert.ReferenceIdeal.Gen.frame m g

/-- The constant that the kernel multiplies the sum of squares by is named 1 / 2304. -/
theorem named_inv_d : preserves_Kernel_KernelIdeal :=
  IdealRules.named_const.statement Cert.KernelIdeal.κ "inv_d" .f32 0x39E38E39#32 ((1 / 2304 : ℝ) : EReal) rfl

end Cert.Proof

end
-- ==== Proof.Quant.lean ====
/- The quantiser and the scale decoder, number by number: the kernel's exponent field, counted against the powers
of two, is frexp's exponent, and its decoder of a scale code is two to the code's exponent. -/
module

public import Idealize.ShloMosaic.Lib.Pointwise
public import Idealize.ShloMosaic.Lib.IndicatorCount
public import proofs.«01_k».proof.ReferenceIdeal
public import proofs.«01_k».proof.KernelIdeal

@[expose] public section

set_option maxRecDepth 16384

noncomputable section

namespace Cert.Proof.Quant

open Idealize.ShloMosaic

/-- A word with exponent field `n` and nothing else set is two to `n - 127`. -/
theorem fields (n : Fin 256) : ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by
  have hn := n.isLt
  have e : (BitVec.ofNat 32 n.val <<< 23).toNat = n.val * 8388608 := by
    rw [BitVec.toNat_shiftLeft, BitVec.toNat_ofNat, Nat.shiftLeft_eq]
    omega
  refine ⟨?_, ?_, ?_⟩
  · rw [beq_eq_false_iff_ne]
    intro h
    have h' := congrArg BitVec.toNat h
    rw [BitVec.extractLsb'_toNat, e, Nat.shiftRight_eq_div_pow] at h'
    norm_num at h'
    omega
  · rw [BitVec.extractLsb'_toNat, e, Nat.shiftRight_eq_div_pow]
    omega
  · rw [BitVec.extractLsb'_toNat, e, Nat.shiftRight_eq_div_pow]
    omega

theorem shl23 (b : BitVec 32) : IntOp.shli .vector b 23#32 = b <<< 23 := by
  unfold IntOp.shli
  rw [if_pos (by decide)]
  rfl

theorem word_pow (n : ℕ) (h1 : 1 ≤ n) (h2 : n ≤ 254) :
    Ideal.ofBits .f32 (IntOp.shli .vector (BitVec.ofNat 32 n) 23#32) = (((2 : ℝ) ^ ((n : ℤ) - 127) : ℝ) : EReal) := by
  rw [shl23]
  obtain ⟨e1, e2, e3⟩ := fields ⟨n, by omega⟩
  dsimp only at e1 e2 e3
  show Ideal.ieee 8 23 _ = _
  unfold Ideal.ieee
  dsimp only
  rw [show (8 + 23 : ℕ) = 31 from rfl, e1, e2, e3, if_neg (by omega), if_neg (by omega)]
  refine congrArg (fun r : ℝ => (r : EReal)) ?_
  norm_num
  rw [show (8388608 : ℝ) = (2 : ℝ) ^ (23 : ℤ) by norm_num, ← zpow_add₀ (by norm_num)]
  refine congrArg (fun z : ℤ => (2 : ℝ) ^ z) ?_
  ring

theorem word_zero : Ideal.ofBits .f32 0x00000000#32 = 0 := by
  simp [Ideal.ofBits, Ideal.ieee]

theorem word_inf : Ideal.ofBits .f32 0x7F800000#32 = ⊤ := by
  simp [Ideal.ofBits, Ideal.ieee]

theorem word_min : Ideal.ofBits .f32 0x00800000#32 = (((2 : ℝ) ^ (-126 : ℤ) : ℝ) : EReal) := by
  have := word_pow 1 (by omega) (by omega)
  rw [shl23] at this
  exact this

theorem word_120 : Ideal.ofBits .f32 0x42F00000#32 = ((120 : ℝ) : EReal) := by
  simp [Ideal.ofBits, Ideal.ieee, -EReal.coe_mul]; norm_num

theorem word_2304 : Ideal.ofBits .f32 0x45100000#32 = ((2304 : ℝ) : EReal) := by
  simp [Ideal.ofBits, Ideal.ieee, -EReal.coe_mul]; norm_num

/-! ## The decoder -/

/-- The kernel's: the code moved into the exponent field. -/
def kdec (b : BitVec 8) : EReal := Ideal.ofBits .f32 (IntOp.shli .vector (BitVec.setWidth 32 b) 23#32)

/-- The reference's: two to the code less the bias, its two ends apart. -/
def rdec (b : BitVec 8) : EReal :=
  Scalar.select (IntOp.cmpi .eq (BitVec.setWidth 32 b) 0#32) 0
    (Scalar.select (IntOp.cmpi .eq (BitVec.setWidth 32 b) 255#32) (Ideal.ofBits .f32 0x7F800000#32)
      (FloatOps.exp2 (F := Ideal) (φ := .f32) (FloatOps.sitofp (F := Ideal) .f32 (IntOp.subi (BitVec.setWidth 32 b) 127#32))))

theorem sub_bias (n : Fin 256) : (BitVec.ofNat 32 n.val - 127#32).toInt = (n.val : ℤ) - 127
    ∧ (IntOp.cmpi .eq (BitVec.ofNat 32 n.val) 0#32 = 1 ↔ n.val = 0) ∧ (IntOp.cmpi .eq (BitVec.ofNat 32 n.val) 255#32 = 1 ↔ n.val = 255) := by
  revert n; decide

theorem exp2_int (z : ℤ) : Ideal.exp2 (((z : ℝ)) : EReal) = (((2 : ℝ) ^ z : ℝ) : EReal) := by
  rw [Ideal.exp2_coe]
  exact congrArg (fun r : ℝ => (r : EReal)) (Real.rpow_intCast 2 z)

theorem kdec_eq (b : BitVec 8) : kdec b = rdec b := by
  have hb : BitVec.setWidth 32 b = BitVec.ofNat 32 b.toNat := by
    apply BitVec.eq_of_toNat_eq; simp
  obtain ⟨e1, e2, e3⟩ := sub_bias ⟨b.toNat, b.isLt⟩
  dsimp only at e1 e2 e3
  unfold kdec rdec Scalar.select
  rw [hb]
  by_cases h0 : b.toNat = 0
  · rw [if_pos (e2.2 h0), h0, shl23]; exact word_zero
  rw [if_neg (mt e2.1 h0)]
  by_cases h5 : b.toNat = 255
  · rw [if_pos (e3.2 h5), h5, shl23]; rfl
  rw [if_neg (mt e3.1 h5), word_pow _ (by omega) (by have := b.isLt; omega)]
  show _ = Ideal.exp2 ((((IntOp.subi (BitVec.ofNat 32 b.toNat) 127#32).toInt : ℝ)) : EReal)
  rw [show IntOp.subi (BitVec.ofNat 32 b.toNat) 127#32 = BitVec.ofNat 32 b.toNat - 127#32 from rfl, e1, exp2_int]

/-! ## The exponent -/

/-- The kernel's count of the powers of two that `y` reaches. -/
def field (y : EReal) : BitVec 32 :=
  Finset.univ.fold IntOp.addi 0#32 fun x : Fin 246 =>
    if Ideal.ofBits .f32 (IntOp.shli .vector (IntOp.addi (BitVec.ofNat 32 x.val) 1#32) 23#32) ≤ y then 1#32 else 0#32

def kfield (y : EReal) : BitVec 32 := Scalar.select (IntOp.cmpi .eq (field y) 0#32) 126#32 (field y)

/-- The kernel's scale, -/
def kscale (y : EReal) : EReal := Ideal.ofBits .f32 (IntOp.shli .vector (IntOp.addi (kfield y) 1#32) 23#32)
/-- and what it multiplies by. -/
def kinv (y : EReal) : EReal := Ideal.ofBits .f32 (IntOp.shli .vector (IntOp.subi 253#32 (kfield y)) 23#32)

/-- The reference's exponent. -/
def rexp (y : EReal) : EReal :=
  if y < Ideal.ofBits .f32 0x00800000#32 then 0
  else min (Ideal.liftRound Int.floor (Ideal.div (Ideal.log y) (Named.named (F := Ideal) (φ := .f32) Cert.ReferenceIdeal.κ "ln2" 0x3F317218#32)) + 1)
    (Ideal.ofBits .f32 0x42F00000#32)

theorem ln2_eq : Named.named (F := Ideal) (φ := .f32) Cert.ReferenceIdeal.κ "ln2" 0x3F317218#32 = ((Real.log 2 : ℝ) : EReal) :=
  IdealRules.named_const.ideal_named_scalar _ _ _ _ rfl

theorem inv_d_eq : Named.named (F := Ideal) (φ := .f32) Cert.KernelIdeal.κ "inv_d" 0x39E38E39#32 = ((1 / 2304 : ℝ) : EReal) :=
  IdealRules.named_const.ideal_named_scalar _ _ _ _ rfl

theorem div_2304 (x : EReal) : Ideal.div x (Ideal.ofBits .f32 0x45100000#32)
    = x * Named.named (F := Ideal) (φ := .f32) Cert.KernelIdeal.κ "inv_d" 0x39E38E39#32 := by
  rw [inv_d_eq, word_2304, Ideal.div_coe (by norm_num)]

theorem pow_le_iff (r : ℝ) (hr : 0 < r) (z : ℤ) : (2 : ℝ) ^ z ≤ r ↔ z ≤ ⌊Real.log r / Real.log 2⌋ := by
  have h2 : 0 < Real.log 2 := Real.log_pos (by norm_num)
  rw [Int.le_floor, le_div_iff₀ h2, ← Real.log_zpow, Real.log_le_log_iff (by positivity) hr]

theorem add_one (x : Fin 246) : IntOp.addi (BitVec.ofNat 32 x.val) 1#32 = BitVec.ofNat 32 (x.val + 1) := by
  show BitVec.ofNat 32 x.val + 1#32 = _
  rw [BitVec.ofNat_add]

theorem power (x : Fin 246) : Ideal.ofBits .f32 (IntOp.shli .vector (IntOp.addi (BitVec.ofNat 32 x.val) 1#32) 23#32)
    = (((2 : ℝ) ^ ((x.val : ℤ) - 126) : ℝ) : EReal) := by
  rw [add_one, word_pow _ (by omega) (by have := x.isLt; omega)]
  exact congrArg (fun z : ℤ => (((2 : ℝ) ^ z : ℝ) : EReal)) (by push_cast; ring)

theorem field_of (y : EReal) (m : ℕ) (hm : m ≤ 246)
    (h : ∀ x : Fin 246, (((2 : ℝ) ^ ((x.val : ℤ) - 126) : ℝ) : EReal) ≤ y ↔ x.val < m) : field y = BitVec.ofNat 32 m := by
  unfold field
  have e : (fun x : Fin 246 =>
    if Ideal.ofBits .f32 (IntOp.shli .vector (IntOp.addi (BitVec.ofNat 32 x.val) 1#32) 23#32) ≤ y then 1#32 else 0#32)
      = fun x : Fin 246 => (BitVec.ofBool (decide (x.val < m))).setWidth 32 := by
    funext x
    rw [power]
    by_cases hx : x.val < m
    · rw [if_pos ((h x).2 hx), decide_eq_true hx]; rfl
    · rw [if_neg (mt (h x).1 hx), decide_eq_false hx]; rfl
  rw [e, IndicatorCount.fold_addi_setWidth_eq_card]
  refine congrArg (BitVec.ofNat 32) ?_
  have e' : (Finset.univ.filter fun x : Fin 246 => BitVec.ofBool (decide (x.val < m)) = 1#1) = Finset.univ.filter fun x : Fin 246 => x.val < m := by
    refine Finset.filter_congr fun x _ => ?_
    by_cases hx : x.val < m
    · simp [hx]
    · simp [hx]
  rw [e', Fin.card_filter_val_lt]
  omega

/-- At a value below the powers the count is nothing; otherwise it is frexp's exponent, moved up by 126. -/
theorem exponent (y : EReal) : ∃ m : ℕ, 1 ≤ m ∧ m ≤ 246 ∧ kfield y = BitVec.ofNat 32 m ∧ rexp y = ((((m : ℤ) - 126 : ℤ) : ℝ) : EReal) := by
  unfold kfield rexp
  rw [word_min, ln2_eq, word_120]
  by_cases hy : y < (((2 : ℝ) ^ (-126 : ℤ) : ℝ) : EReal)
  · refine ⟨126, by omega, by omega, ?_, ?_⟩
    · rw [field_of y 0 (by omega) fun x => ?_]
      · rfl
      · simp only [Nat.not_lt_zero, iff_false, not_le]
        refine lt_of_lt_of_le hy (EReal.coe_le_coe_iff.2 ?_)
        exact zpow_le_zpow_right₀ (by norm_num) (by omega)
    · rw [if_pos hy]; norm_num
  rw [if_neg hy]
  have key : ∃ m : ℕ, 1 ≤ m ∧ m ≤ 246 ∧ (∀ x : Fin 246, (((2 : ℝ) ^ ((x.val : ℤ) - 126) : ℝ) : EReal) ≤ y ↔ x.val < m)
      ∧ min (Ideal.liftRound Int.floor (Ideal.div (Ideal.log y) ((Real.log 2 : ℝ) : EReal)) + 1) ((120 : ℝ) : EReal)
        = ((((m : ℤ) - 126 : ℤ) : ℝ) : EReal) := by
    have h2 : 0 < Real.log 2 := Real.log_pos (by norm_num)
    induction y with
    | bot => exact absurd (EReal.bot_lt_coe _) hy
    | top =>
      refine ⟨246, by omega, by omega, fun x => ⟨fun _ => x.isLt, fun _ => le_top⟩, ?_⟩
      have e : Ideal.div (Ideal.log ⊤) ((Real.log 2 : ℝ) : EReal) = ⊤ := by
        rw [Ideal.div_coe h2.ne']
        show (⊤ : EReal) * _ = ⊤
        exact EReal.top_mul_coe_of_pos (by positivity)
      rw [e]
      show min ((⊤ : EReal) + 1) _ = _
      rw [show ((⊤ : EReal) + 1) = ⊤ from rfl, min_eq_right le_top]
      norm_num
    | coe r =>
      rw [EReal.coe_lt_coe_iff, not_lt] at hy
      have hr : 0 < r := lt_of_lt_of_le (by positivity) hy
      have hf := (pow_le_iff r hr _).1 hy
      have e : Ideal.div (Ideal.log (r : EReal)) ((Real.log 2 : ℝ) : EReal) = ((Real.log r / Real.log 2 : ℝ) : EReal) := by
        rw [Ideal.div_coe h2.ne']
        show (if r ≤ 0 then (⊥ : EReal) else ((Real.log r : ℝ) : EReal)) * _ = _
        rw [if_neg (not_le.2 hr), ← EReal.coe_mul]
        exact congrArg (fun r : ℝ => (r : EReal)) (by rw [mul_one_div])
      generalize hF : ⌊Real.log r / Real.log 2⌋ = f at *
      refine ⟨(min (246 : ℤ) (f + 127)).toNat, by omega, by omega, fun x => ?_, ?_⟩
      · rw [EReal.coe_le_coe_iff, pow_le_iff r hr, hF]
        have := x.isLt
        omega
      · rw [e]
        show min ((((⌊Real.log r / Real.log 2⌋ : ℤ) : ℝ) : EReal) + ((1 : ℝ) : EReal)) _ = _
        rw [hF, ← EReal.coe_add, ← EReal.coe_strictMono.monotone.map_min]
        refine congrArg (fun r : ℝ => (r : EReal)) ?_
        have e' : ((min (246 : ℤ) (f + 127)).toNat : ℤ) = min (246 : ℤ) (f + 127) := by omega
        rw [e']
        have e'' : min ((f : ℝ) + 1) 120 = ((min (f + 1) 120 : ℤ) : ℝ) := by push_cast; rfl
        rw [e'']
        exact congrArg (fun z : ℤ => (z : ℝ)) (by omega)
  obtain ⟨m, h1, h6, hx, hm⟩ := key
  refine ⟨m, h1, h6, ?_, hm⟩
  rw [field_of y m h6 hx]
  unfold Scalar.select
  rw [if_neg]
  have := (sub_bias ⟨m, by omega⟩).2.1
  dsimp only at this
  rw [this]
  omega

theorem kscale_eq (y : EReal) : kscale y = Ideal.exp2 (rexp y) := by
  obtain ⟨m, h1, h6, hk, hr⟩ := exponent y
  unfold kscale
  have e : IntOp.addi (BitVec.ofNat 32 m) 1#32 = BitVec.ofNat 32 (m + 1) := by
    show BitVec.ofNat 32 m + 1#32 = _
    rw [BitVec.ofNat_add]
  rw [hk, hr, exp2_int, e, word_pow _ (by omega) (by omega)]
  exact congrArg (fun z : ℤ => (((2 : ℝ) ^ z : ℝ) : EReal)) (by push_cast; ring)

theorem kinv_eq (y : EReal) : kinv y = Ideal.exp2 (0 - rexp y) := by
  obtain ⟨m, h1, h6, hk, hr⟩ := exponent y
  unfold kinv
  have e : IntOp.subi 253#32 (BitVec.ofNat 32 m) = BitVec.ofNat 32 (253 - m) := by
    show 253#32 - BitVec.ofNat 32 m = _
    apply BitVec.eq_of_toNat_eq
    simp only [BitVec.toNat_sub, BitVec.toNat_ofNat]
    omega
  rw [hk, hr, e, word_pow _ (by omega) (by omega)]
  have e0 : (0 : EReal) - ((((m : ℤ) - 126 : ℤ) : ℝ) : EReal) = (((126 - (m : ℤ) : ℤ) : ℝ) : EReal) := by
    rw [show (0 : EReal) = ((0 : ℝ) : EReal) from rfl, ← EReal.coe_sub]
    refine congrArg (fun r : ℝ => (r : EReal)) ?_
    push_cast
    ring
  rw [e0, exp2_int]
  exact congrArg (fun z : ℤ => (((2 : ℝ) ^ z : ℝ) : EReal)) (by omega)

end Cert.Proof.Quant

end
-- ==== Proof.Spec.lean ====
/- What the key and value half computes, entry by entry: both programs' results are read down to these. -/
module

public import proofs.«01_k».proof.Proof.Quant

@[expose] public section

noncomputable section

namespace Cert.Proof.Spec

open Idealize.ShloMosaic Cert.Proof.Quant

/-- The arguments, by entry: the activations, the norm's gain, the two weights' codes and scale codes, the two tables. -/
structure Args where
  x : Fin 6 → Fin 512 → Fin 2304 → EReal
  g : Fin 2304 → EReal
  wk : Fin 2304 → Fin 480 → EReal
  sk : Fin 72 → Fin 480 → BitVec 8
  wv : Fin 2304 → Fin 480 → EReal
  sv : Fin 72 → Fin 480 → BitVec 8
  ct : Fin 80 → Fin 512 → EReal
  sn : Fin 80 → Fin 512 → EReal

/-- A row divided by its root mean square, times the gain. -/
def norm (x : Fin 2304 → EReal) (g : Fin 2304 → EReal) (n : Fin 2304) : EReal :=
  x n * Ideal.rsqrt ((∑ k, x k * x k) * Named.named (F := Ideal) (φ := .f32) Cert.KernelIdeal.κ "inv_d" 0x39E38E39#32
    + Ideal.ofBits .f32 0x358637BD#32) * g n

/-- A weight: its code times the scale of its block of 32 rows. -/
def weight (w : Fin 2304 → Fin 480 → EReal) (s : Fin 72 → Fin 480 → BitVec 8) (n : Fin 2304) (o : Fin 480) : EReal :=
  w n o * kdec (s ⟨n.val / 32, by omega⟩ o)

/-- A projection of a batch's normed rows, by channel and position. -/
def proj (w : Fin 2304 → Fin 480 → EReal) (s : Fin 72 → Fin 480 → BitVec 8) (x : Fin 512 → Fin 2304 → EReal) (g : Fin 2304 → EReal)
    (o : Fin 480) (i : Fin 512) : EReal :=
  ∑ n, weight w s n o * norm (x i) g n

/-- Channel `a` of head `h`. -/
abbrev chan (h : Fin 3) (a : Fin 160) : Fin 480 := ⟨160 * h.val + a.val, by omega⟩

/-- A value head's channels at a position. -/
def vHead (p : Fin 480 → Fin 512 → EReal) (h : Fin 3) (i : Fin 512) (a : Fin 160) : EReal := p (chan h a) i

/-- A key head's channels at a position, rotated. -/
def kHead (p : Fin 480 → Fin 512 → EReal) (ct sn : Fin 80 → Fin 512 → EReal) (h : Fin 3) (i : Fin 512) (a : Fin 160) : EReal :=
  if ha : a.val < 80 then
    p (chan h ⟨a.val, by omega⟩) i * ct ⟨a.val, ha⟩ i - p (chan h ⟨80 + a.val, by omega⟩) i * sn ⟨a.val, ha⟩ i
  else p (chan h ⟨80 + (a.val - 80), by omega⟩) i * ct ⟨a.val - 80, by omega⟩ i
    + p (chan h ⟨a.val - 80, by omega⟩) i * sn ⟨a.val - 80, by omega⟩ i

/-- The largest magnitude of a head's channels, over 448. -/
def top (v : Fin 160 → EReal) : EReal :=
  (Finset.univ.fold max (Ideal.ofBits .f32 0xFF800000#32) fun k => max (v k) (-(v k))) * Ideal.ofBits .f32 0x3B124925#32

/-- A head's scale -/
def scale (v : Fin 160 → EReal) : EReal := kscale (top v)

/-- and its codes. -/
def code (v : Fin 160 → EReal) (a : Fin 160) : EReal :=
  min (Ideal.ofBits .f32 0x43E00000#32) (max (Ideal.ofBits .f32 0xC3E00000#32) (v a * kinv (top v)))

/-- The codes of all heads, by channel. -/
def codes (head : Fin 3 → Fin 512 → Fin 160 → EReal) (r : Fin 480) (i : Fin 512) : EReal :=
  code (head ⟨r.val / 160, by omega⟩ i) ⟨r.val % 160, by omega⟩

/-- The four results. -/
def kKeys (A : Args) (b : Fin 6) : Fin 3 → Fin 512 → Fin 160 → EReal := kHead (proj A.wk A.sk (A.x b) A.g) A.ct A.sn
def kVals (A : Args) (b : Fin 6) : Fin 3 → Fin 512 → Fin 160 → EReal := vHead (proj A.wv A.sv (A.x b) A.g)

end Cert.Proof.Spec

end
-- ==== Proof.TileIdeal.lean ====
/- One trip of the loop over the batches, entry by entry: what it leaves in the four result buffers, from the
projections' tile buffer. -/
module

public import proofs.«01_k».proof.Proof.LoopIdeal
public import proofs.«01_k».proof.Proof.Spec
public import Idealize.ShloMosaic.Lib.Writes
public import Idealize.ShloMosaic.Lib.Pipeline.FrameBody
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe
open Idealize.SL.Sem
open Cert.Proof.Spec Cert.Proof.Quant

variable [Cert.KernelIdeal.Facts]

/-- What a store of one head's codes writes, -/
def codesT (v : Vec Ideal S160x128 .f32) : Vec Ideal S1x160x128 .fp8e4m3 := k0_pay66 (k0_pay65 v)
/-- what one of its scales writes, -/
def scaleT (v : Vec Ideal S160x128 .f32) : Vec Ideal S1x1x128 .f32 := k0_pay67 (k0_pay64 v)
/-- and its rotated keys. -/
def rotT (t1 t2 v1 v2 : Vec Ideal S80x128 .f32) : Vec Ideal S160x128 .f32 := k0_pay57 t1 t2 v1 v2

theorem scaleT_apply (v : Vec Ideal S160x128 .f32) (j : S1x1x128.Idx) :
    scaleT v j = scale fun a => v (ix2 a (j 2)) := by
  idx_vars j
  pointwise [scaleT, k0_pay67, k0_pay64, k0_pay63]
  rfl

theorem codesT_apply (v : Vec Ideal S160x128 .f32) (j : S1x160x128.Idx) :
    codesT v j = code (fun a => v (ix2 a (j 2))) (j 1) := by
  idx_vars j
  pointwise [codesT, k0_pay66, k0_pay65, k0_pay63]
  rfl

theorem rotT_apply (t1 t2 v1 v2 : Vec Ideal S80x128 .f32) (a : Fin 160) (l : Fin 128) :
    rotT t1 t2 v1 v2 (ix2 a l) = if h : a.val < 80 then v1 (ix2 ⟨a.val, h⟩ l) * t1 (ix2 ⟨a.val, h⟩ l) - v2 (ix2 ⟨a.val, h⟩ l) * t2 (ix2 ⟨a.val, h⟩ l)
      else v2 (ix2 ⟨a.val - 80, by omega⟩ l) * t1 (ix2 ⟨a.val - 80, by omega⟩ l) + v1 (ix2 ⟨a.val - 80, by omega⟩ l) * t2 (ix2 ⟨a.val - 80, by omega⟩ l) := by
  pointwise [rotT, k0_pay57]

section Trip

variable (c : Dev nD) (X : Buf (Elt Ideal) (xM.view.loc (c : Thread nD τ)))
  (W : Buf (Elt Ideal) (wtM.view.loc (c : Thread nD τ))) (G : Buf (Elt Ideal) (gnM.view.loc (c : Thread nD τ)))
  (C : Buf (Elt Ideal) (ctM.view.loc (c : Thread nD τ))) (S : Buf (Elt Ideal) (snM.view.loc (c : Thread nD τ)))
  (k : Fin k0_t1_loop.trips)

/-- The projections of the trip's batch, by channel and position: keys' channels first. -/
def kvP (r : Fin 960) (i : Fin 512) : EReal := tripRun.sl.v766 c X W G k (ix2 r i)

/-- The tables, by entry. -/
def tabC (a : Fin 80) (i : Fin 512) : EReal := View.read (Elt Ideal) ctM.view C (ix2 a i)
def tabS (a : Fin 80) (i : Fin 512) : EReal := View.read (Elt Ideal) snM.view S (ix2 a i)

abbrev keysP : Fin 3 → Fin 512 → Fin 160 → EReal :=
  kHead (fun r => kvP c X W G k ⟨r.val, by omega⟩) (tabC c C) (tabS c S)
abbrev valsP : Fin 3 → Fin 512 → Fin 160 → EReal :=
  vHead fun r => kvP c X W G k ⟨480 + r.val, by omega⟩

/-- A tile of the projections. -/
abbrev kvT (n : ℕ) (r0 l0 : ℕ) (inb : ∀ a, (![r0, l0] : Fin 2 → ℕ) a + (⟨2, ![n, 128]⟩ : Shape).size a ≤ S960x512.size a) :
    Vec Ideal ⟨2, ![n, 128]⟩ .f32 :=
  kvM.view.readCov (tripRun.sl.Hkv_1 c X W G k) (Rect.unit (s := S960x512) ![r0, l0] (⟨2, ![n, 128]⟩ : Shape).size inb).toLoadRect

/-- A tile of a table. -/
abbrev tcT (l0 : ℕ) (inb : ∀ a, (![0, l0] : Fin 2 → ℕ) a + S80x128.size a ≤ S80x512.size a) : Vec Ideal S80x128 .f32 :=
  View.readAt (Elt Ideal) ctM.view (Rect.unit (s := S80x512) ![0, l0] S80x128.size inb).toLoadRect C
abbrev tsT (l0 : ℕ) (inb : ∀ a, (![0, l0] : Fin 2 → ℕ) a + S80x128.size a ≤ S80x512.size a) : Vec Ideal S80x128 .f32 :=
  View.readAt (Elt Ideal) snM.view (Rect.unit (s := S80x512) ![0, l0] S80x128.size inb).toLoadRect S

theorem kvT_apply (n r0 l0 : ℕ) (inb : ∀ a, (![r0, l0] : Fin 2 → ℕ) a + (⟨2, ![n, 128]⟩ : Shape).size a ≤ S960x512.size a)
    (a : Fin n) (l : Fin 128) (hr : r0 + a.val < 960) (hl : l0 + l.val < 512) :
    kvT c X W G k n r0 l0 inb (ix2 a l) = kvP c X W G k ⟨r0 + a.val, hr⟩ ⟨l0 + l.val, hl⟩ := by
  unfold kvT tripRun.sl.Hkv_1
  rw [View.readCov_eq_canon', View.canon_unit_zero (by funext a; fin_cases a <;> rfl)]
  unfold kvP
  refine congrArg _ (funext fun d => Fin.ext ?_)
  fin_cases d
  · show r0 + 1 * a.val = r0 + a.val
    omega
  · show l0 + 1 * l.val = l0 + l.val
    omega

theorem tcT_apply (l0 : ℕ) (inb : ∀ a, (![0, l0] : Fin 2 → ℕ) a + S80x128.size a ≤ S80x512.size a)
    (a : Fin 80) (l : Fin 128) (hl : l0 + l.val < 512) : tcT c C l0 inb (ix2 a l) = tabC c C a ⟨l0 + l.val, hl⟩ := by
  unfold tcT tabC
  refine congrArg (View.read (Elt Ideal) ctM.view C) (funext fun d => Fin.ext ?_)
  fin_cases d
  · show 0 + 1 * a.val = a.val
    omega
  · show l0 + 1 * l.val = l0 + l.val
    omega

theorem tsT_apply (l0 : ℕ) (inb : ∀ a, (![0, l0] : Fin 2 → ℕ) a + S80x128.size a ≤ S80x512.size a)
    (a : Fin 80) (l : Fin 128) (hl : l0 + l.val < 512) : tsT c S l0 inb (ix2 a l) = tabS c S a ⟨l0 + l.val, hl⟩ := by
  unfold tsT tabS
  refine congrArg (View.read (Elt Ideal) snM.view S) (funext fun d => Fin.ext ?_)
  fin_cases d
  · show 0 + 1 * a.val = a.val
    omega
  · show l0 + 1 * l.val = l0 + l.val
    omega

/-- The position `l` of tile `n` of 128. -/
abbrev pos (n : Fin 4) (l : Fin 128) : Fin 512 := ⟨128 * n.val + l.val, by omega⟩

/-- A key head's tile, -/
def rotA (h : Fin 3) (n : Fin 4) : Vec Ideal S160x128 .f32 :=
  rotT (tcT c C (128 * n.val) (by intro a; fin_cases a; · exact le_rfl
                                  · show 128 * n.val + 128 ≤ 512; omega))
    (tsT c S (128 * n.val) (by intro a; fin_cases a; · exact le_rfl
                               · show 128 * n.val + 128 ≤ 512; omega))
    (kvT c X W G k 80 (160 * h.val) (128 * n.val) (by
      intro a; fin_cases a
      · show 160 * h.val + 80 ≤ 960; omega
      · show 128 * n.val + 128 ≤ 512; omega))
    (kvT c X W G k 80 (80 + 160 * h.val) (128 * n.val) (by
      intro a; fin_cases a
      · show 80 + 160 * h.val + 80 ≤ 960; omega
      · show 128 * n.val + 128 ≤ 512; omega))

/-- and a value head's. -/
def valA (h : Fin 3) (n : Fin 4) : Vec Ideal S160x128 .f32 :=
  kvT c X W G k 160 (480 + 160 * h.val) (128 * n.val) (by
      intro a; fin_cases a
      · show 480 + 160 * h.val + 160 ≤ 960; omega
      · show 128 * n.val + 128 ≤ 512; omega)

theorem valA_apply (h : Fin 3) (n : Fin 4) (a : Fin 160) (l : Fin 128) :
    valA c X W G k h n (ix2 a l) = valsP c X W G k h (pos n l) a := by
  unfold valA
  rw [kvT_apply c X W G k 160 _ _ _ a l (by omega) (by omega)]
  unfold valsP vHead
  refine congrFun (congrArg _ (Fin.ext ?_)) _
  show 480 + 160 * h.val + a.val = 480 + (160 * h.val + a.val)
  omega

theorem rotA_apply (h : Fin 3) (n : Fin 4) (a : Fin 160) (l : Fin 128) :
    rotA c X W G C S k h n (ix2 a l) = keysP c X W G C S k h (pos n l) a := by
  unfold rotA
  rw [rotT_apply]
  unfold keysP kHead
  by_cases ha : a.val < 80
  · rw [dif_pos ha, dif_pos ha, kvT_apply c X W G k 80 _ _ _ _ l (by dsimp only; omega) (by omega), kvT_apply c X W G k 80 _ _ _ _ l (by dsimp only; omega) (by omega),
      tcT_apply c C _ _ _ l (by omega), tsT_apply c S _ _ _ l (by omega)]
    refine congrArg₂ (· - ·) (congrArg₂ (· * ·) ?_ rfl) (congrArg₂ (· * ·) ?_ rfl)
    · rfl
    · refine congrFun (congrArg _ (Fin.ext ?_)) _
      show 80 + 160 * h.val + a.val = 160 * h.val + (80 + a.val)
      omega
  · rw [dif_neg ha, dif_neg ha, kvT_apply c X W G k 80 _ _ _ _ l (by dsimp only; omega) (by omega), kvT_apply c X W G k 80 _ _ _ _ l (by dsimp only; omega) (by omega),
      tcT_apply c C _ _ _ l (by omega), tsT_apply c S _ _ _ l (by omega)]
    refine congrArg₂ (· + ·) (congrArg₂ (· * ·) ?_ rfl) (congrArg₂ (· * ·) ?_ rfl)
    · refine congrFun (congrArg _ (Fin.ext ?_)) _
      show 80 + 160 * h.val + (a.val - 80) = 160 * h.val + (80 + (a.val - 80))
      omega
    · rfl

/-- A head's codes over a tile are the codes of its entries, where the store puts them. -/
theorem code_piece (head : Fin 3 → Fin 512 → Fin 160 → EReal) (v : Vec Ideal S160x128 .f32) (h : Fin 3) (n : Fin 4)
    (hv : ∀ a l, v (ix2 a l) = head h (pos n l) a) (off : Fin 3 → ℕ) (hoff : off = ![k.val, 160 * h.val, 128 * n.val])
    (inb : ∀ a, off a + S1x160x128.size a ≤ S6x480x512.size a) (x : S1x160x128.Idx) :
    codesT v x = (fun y : S6x480x512.Idx => codes head (y 1) (y 2)) ((Rect.unit (s := S6x480x512) off S1x160x128.size inb).emb x) := by
  subst hoff
  rw [codesT_apply]
  have e1 : (((Rect.unit (s := S6x480x512) ![k.val, 160 * h.val, 128 * n.val] S1x160x128.size inb).emb x) 1).val = 160 * h.val + (x 1).val := by
    show 160 * h.val + 1 * (x 1).val = _
    omega
  have e2 : (((Rect.unit (s := S6x480x512) ![k.val, 160 * h.val, 128 * n.val] S1x160x128.size inb).emb x) 2).val = 128 * n.val + (x 2).val := by
    show 128 * n.val + 1 * (x 2).val = _
    omega
  have b1 : (x 1).val < 160 := (x 1).isLt
  have b2 : (x 2).val < 128 := (x 2).isLt
  generalize hy : (Rect.unit (s := S6x480x512) ![k.val, 160 * h.val, 128 * n.val] S1x160x128.size inb).emb x = y at *
  show _ = code (head ⟨(y 1).val / 160, _⟩ (y 2)) ⟨(y 1).val % 160, _⟩
  have ea : (⟨(y 1).val % 160, Nat.mod_lt _ (by omega)⟩ : Fin 160) = x 1 := Fin.ext (by show (y 1).val % 160 = _; rw [e1]; omega)
  have eh : (⟨(y 1).val / 160, by have : (y 1).val < 480 := (y 1).isLt; omega⟩ : Fin 3) = h := Fin.ext (by show (y 1).val / 160 = _; rw [e1]; omega)
  have ei : y 2 = pos n (x 2) := Fin.ext e2
  rw [ea, eh, ei]
  exact congrFun (congrArg code (funext fun a => hv a (x 2))) _

/-- And its scales. -/
theorem scale_piece (head : Fin 3 → Fin 512 → Fin 160 → EReal) (v : Vec Ideal S160x128 .f32) (h : Fin 3) (n : Fin 4)
    (hv : ∀ a l, v (ix2 a l) = head h (pos n l) a) (off : Fin 3 → ℕ) (hoff : off = ![k.val, h.val, 128 * n.val])
    (inb : ∀ a, off a + S1x1x128.size a ≤ S6x3x512.size a) (x : S1x1x128.Idx) :
    scaleT v x = (fun y : S6x3x512.Idx => scale (head (y 1) (y 2))) ((Rect.unit (s := S6x3x512) off S1x1x128.size inb).emb x) := by
  subst hoff
  rw [scaleT_apply]
  have b1 : (x 1).val < 1 := (x 1).isLt
  have e1 : ((Rect.unit (s := S6x3x512) ![k.val, h.val, 128 * n.val] S1x1x128.size inb).emb x) 1 = h := Fin.ext (by
    show h.val + 1 * (x 1).val = _
    omega)
  have e2 : ((Rect.unit (s := S6x3x512) ![k.val, h.val, 128 * n.val] S1x1x128.size inb).emb x) 2 = pos n (x 2) := Fin.ext (by
    show 128 * n.val + 1 * (x 2).val = 128 * n.val + (x 2).val
    omega)
  show _ = scale (head _ _)
  rw [e1, e2]
  exact congrArg scale (funext fun a => hv a (x 2))

/-- An entry in a piece of the trip's batch, -/
theorem mem_unit {n1 n2 : ℕ} {o1 o2 m1 m2 : ℕ} (off' : Fin 3 → ℕ) (hoff : off' = ![k.val, o1, o2])
    (inb : ∀ a, off' a + (⟨3, ![1, m1, m2]⟩ : Shape).size a ≤ (⟨3, ![6, n1, n2]⟩ : Shape).size a)
    (y : (⟨3, ![6, n1, n2]⟩ : Shape).Idx) (hy : (y 0).val = k.val) (h1 : o1 ≤ (y 1).val ∧ (y 1).val < o1 + m1)
    (h2 : o2 ≤ (y 2).val ∧ (y 2).val < o2 + m2) :
    y ∈ (Rect.unit (s := ⟨3, ![6, n1, n2]⟩) off' (⟨3, ![1, m1, m2]⟩ : Shape).size inb).set := by
  subst hoff
  refine (Rect.unit (s := ⟨3, ![6, n1, n2]⟩) _ (⟨3, ![1, m1, m2]⟩ : Shape).size inb).mem_set.mpr fun a => ?_
  fin_cases a
  · exact ⟨0, Nat.one_pos, by show (y 0).val = k.val + 1 * 0; omega⟩
  · exact ⟨(y 1).val - o1, by show (y 1).val - o1 < m1; omega, by show (y 1).val = o1 + 1 * ((y 1).val - o1); omega⟩
  · exact ⟨(y 2).val - o2, by show (y 2).val - o2 < m2; omega, by show (y 2).val = o2 + 1 * ((y 2).val - o2); omega⟩

/-- and one of another batch. -/
theorem not_mem_unit {n1 n2 : ℕ} {o1 o2 m1 m2 : ℕ} (off' : Fin 3 → ℕ) (hoff : off' = ![k.val, o1, o2])
    (inb : ∀ a, off' a + (⟨3, ![1, m1, m2]⟩ : Shape).size a ≤ (⟨3, ![6, n1, n2]⟩ : Shape).size a)
    (y : (⟨3, ![6, n1, n2]⟩ : Shape).Idx) (hy : (y 0).val ≠ k.val) :
    y ∉ (Rect.unit (s := ⟨3, ![6, n1, n2]⟩) off' (⟨3, ![1, m1, m2]⟩ : Shape).size inb).set := by
  subst hoff
  exact Rect.not_mem_set_of_axis _ y 0 k.val 1 rfl rfl rfl (by omega)

/-- The trip's pieces of `kc`. -/
theorem kc_here (c0 c1 : BitVec 32) (a : Res (F := Ideal) c) (y : S6x480x512.Idx) (hy : (y 0).val = k.val) :
    View.read (Elt Ideal) kcM.view (tripRun c X W G C S c0 c1 k a).1.kc y = (fun y : S6x480x512.Idx => codes (keysP c X W G C S k) (y 1) (y 2)) y := by
  dsimp only [tripRun]
  refine View.read_writes_apply_of_pieces (Val := Elt Ideal) kcM.view _ (fun y : S6x480x512.Idx => codes (keysP c X W G C S k) (y 1) (y 2)) _ ?_ y ?_
  · intro p hp
    simp only [List.mem_cons, List.not_mem_nil, or_false] at hp
    rcases hp with rfl | rfl | rfl | rfl | rfl | rfl | rfl | rfl | rfl | rfl | rfl | rfl
    · exact code_piece k (keysP c X W G C S k) (rotA c X W G C S k 2 3) 2 3 (rotA_apply c X W G C S k 2 3) _ (off61_eq k) (k0_off61_inb k)
    · exact code_piece k (keysP c X W G C S k) (rotA c X W G C S k 1 3) 1 3 (rotA_apply c X W G C S k 1 3) _ (off59_eq k) (k0_off59_inb k)
    · exact code_piece k (keysP c X W G C S k) (rotA c X W G C S k 0 3) 0 3 (rotA_apply c X W G C S k 0 3) _ (off57_eq k) (k0_off57_inb k)
    · exact code_piece k (keysP c X W G C S k) (rotA c X W G C S k 2 2) 2 2 (rotA_apply c X W G C S k 2 2) _ (off55_eq k) (k0_off55_inb k)
    · exact code_piece k (keysP c X W G C S k) (rotA c X W G C S k 1 2) 1 2 (rotA_apply c X W G C S k 1 2) _ (off53_eq k) (k0_off53_inb k)
    · exact code_piece k (keysP c X W G C S k) (rotA c X W G C S k 0 2) 0 2 (rotA_apply c X W G C S k 0 2) _ (off51_eq k) (k0_off51_inb k)
    · exact code_piece k (keysP c X W G C S k) (rotA c X W G C S k 2 1) 2 1 (rotA_apply c X W G C S k 2 1) _ (off49_eq k) (k0_off49_inb k)
    · exact code_piece k (keysP c X W G C S k) (rotA c X W G C S k 1 1) 1 1 (rotA_apply c X W G C S k 1 1) _ (off47_eq k) (k0_off47_inb k)
    · exact code_piece k (keysP c X W G C S k) (rotA c X W G C S k 0 1) 0 1 (rotA_apply c X W G C S k 0 1) _ (off45_eq k) (k0_off45_inb k)
    · exact code_piece k (keysP c X W G C S k) (rotA c X W G C S k 2 0) 2 0 (rotA_apply c X W G C S k 2 0) _ (off43_eq k) (k0_off43_inb k)
    · exact code_piece k (keysP c X W G C S k) (rotA c X W G C S k 1 0) 1 0 (rotA_apply c X W G C S k 1 0) _ (off41_eq k) (k0_off41_inb k)
    · exact code_piece k (keysP c X W G C S k) (rotA c X W G C S k 0 0) 0 0 (rotA_apply c X W G C S k 0 0) _ (off39_eq k) (k0_off39_inb k)
  · have b1 : (y 1).val < 480 := (y 1).isLt
    have b2 : (y 2).val < 512 := (y 2).isLt
    have hh : (320 ≤ (y 1).val ∧ (y 1).val < 480 ∧ 384 ≤ (y 2).val ∧ (y 2).val < 512) ∨ (160 ≤ (y 1).val ∧ (y 1).val < 320 ∧ 384 ≤ (y 2).val ∧ (y 2).val < 512) ∨ (0 ≤ (y 1).val ∧ (y 1).val < 160 ∧ 384 ≤ (y 2).val ∧ (y 2).val < 512) ∨ (320 ≤ (y 1).val ∧ (y 1).val < 480 ∧ 256 ≤ (y 2).val ∧ (y 2).val < 384) ∨ (160 ≤ (y 1).val ∧ (y 1).val < 320 ∧ 256 ≤ (y 2).val ∧ (y 2).val < 384) ∨ (0 ≤ (y 1).val ∧ (y 1).val < 160 ∧ 256 ≤ (y 2).val ∧ (y 2).val < 384) ∨ (320 ≤ (y 1).val ∧ (y 1).val < 480 ∧ 128 ≤ (y 2).val ∧ (y 2).val < 256) ∨ (160 ≤ (y 1).val ∧ (y 1).val < 320 ∧ 128 ≤ (y 2).val ∧ (y 2).val < 256) ∨ (0 ≤ (y 1).val ∧ (y 1).val < 160 ∧ 128 ≤ (y 2).val ∧ (y 2).val < 256) ∨ (320 ≤ (y 1).val ∧ (y 1).val < 480 ∧ 0 ≤ (y 2).val ∧ (y 2).val < 128) ∨ (160 ≤ (y 1).val ∧ (y 1).val < 320 ∧ 0 ≤ (y 2).val ∧ (y 2).val < 128) ∨ (0 ≤ (y 1).val ∧ (y 1).val < 160 ∧ 0 ≤ (y 2).val ∧ (y 2).val < 128) := by omega
    rcases hh with hh | hh | hh | hh | hh | hh | hh | hh | hh | hh | hh | hh
    · refine ⟨_, List.mem_cons_self, mem_unit k _ (off61_eq k) (k0_off61_inb k) y hy ?_ ?_⟩ <;> omega
    · refine ⟨_, List.mem_cons_of_mem _ (List.mem_cons_self), mem_unit k _ (off59_eq k) (k0_off59_inb k) y hy ?_ ?_⟩ <;> omega
    · refine ⟨_, List.mem_cons_of_mem _ (List.mem_cons_of_mem _ (List.mem_cons_self)), mem_unit k _ (off57_eq k) (k0_off57_inb k) y hy ?_ ?_⟩ <;> omega
    · refine ⟨_, List.mem_cons_of_mem _ (List.mem_cons_of_mem _ (List.mem_cons_of_mem _ (List.mem_cons_self))), mem_unit k _ (off55_eq k) (k0_off55_inb k) y hy ?_ ?_⟩ <;> omega
    · refine ⟨_, List.mem_cons_of_mem _ (List.mem_cons_of_mem _ (List.mem_cons_of_mem _ (List.mem_cons_of_mem _ (List.mem_cons_self)))), mem_unit k _ (off53_eq k) (k0_off53_inb k) y hy ?_ ?_⟩ <;> omega
    · refine ⟨_, List.mem_cons_of_mem _ (List.mem_cons_of_mem _ (List.mem_cons_of_mem _ (List.mem_cons_of_mem _ (List.mem_cons_of_mem _ (List.mem_cons_self))))), mem_unit k _ (off51_eq k) (k0_off51_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_self)))))), mem_unit k _ (off49_eq k) (k0_off49_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_unit k _ (off47_eq k) (k0_off47_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_unit k _ (off45_eq k) (k0_off45_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_unit k _ (off43_eq k) (k0_off43_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_unit k _ (off41_eq k) (k0_off41_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_unit k _ (off39_eq k) (k0_off39_inb k) y hy ?_ ?_⟩ <;> omega

/-- Off its batch the trip keeps `kc`. -/
theorem kc_else (c0 c1 : BitVec 32) (a : Res (F := Ideal) c) (y : S6x480x512.Idx) (hy : (y 0).val ≠ k.val) :
    View.read (Elt Ideal) kcM.view (tripRun c X W G C S c0 c1 k a).1.kc y = View.read (Elt Ideal) kcM.view a.kc y := by
  dsimp only [tripRun]
  refine View.read_writes_apply_of_forall_not_mem kcM.view _ y _ ?_
  intro p hp
  simp only [List.mem_cons, List.not_mem_nil, or_false] at hp
  rcases hp with rfl | rfl | rfl | rfl | rfl | rfl | rfl | rfl | rfl | rfl | rfl | rfl
  · exact not_mem_unit k _ (off61_eq k) (k0_off61_inb k) y hy
  · exact not_mem_unit k _ (off59_eq k) (k0_off59_inb k) y hy
  · exact not_mem_unit k _ (off57_eq k) (k0_off57_inb k) y hy
  · exact not_mem_unit k _ (off55_eq k) (k0_off55_inb k) y hy
  · exact not_mem_unit k _ (off53_eq k) (k0_off53_inb k) y hy
  · exact not_mem_unit k _ (off51_eq k) (k0_off51_inb k) y hy
  · exact not_mem_unit k _ (off49_eq k) (k0_off49_inb k) y hy
  · exact not_mem_unit k _ (off47_eq k) (k0_off47_inb k) y hy
  · exact not_mem_unit k _ (off45_eq k) (k0_off45_inb k) y hy
  · exact not_mem_unit k _ (off43_eq k) (k0_off43_inb k) y hy
  · exact not_mem_unit k _ (off41_eq k) (k0_off41_inb k) y hy
  · exact not_mem_unit k _ (off39_eq k) (k0_off39_inb k) y hy

/-- The trip's pieces of `vc`. -/
theorem vc_here (c0 c1 : BitVec 32) (a : Res (F := Ideal) c) (y : S6x480x512.Idx) (hy : (y 0).val = k.val) :
    View.read (Elt Ideal) vcM.view (tripRun c X W G C S c0 c1 k a).1.vc y = (fun y : S6x480x512.Idx => codes (valsP c X W G k) (y 1) (y 2)) y := by
  dsimp only [tripRun]
  refine View.read_writes_apply_of_pieces (Val := Elt Ideal) vcM.view _ (fun y : S6x480x512.Idx => codes (valsP c X W G k) (y 1) (y 2)) _ ?_ y ?_
  · intro p hp
    simp only [List.mem_cons, List.not_mem_nil, or_false] at hp
    rcases hp with rfl | rfl | rfl | rfl | rfl | rfl | rfl | rfl | rfl | rfl | rfl | rfl
    · exact code_piece k (valsP c X W G k) (valA c X W G k 2 3) 2 3 (valA_apply c X W G k 2 3) _ (off61_eq k) (k0_off61_inb k)
    · exact code_piece k (valsP c X W G k) (valA c X W G k 1 3) 1 3 (valA_apply c X W G k 1 3) _ (off59_eq k) (k0_off59_inb k)
    · exact code_piece k (valsP c X W G k) (valA c X W G k 0 3) 0 3 (valA_apply c X W G k 0 3) _ (off57_eq k) (k0_off57_inb k)
    · exact code_piece k (valsP c X W G k) (valA c X W G k 2 2) 2 2 (valA_apply c X W G k 2 2) _ (off55_eq k) (k0_off55_inb k)
    · exact code_piece k (valsP c X W G k) (valA c X W G k 1 2) 1 2 (valA_apply c X W G k 1 2) _ (off53_eq k) (k0_off53_inb k)
    · exact code_piece k (valsP c X W G k) (valA c X W G k 0 2) 0 2 (valA_apply c X W G k 0 2) _ (off51_eq k) (k0_off51_inb k)
    · exact code_piece k (valsP c X W G k) (valA c X W G k 2 1) 2 1 (valA_apply c X W G k 2 1) _ (off49_eq k) (k0_off49_inb k)
    · exact code_piece k (valsP c X W G k) (valA c X W G k 1 1) 1 1 (valA_apply c X W G k 1 1) _ (off47_eq k) (k0_off47_inb k)
    · exact code_piece k (valsP c X W G k) (valA c X W G k 0 1) 0 1 (valA_apply c X W G k 0 1) _ (off45_eq k) (k0_off45_inb k)
    · exact code_piece k (valsP c X W G k) (valA c X W G k 2 0) 2 0 (valA_apply c X W G k 2 0) _ (off43_eq k) (k0_off43_inb k)
    · exact code_piece k (valsP c X W G k) (valA c X W G k 1 0) 1 0 (valA_apply c X W G k 1 0) _ (off41_eq k) (k0_off41_inb k)
    · exact code_piece k (valsP c X W G k) (valA c X W G k 0 0) 0 0 (valA_apply c X W G k 0 0) _ (off39_eq k) (k0_off39_inb k)
  · have b1 : (y 1).val < 480 := (y 1).isLt
    have b2 : (y 2).val < 512 := (y 2).isLt
    have hh : (320 ≤ (y 1).val ∧ (y 1).val < 480 ∧ 384 ≤ (y 2).val ∧ (y 2).val < 512) ∨ (160 ≤ (y 1).val ∧ (y 1).val < 320 ∧ 384 ≤ (y 2).val ∧ (y 2).val < 512) ∨ (0 ≤ (y 1).val ∧ (y 1).val < 160 ∧ 384 ≤ (y 2).val ∧ (y 2).val < 512) ∨ (320 ≤ (y 1).val ∧ (y 1).val < 480 ∧ 256 ≤ (y 2).val ∧ (y 2).val < 384) ∨ (160 ≤ (y 1).val ∧ (y 1).val < 320 ∧ 256 ≤ (y 2).val ∧ (y 2).val < 384) ∨ (0 ≤ (y 1).val ∧ (y 1).val < 160 ∧ 256 ≤ (y 2).val ∧ (y 2).val < 384) ∨ (320 ≤ (y 1).val ∧ (y 1).val < 480 ∧ 128 ≤ (y 2).val ∧ (y 2).val < 256) ∨ (160 ≤ (y 1).val ∧ (y 1).val < 320 ∧ 128 ≤ (y 2).val ∧ (y 2).val < 256) ∨ (0 ≤ (y 1).val ∧ (y 1).val < 160 ∧ 128 ≤ (y 2).val ∧ (y 2).val < 256) ∨ (320 ≤ (y 1).val ∧ (y 1).val < 480 ∧ 0 ≤ (y 2).val ∧ (y 2).val < 128) ∨ (160 ≤ (y 1).val ∧ (y 1).val < 320 ∧ 0 ≤ (y 2).val ∧ (y 2).val < 128) ∨ (0 ≤ (y 1).val ∧ (y 1).val < 160 ∧ 0 ≤ (y 2).val ∧ (y 2).val < 128) := by omega
    rcases hh with hh | hh | hh | hh | hh | hh | hh | hh | hh | hh | hh | hh
    · refine ⟨_, List.mem_cons_self, mem_unit k _ (off61_eq k) (k0_off61_inb k) y hy ?_ ?_⟩ <;> omega
    · refine ⟨_, List.mem_cons_of_mem _ (List.mem_cons_self), mem_unit k _ (off59_eq k) (k0_off59_inb k) y hy ?_ ?_⟩ <;> omega
    · refine ⟨_, List.mem_cons_of_mem _ (List.mem_cons_of_mem _ (List.mem_cons_self)), mem_unit k _ (off57_eq k) (k0_off57_inb k) y hy ?_ ?_⟩ <;> omega
    · refine ⟨_, List.mem_cons_of_mem _ (List.mem_cons_of_mem _ (List.mem_cons_of_mem _ (List.mem_cons_self))), mem_unit k _ (off55_eq k) (k0_off55_inb k) y hy ?_ ?_⟩ <;> omega
    · refine ⟨_, List.mem_cons_of_mem _ (List.mem_cons_of_mem _ (List.mem_cons_of_mem _ (List.mem_cons_of_mem _ (List.mem_cons_self)))), mem_unit k _ (off53_eq k) (k0_off53_inb k) y hy ?_ ?_⟩ <;> omega
    · refine ⟨_, List.mem_cons_of_mem _ (List.mem_cons_of_mem _ (List.mem_cons_of_mem _ (List.mem_cons_of_mem _ (List.mem_cons_of_mem _ (List.mem_cons_self))))), mem_unit k _ (off51_eq k) (k0_off51_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_self)))))), mem_unit k _ (off49_eq k) (k0_off49_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_unit k _ (off47_eq k) (k0_off47_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_unit k _ (off45_eq k) (k0_off45_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_unit k _ (off43_eq k) (k0_off43_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_unit k _ (off41_eq k) (k0_off41_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_unit k _ (off39_eq k) (k0_off39_inb k) y hy ?_ ?_⟩ <;> omega

/-- Off its batch the trip keeps `vc`. -/
theorem vc_else (c0 c1 : BitVec 32) (a : Res (F := Ideal) c) (y : S6x480x512.Idx) (hy : (y 0).val ≠ k.val) :
    View.read (Elt Ideal) vcM.view (tripRun c X W G C S c0 c1 k a).1.vc y = View.read (Elt Ideal) vcM.view a.vc y := by
  dsimp only [tripRun]
  refine View.read_writes_apply_of_forall_not_mem vcM.view _ y _ ?_
  intro p hp
  simp only [List.mem_cons, List.not_mem_nil, or_false] at hp
  rcases hp with rfl | rfl | rfl | rfl | rfl | rfl | rfl | rfl | rfl | rfl | rfl | rfl
  · exact not_mem_unit k _ (off61_eq k) (k0_off61_inb k) y hy
  · exact not_mem_unit k _ (off59_eq k) (k0_off59_inb k) y hy
  · exact not_mem_unit k _ (off57_eq k) (k0_off57_inb k) y hy
  · exact not_mem_unit k _ (off55_eq k) (k0_off55_inb k) y hy
  · exact not_mem_unit k _ (off53_eq k) (k0_off53_inb k) y hy
  · exact not_mem_unit k _ (off51_eq k) (k0_off51_inb k) y hy
  · exact not_mem_unit k _ (off49_eq k) (k0_off49_inb k) y hy
  · exact not_mem_unit k _ (off47_eq k) (k0_off47_inb k) y hy
  · exact not_mem_unit k _ (off45_eq k) (k0_off45_inb k) y hy
  · exact not_mem_unit k _ (off43_eq k) (k0_off43_inb k) y hy
  · exact not_mem_unit k _ (off41_eq k) (k0_off41_inb k) y hy
  · exact not_mem_unit k _ (off39_eq k) (k0_off39_inb k) y hy

/-- The trip's pieces of `ks`. -/
theorem ks_here (c0 c1 : BitVec 32) (a : Res (F := Ideal) c) (y : S6x3x512.Idx) (hy : (y 0).val = k.val) :
    View.read (Elt Ideal) ksM.view (tripRun c X W G C S c0 c1 k a).1.ks y = (fun y : S6x3x512.Idx => scale ((keysP c X W G C S k) (y 1) (y 2))) y := by
  dsimp only [tripRun]
  refine View.read_writes_apply_of_pieces (Val := Elt Ideal) ksM.view _ (fun y : S6x3x512.Idx => scale ((keysP c X W G C S k) (y 1) (y 2))) _ ?_ y ?_
  · intro p hp
    simp only [List.mem_cons, List.not_mem_nil, or_false] at hp
    rcases hp with rfl | rfl | rfl | rfl | rfl | rfl | rfl | rfl | rfl | rfl | rfl | rfl
    · exact scale_piece k (keysP c X W G C S k) (rotA c X W G C S k 2 3) 2 3 (rotA_apply c X W G C S k 2 3) _ (off62_eq k) (k0_off62_inb k)
    · exact scale_piece k (keysP c X W G C S k) (rotA c X W G C S k 1 3) 1 3 (rotA_apply c X W G C S k 1 3) _ (off60_eq k) (k0_off60_inb k)
    · exact scale_piece k (keysP c X W G C S k) (rotA c X W G C S k 0 3) 0 3 (rotA_apply c X W G C S k 0 3) _ (off58_eq k) (k0_off58_inb k)
    · exact scale_piece k (keysP c X W G C S k) (rotA c X W G C S k 2 2) 2 2 (rotA_apply c X W G C S k 2 2) _ (off56_eq k) (k0_off56_inb k)
    · exact scale_piece k (keysP c X W G C S k) (rotA c X W G C S k 1 2) 1 2 (rotA_apply c X W G C S k 1 2) _ (off54_eq k) (k0_off54_inb k)
    · exact scale_piece k (keysP c X W G C S k) (rotA c X W G C S k 0 2) 0 2 (rotA_apply c X W G C S k 0 2) _ (off52_eq k) (k0_off52_inb k)
    · exact scale_piece k (keysP c X W G C S k) (rotA c X W G C S k 2 1) 2 1 (rotA_apply c X W G C S k 2 1) _ (off50_eq k) (k0_off50_inb k)
    · exact scale_piece k (keysP c X W G C S k) (rotA c X W G C S k 1 1) 1 1 (rotA_apply c X W G C S k 1 1) _ (off48_eq k) (k0_off48_inb k)
    · exact scale_piece k (keysP c X W G C S k) (rotA c X W G C S k 0 1) 0 1 (rotA_apply c X W G C S k 0 1) _ (off46_eq k) (k0_off46_inb k)
    · exact scale_piece k (keysP c X W G C S k) (rotA c X W G C S k 2 0) 2 0 (rotA_apply c X W G C S k 2 0) _ (off44_eq k) (k0_off44_inb k)
    · exact scale_piece k (keysP c X W G C S k) (rotA c X W G C S k 1 0) 1 0 (rotA_apply c X W G C S k 1 0) _ (off42_eq k) (k0_off42_inb k)
    · exact scale_piece k (keysP c X W G C S k) (rotA c X W G C S k 0 0) 0 0 (rotA_apply c X W G C S k 0 0) _ (off40_eq k) (k0_off40_inb k)
  · have b1 : (y 1).val < 3 := (y 1).isLt
    have b2 : (y 2).val < 512 := (y 2).isLt
    have hh : (2 ≤ (y 1).val ∧ (y 1).val < 3 ∧ 384 ≤ (y 2).val ∧ (y 2).val < 512) ∨ (1 ≤ (y 1).val ∧ (y 1).val < 2 ∧ 384 ≤ (y 2).val ∧ (y 2).val < 512) ∨ (0 ≤ (y 1).val ∧ (y 1).val < 1 ∧ 384 ≤ (y 2).val ∧ (y 2).val < 512) ∨ (2 ≤ (y 1).val ∧ (y 1).val < 3 ∧ 256 ≤ (y 2).val ∧ (y 2).val < 384) ∨ (1 ≤ (y 1).val ∧ (y 1).val < 2 ∧ 256 ≤ (y 2).val ∧ (y 2).val < 384) ∨ (0 ≤ (y 1).val ∧ (y 1).val < 1 ∧ 256 ≤ (y 2).val ∧ (y 2).val < 384) ∨ (2 ≤ (y 1).val ∧ (y 1).val < 3 ∧ 128 ≤ (y 2).val ∧ (y 2).val < 256) ∨ (1 ≤ (y 1).val ∧ (y 1).val < 2 ∧ 128 ≤ (y 2).val ∧ (y 2).val < 256) ∨ (0 ≤ (y 1).val ∧ (y 1).val < 1 ∧ 128 ≤ (y 2).val ∧ (y 2).val < 256) ∨ (2 ≤ (y 1).val ∧ (y 1).val < 3 ∧ 0 ≤ (y 2).val ∧ (y 2).val < 128) ∨ (1 ≤ (y 1).val ∧ (y 1).val < 2 ∧ 0 ≤ (y 2).val ∧ (y 2).val < 128) ∨ (0 ≤ (y 1).val ∧ (y 1).val < 1 ∧ 0 ≤ (y 2).val ∧ (y 2).val < 128) := by omega
    rcases hh with hh | hh | hh | hh | hh | hh | hh | hh | hh | hh | hh | hh
    · refine ⟨_, List.mem_cons_self, mem_unit k _ (off62_eq k) (k0_off62_inb k) y hy ?_ ?_⟩ <;> omega
    · refine ⟨_, List.mem_cons_of_mem _ (List.mem_cons_self), mem_unit k _ (off60_eq k) (k0_off60_inb k) y hy ?_ ?_⟩ <;> omega
    · refine ⟨_, List.mem_cons_of_mem _ (List.mem_cons_of_mem _ (List.mem_cons_self)), mem_unit k _ (off58_eq k) (k0_off58_inb k) y hy ?_ ?_⟩ <;> omega
    · refine ⟨_, List.mem_cons_of_mem _ (List.mem_cons_of_mem _ (List.mem_cons_of_mem _ (List.mem_cons_self))), mem_unit k _ (off56_eq k) (k0_off56_inb k) y hy ?_ ?_⟩ <;> omega
    · refine ⟨_, List.mem_cons_of_mem _ (List.mem_cons_of_mem _ (List.mem_cons_of_mem _ (List.mem_cons_of_mem _ (List.mem_cons_self)))), mem_unit k _ (off54_eq k) (k0_off54_inb k) y hy ?_ ?_⟩ <;> omega
    · refine ⟨_, List.mem_cons_of_mem _ (List.mem_cons_of_mem _ (List.mem_cons_of_mem _ (List.mem_cons_of_mem _ (List.mem_cons_of_mem _ (List.mem_cons_self))))), mem_unit k _ (off52_eq k) (k0_off52_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_self)))))), mem_unit k _ (off50_eq k) (k0_off50_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_unit k _ (off48_eq k) (k0_off48_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_unit k _ (off46_eq k) (k0_off46_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_unit k _ (off44_eq k) (k0_off44_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_unit k _ (off42_eq k) (k0_off42_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_unit k _ (off40_eq k) (k0_off40_inb k) y hy ?_ ?_⟩ <;> omega

/-- Off its batch the trip keeps `ks`. -/
theorem ks_else (c0 c1 : BitVec 32) (a : Res (F := Ideal) c) (y : S6x3x512.Idx) (hy : (y 0).val ≠ k.val) :
    View.read (Elt Ideal) ksM.view (tripRun c X W G C S c0 c1 k a).1.ks y = View.read (Elt Ideal) ksM.view a.ks y := by
  dsimp only [tripRun]
  refine View.read_writes_apply_of_forall_not_mem ksM.view _ y _ ?_
  intro p hp
  simp only [List.mem_cons, List.not_mem_nil, or_false] at hp
  rcases hp with rfl | rfl | rfl | rfl | rfl | rfl | rfl | rfl | rfl | rfl | rfl | rfl
  · exact not_mem_unit k _ (off62_eq k) (k0_off62_inb k) y hy
  · exact not_mem_unit k _ (off60_eq k) (k0_off60_inb k) y hy
  · exact not_mem_unit k _ (off58_eq k) (k0_off58_inb k) y hy
  · exact not_mem_unit k _ (off56_eq k) (k0_off56_inb k) y hy
  · exact not_mem_unit k _ (off54_eq k) (k0_off54_inb k) y hy
  · exact not_mem_unit k _ (off52_eq k) (k0_off52_inb k) y hy
  · exact not_mem_unit k _ (off50_eq k) (k0_off50_inb k) y hy
  · exact not_mem_unit k _ (off48_eq k) (k0_off48_inb k) y hy
  · exact not_mem_unit k _ (off46_eq k) (k0_off46_inb k) y hy
  · exact not_mem_unit k _ (off44_eq k) (k0_off44_inb k) y hy
  · exact not_mem_unit k _ (off42_eq k) (k0_off42_inb k) y hy
  · exact not_mem_unit k _ (off40_eq k) (k0_off40_inb k) y hy

/-- The trip's pieces of `vs`. -/
theorem vs_here (c0 c1 : BitVec 32) (a : Res (F := Ideal) c) (y : S6x3x512.Idx) (hy : (y 0).val = k.val) :
    View.read (Elt Ideal) vsM.view (tripRun c X W G C S c0 c1 k a).1.vs y = (fun y : S6x3x512.Idx => scale ((valsP c X W G k) (y 1) (y 2))) y := by
  dsimp only [tripRun]
  refine View.read_writes_apply_of_pieces (Val := Elt Ideal) vsM.view _ (fun y : S6x3x512.Idx => scale ((valsP c X W G k) (y 1) (y 2))) _ ?_ y ?_
  · intro p hp
    simp only [List.mem_cons, List.not_mem_nil, or_false] at hp
    rcases hp with rfl | rfl | rfl | rfl | rfl | rfl | rfl | rfl | rfl | rfl | rfl | rfl
    · exact scale_piece k (valsP c X W G k) (valA c X W G k 2 3) 2 3 (valA_apply c X W G k 2 3) _ (off62_eq k) (k0_off62_inb k)
    · exact scale_piece k (valsP c X W G k) (valA c X W G k 1 3) 1 3 (valA_apply c X W G k 1 3) _ (off60_eq k) (k0_off60_inb k)
    · exact scale_piece k (valsP c X W G k) (valA c X W G k 0 3) 0 3 (valA_apply c X W G k 0 3) _ (off58_eq k) (k0_off58_inb k)
    · exact scale_piece k (valsP c X W G k) (valA c X W G k 2 2) 2 2 (valA_apply c X W G k 2 2) _ (off56_eq k) (k0_off56_inb k)
    · exact scale_piece k (valsP c X W G k) (valA c X W G k 1 2) 1 2 (valA_apply c X W G k 1 2) _ (off54_eq k) (k0_off54_inb k)
    · exact scale_piece k (valsP c X W G k) (valA c X W G k 0 2) 0 2 (valA_apply c X W G k 0 2) _ (off52_eq k) (k0_off52_inb k)
    · exact scale_piece k (valsP c X W G k) (valA c X W G k 2 1) 2 1 (valA_apply c X W G k 2 1) _ (off50_eq k) (k0_off50_inb k)
    · exact scale_piece k (valsP c X W G k) (valA c X W G k 1 1) 1 1 (valA_apply c X W G k 1 1) _ (off48_eq k) (k0_off48_inb k)
    · exact scale_piece k (valsP c X W G k) (valA c X W G k 0 1) 0 1 (valA_apply c X W G k 0 1) _ (off46_eq k) (k0_off46_inb k)
    · exact scale_piece k (valsP c X W G k) (valA c X W G k 2 0) 2 0 (valA_apply c X W G k 2 0) _ (off44_eq k) (k0_off44_inb k)
    · exact scale_piece k (valsP c X W G k) (valA c X W G k 1 0) 1 0 (valA_apply c X W G k 1 0) _ (off42_eq k) (k0_off42_inb k)
    · exact scale_piece k (valsP c X W G k) (valA c X W G k 0 0) 0 0 (valA_apply c X W G k 0 0) _ (off40_eq k) (k0_off40_inb k)
  · have b1 : (y 1).val < 3 := (y 1).isLt
    have b2 : (y 2).val < 512 := (y 2).isLt
    have hh : (2 ≤ (y 1).val ∧ (y 1).val < 3 ∧ 384 ≤ (y 2).val ∧ (y 2).val < 512) ∨ (1 ≤ (y 1).val ∧ (y 1).val < 2 ∧ 384 ≤ (y 2).val ∧ (y 2).val < 512) ∨ (0 ≤ (y 1).val ∧ (y 1).val < 1 ∧ 384 ≤ (y 2).val ∧ (y 2).val < 512) ∨ (2 ≤ (y 1).val ∧ (y 1).val < 3 ∧ 256 ≤ (y 2).val ∧ (y 2).val < 384) ∨ (1 ≤ (y 1).val ∧ (y 1).val < 2 ∧ 256 ≤ (y 2).val ∧ (y 2).val < 384) ∨ (0 ≤ (y 1).val ∧ (y 1).val < 1 ∧ 256 ≤ (y 2).val ∧ (y 2).val < 384) ∨ (2 ≤ (y 1).val ∧ (y 1).val < 3 ∧ 128 ≤ (y 2).val ∧ (y 2).val < 256) ∨ (1 ≤ (y 1).val ∧ (y 1).val < 2 ∧ 128 ≤ (y 2).val ∧ (y 2).val < 256) ∨ (0 ≤ (y 1).val ∧ (y 1).val < 1 ∧ 128 ≤ (y 2).val ∧ (y 2).val < 256) ∨ (2 ≤ (y 1).val ∧ (y 1).val < 3 ∧ 0 ≤ (y 2).val ∧ (y 2).val < 128) ∨ (1 ≤ (y 1).val ∧ (y 1).val < 2 ∧ 0 ≤ (y 2).val ∧ (y 2).val < 128) ∨ (0 ≤ (y 1).val ∧ (y 1).val < 1 ∧ 0 ≤ (y 2).val ∧ (y 2).val < 128) := by omega
    rcases hh with hh | hh | hh | hh | hh | hh | hh | hh | hh | hh | hh | hh
    · refine ⟨_, List.mem_cons_self, mem_unit k _ (off62_eq k) (k0_off62_inb k) y hy ?_ ?_⟩ <;> omega
    · refine ⟨_, List.mem_cons_of_mem _ (List.mem_cons_self), mem_unit k _ (off60_eq k) (k0_off60_inb k) y hy ?_ ?_⟩ <;> omega
    · refine ⟨_, List.mem_cons_of_mem _ (List.mem_cons_of_mem _ (List.mem_cons_self)), mem_unit k _ (off58_eq k) (k0_off58_inb k) y hy ?_ ?_⟩ <;> omega
    · refine ⟨_, List.mem_cons_of_mem _ (List.mem_cons_of_mem _ (List.mem_cons_of_mem _ (List.mem_cons_self))), mem_unit k _ (off56_eq k) (k0_off56_inb k) y hy ?_ ?_⟩ <;> omega
    · refine ⟨_, List.mem_cons_of_mem _ (List.mem_cons_of_mem _ (List.mem_cons_of_mem _ (List.mem_cons_of_mem _ (List.mem_cons_self)))), mem_unit k _ (off54_eq k) (k0_off54_inb k) y hy ?_ ?_⟩ <;> omega
    · refine ⟨_, List.mem_cons_of_mem _ (List.mem_cons_of_mem _ (List.mem_cons_of_mem _ (List.mem_cons_of_mem _ (List.mem_cons_of_mem _ (List.mem_cons_self))))), mem_unit k _ (off52_eq k) (k0_off52_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_self)))))), mem_unit k _ (off50_eq k) (k0_off50_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_unit k _ (off48_eq k) (k0_off48_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_unit k _ (off46_eq k) (k0_off46_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_unit k _ (off44_eq k) (k0_off44_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_unit k _ (off42_eq k) (k0_off42_inb k) y hy ?_ ?_⟩ <;> omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_unit k _ (off40_eq k) (k0_off40_inb k) y hy ?_ ?_⟩ <;> omega

/-- Off its batch the trip keeps `vs`. -/
theorem vs_else (c0 c1 : BitVec 32) (a : Res (F := Ideal) c) (y : S6x3x512.Idx) (hy : (y 0).val ≠ k.val) :
    View.read (Elt Ideal) vsM.view (tripRun c X W G C S c0 c1 k a).1.vs y = View.read (Elt Ideal) vsM.view a.vs y := by
  dsimp only [tripRun]
  refine View.read_writes_apply_of_forall_not_mem vsM.view _ y _ ?_
  intro p hp
  simp only [List.mem_cons, List.not_mem_nil, or_false] at hp
  rcases hp with rfl | rfl | rfl | rfl | rfl | rfl | rfl | rfl | rfl | rfl | rfl | rfl
  · exact not_mem_unit k _ (off62_eq k) (k0_off62_inb k) y hy
  · exact not_mem_unit k _ (off60_eq k) (k0_off60_inb k) y hy
  · exact not_mem_unit k _ (off58_eq k) (k0_off58_inb k) y hy
  · exact not_mem_unit k _ (off56_eq k) (k0_off56_inb k) y hy
  · exact not_mem_unit k _ (off54_eq k) (k0_off54_inb k) y hy
  · exact not_mem_unit k _ (off52_eq k) (k0_off52_inb k) y hy
  · exact not_mem_unit k _ (off50_eq k) (k0_off50_inb k) y hy
  · exact not_mem_unit k _ (off48_eq k) (k0_off48_inb k) y hy
  · exact not_mem_unit k _ (off46_eq k) (k0_off46_inb k) y hy
  · exact not_mem_unit k _ (off44_eq k) (k0_off44_inb k) y hy
  · exact not_mem_unit k _ (off42_eq k) (k0_off42_inb k) y hy
  · exact not_mem_unit k _ (off40_eq k) (k0_off40_inb k) y hy

end Trip

end Cert.Proof.KernelIdeal

end
-- ==== Proof.KvIdeal.lean ====
/- One trip of the loop over the batches: the rows it norms, and the projections it takes of them. -/
module

public import proofs.«01_k».proof.Proof.TileIdeal
public import Idealize.ShloMosaic.Lib.ValueLayout
public import Idealize.ShloMosaic.Lib.Exec.Geometry

@[expose] public section

set_option maxRecDepth 16384

noncomputable section

namespace Cert.Proof.KernelIdeal

open Cert.KernelIdeal Cert.KernelIdeal.Gen
open Idealize.ShloMosaic Idealize.ShloMosaic.TcCoe
open Idealize.SL.Sem
open Cert.Proof.Spec Cert.Proof.Quant

variable [Cert.KernelIdeal.Facts]

/-- What a store of 16 normed rows writes. -/
def normT (g : Vec Ideal S1x1x2304 .f32) (v : Vec Ideal S1x16x2304 .bf16) : Vec Ideal S16x2304 .bf16 := k0_pay4 g v

theorem normT_apply (g : Vec Ideal S1x1x2304 .f32) (v : Vec Ideal S1x16x2304 .bf16) (j : Fin 16) (n : Fin 2304) :
    normT g v (ix2 j n) = norm (fun n => v (ix3 0 j n)) (fun n => g (ix3 0 0 n)) n := by
  pointwise [normT, k0_pay4, k0_pay3]
  rfl

/-- The product the projections are. -/
theorem prodT_apply (g : Vec Ideal S960x2304 .bf16) (v : Vec Ideal S512x2304 .bf16) (r : Fin 960) (i : Fin 512) :
    k0_pay56 g v (ix2 r i) = ∑ n : Fin 2304, g (ix2 r n) * v (ix2 i n) := by
  pointwise [k0_pay56]

/-- A row read through a slot is the row read through the whole ring buffer. -/
theorem slot_at (s : Fin 2) (f : bufM.view.ty.Contents (Elt Ideal)) (o : ℕ)
    (inb : ∀ a, (![s.val, o, 0] : Fin 3 → ℕ) a + S1x16x2304.size a ≤ S2x512x2304.size a) (j : Fin 16) (n : Fin 2304) (hj : o + j.val < 512) :
    shapeCast S512x2304 (View.readAt (Elt Ideal) bufM.view (Rect.unit (s := S2x512x2304) (slotOff s) S1x512x2304.size (slotOff_inb s)).toLoadRect f)
      (Shape.Squeezes.numel_eq squeezes_S1x512x2304_S512x2304) (ix2 ⟨o + j.val, hj⟩ n)
      = View.readAt (Elt Ideal) bufM.view (Rect.unit (s := S2x512x2304) ![s.val, o, 0] S1x16x2304.size inb).toLoadRect f (ix3 0 j n) := by
  have hr : Shape.reshapeEquiv (Shape.Squeezes.numel_eq squeezes_S1x512x2304_S512x2304) (ix2 ⟨o + j.val, hj⟩ n)
      = ix3 (⟨0, Nat.one_pos⟩ : Fin 1) (⟨o + j.val, hj⟩ : Fin 512) n := ValueIdx.reshapeEquiv_ix2_1ab _ _ _
  refine (congrArg (View.readAt (Elt Ideal) bufM.view (Rect.unit (s := S2x512x2304) (slotOff s) S1x512x2304.size (slotOff_inb s)).toLoadRect f) hr).trans ?_
  rw [View.readAt_apply, View.readAt_apply]
  refine congrArg (View.read (Elt Ideal) bufM.view _) ?_
  funext a
  fin_cases a
  · rfl
  · refine Fin.ext ?_
    show 0 + 1 * (o + j.val) = o + 1 * j.val
    omega
  · rfl

/-- Row `j` of a slot holding `w`, read through the whole ring buffer. -/
theorem slot_read (s : Fin 2) (w : S512x2304.Idx → Elt Ideal .bf16) {off : Fin 3 → ℕ} {o : ℕ} (h : off = ![s.val, o, 0])
    (inb : ∀ a, off a + S1x16x2304.size a ≤ S2x512x2304.size a) (j : Fin 16) (n : Fin 2304) (hj : o + j.val < 512) :
    View.readAt (Elt Ideal) bufM.view (Rect.unit (s := S2x512x2304) off S1x16x2304.size inb).toLoadRect
      ((rslot s).view.writes (Elt Ideal) (rslot s).view.junk [⟨Rect.whole S512x2304, w⟩]) (ix3 0 j n) = w (ix2 ⟨o + j.val, hj⟩ n) := by
  subst h
  have e := congrFun (View.read_writes_whole (Val := Elt Ideal) (rslot s).view (rslot s).view.junk w) (ix2 ⟨o + j.val, hj⟩ n)
  refine Eq.trans ?_ e
  refine Eq.trans ?_ (congrFun (Memref.read_squeeze_slice (Val := Elt Ideal) bufM (Rect.unit (s := S2x512x2304) (slotOff s) S1x512x2304.size (slotOff_inb s))
    (fun _ => rfl) squeezes_S1x512x2304_S512x2304 (Shape.Squeezes.numel_eq squeezes_S1x512x2304_S512x2304)
    ((rslot s).view.writes (Elt Ideal) (rslot s).view.junk [⟨Rect.whole S512x2304, w⟩])) (ix2 ⟨o + j.val, hj⟩ n)).symm
  exact (slot_at s _ o inb j n hj).symm

section Trip

variable (c : Dev nD) (X : Buf (Elt Ideal) (xM.view.loc (c : Thread nD τ)))
  (W : Buf (Elt Ideal) (wtM.view.loc (c : Thread nD τ))) (G : Buf (Elt Ideal) (gnM.view.loc (c : Thread nD τ)))
  (k : Fin k0_t1_loop.trips)

/-- The gain the trip reads. -/
def gainP (n : Fin 2304) : EReal :=
  View.readAt (Elt Ideal) gnM.view (Rect.unit (s := S3x1x2304) ![0, 0, 0] S1x1x2304.size inb_S3x1x2304_S1x1x2304_0_0_0).toLoadRect G (ix3 0 0 n)

/-- The trip's batch, by entry. -/
def rowP (i : Fin 512) (n : Fin 2304) : EReal := payload c X (Ring.bk 6 k.val) (ix2 i n)

/-- The 16 rows the trip loads at an offset. -/
abbrev rows16 (off : Fin 3 → ℕ) (inb : ∀ a, off a + S1x16x2304.size a ≤ S2x512x2304.size a) : Vec Ideal S1x16x2304 .bf16 :=
  View.readAt (Elt Ideal) bufM.view (Rect.unit (s := S2x512x2304) off S1x16x2304.size inb).toLoadRect
    ((rslot (Ring.sl 2 k.val)).view.writes (Elt Ideal) (rslot (Ring.sl 2 k.val)).view.junk [⟨Rect.whole S512x2304, payload c X (Ring.bk 6 k.val)⟩])

/-- A piece of the normed rows. -/
theorem norm_piece {off : Fin 3 → ℕ} (o : ℕ) (ho : o + 16 ≤ 512) (h : off = ![(Ring.sl 2 k.val).val, o, 0])
    (inb : ∀ a, off a + S1x16x2304.size a ≤ S2x512x2304.size a)
    (inb' : ∀ a, (![o, 0] : Fin 2 → ℕ) a + S16x2304.size a ≤ S512x2304.size a) (x : S16x2304.Idx) :
    normT (View.readAt (Elt Ideal) gnM.view (Rect.unit (s := S3x1x2304) ![0, 0, 0] S1x1x2304.size inb_S3x1x2304_S1x1x2304_0_0_0).toLoadRect G)
        (rows16 c X k off inb) x
      = (fun y : S512x2304.Idx => norm (rowP c X k (y 0)) (gainP c G) (y 1)) ((Rect.unit (s := S512x2304) ![o, 0] S16x2304.size inb').emb x) := by
  idx_vars x
  rw [normT_apply]
  have e0 : ((Rect.unit (s := S512x2304) ![o, 0] S16x2304.size inb').emb (ix2 x0 x1)) 0 = (⟨o + x0.val, by omega⟩ : Fin 512) :=
    Fin.ext (by show o + 1 * x0.val = o + x0.val; omega)
  have e1 : ((Rect.unit (s := S512x2304) ![o, 0] S16x2304.size inb').emb (ix2 x0 x1)) 1 = x1 :=
    Fin.ext (by show 0 + 1 * x1.val = x1.val; omega)
  have er : (fun n => rows16 c X k off inb (ix3 0 x0 n)) = rowP c X k ⟨o + x0.val, by omega⟩ :=
    funext fun n => slot_read (Ring.sl 2 k.val) _ h inb x0 n (by omega)
  beta_reduce
  rw [e0, e1, er]
  rfl

/-- A row among the 16 of a piece. -/
theorem mem_row (o : ℕ) (inb' : ∀ a, (![o, 0] : Fin 2 → ℕ) a + S16x2304.size a ≤ S512x2304.size a) (i : Fin 512) (n : Fin 2304)
    (h1 : o ≤ i.val) (h2 : i.val < o + 16) : (ix2 i n : S512x2304.Idx) ∈ (Rect.unit (s := S512x2304) ![o, 0] S16x2304.size inb').set := by
  refine (Rect.unit (s := S512x2304) ![o, 0] S16x2304.size inb').mem_set.mpr fun a => ?_
  fin_cases a
  · exact ⟨i.val - o, by show i.val - o < 16; omega, by show i.val = o + 1 * (i.val - o); omega⟩
  · exact ⟨n.val, n.isLt, by show n.val = 0 + 1 * n.val; omega⟩

/-- The normed rows, loaded back. -/
theorem hb_apply (i : Fin 512) (n : Fin 2304) :
    View.canon (tripRun.sl.Hhb_32 c X G k) (ix2 i n) = norm (rowP c X k i) (gainP c G) n := by
  refine View.canon_apply_of_pieces (Val := Elt Ideal) (e := .bf16) (fun y : S512x2304.Idx => norm (rowP c X k (y 0)) (gainP c G) (y 1)) _ ?_ (ix2 i n) ?_
  · intro p hp
    simp only [tripRun.sl.Hhb_32, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact norm_piece c X G k 496 (by omega) (off35_eq k) (k0_off35_inb k) inb_S512x2304_S16x2304_496_0
    · exact norm_piece c X G k 480 (by omega) (off34_eq k) (k0_off34_inb k) inb_S512x2304_S16x2304_480_0
    · exact norm_piece c X G k 464 (by omega) (off33_eq k) (k0_off33_inb k) inb_S512x2304_S16x2304_464_0
    · exact norm_piece c X G k 448 (by omega) (off32_eq k) (k0_off32_inb k) inb_S512x2304_S16x2304_448_0
    · exact norm_piece c X G k 432 (by omega) (off31_eq k) (k0_off31_inb k) inb_S512x2304_S16x2304_432_0
    · exact norm_piece c X G k 416 (by omega) (off30_eq k) (k0_off30_inb k) inb_S512x2304_S16x2304_416_0
    · exact norm_piece c X G k 400 (by omega) (off29_eq k) (k0_off29_inb k) inb_S512x2304_S16x2304_400_0
    · exact norm_piece c X G k 384 (by omega) (off28_eq k) (k0_off28_inb k) inb_S512x2304_S16x2304_384_0
    · exact norm_piece c X G k 368 (by omega) (off27_eq k) (k0_off27_inb k) inb_S512x2304_S16x2304_368_0
    · exact norm_piece c X G k 352 (by omega) (off26_eq k) (k0_off26_inb k) inb_S512x2304_S16x2304_352_0
    · exact norm_piece c X G k 336 (by omega) (off25_eq k) (k0_off25_inb k) inb_S512x2304_S16x2304_336_0
    · exact norm_piece c X G k 320 (by omega) (off24_eq k) (k0_off24_inb k) inb_S512x2304_S16x2304_320_0
    · exact norm_piece c X G k 304 (by omega) (off23_eq k) (k0_off23_inb k) inb_S512x2304_S16x2304_304_0
    · exact norm_piece c X G k 288 (by omega) (off22_eq k) (k0_off22_inb k) inb_S512x2304_S16x2304_288_0
    · exact norm_piece c X G k 272 (by omega) (off21_eq k) (k0_off21_inb k) inb_S512x2304_S16x2304_272_0
    · exact norm_piece c X G k 256 (by omega) (off20_eq k) (k0_off20_inb k) inb_S512x2304_S16x2304_256_0
    · exact norm_piece c X G k 240 (by omega) (off19_eq k) (k0_off19_inb k) inb_S512x2304_S16x2304_240_0
    · exact norm_piece c X G k 224 (by omega) (off18_eq k) (k0_off18_inb k) inb_S512x2304_S16x2304_224_0
    · exact norm_piece c X G k 208 (by omega) (off17_eq k) (k0_off17_inb k) inb_S512x2304_S16x2304_208_0
    · exact norm_piece c X G k 192 (by omega) (off16_eq k) (k0_off16_inb k) inb_S512x2304_S16x2304_192_0
    · exact norm_piece c X G k 176 (by omega) (off15_eq k) (k0_off15_inb k) inb_S512x2304_S16x2304_176_0
    · exact norm_piece c X G k 160 (by omega) (off14_eq k) (k0_off14_inb k) inb_S512x2304_S16x2304_160_0
    · exact norm_piece c X G k 144 (by omega) (off13_eq k) (k0_off13_inb k) inb_S512x2304_S16x2304_144_0
    · exact norm_piece c X G k 128 (by omega) (off12_eq k) (k0_off12_inb k) inb_S512x2304_S16x2304_128_0
    · exact norm_piece c X G k 112 (by omega) (off11_eq k) (k0_off11_inb k) inb_S512x2304_S16x2304_112_0
    · exact norm_piece c X G k 96 (by omega) (off10_eq k) (k0_off10_inb k) inb_S512x2304_S16x2304_96_0
    · exact norm_piece c X G k 80 (by omega) (off9_eq k) (k0_off9_inb k) inb_S512x2304_S16x2304_80_0
    · exact norm_piece c X G k 64 (by omega) (off8_eq k) (k0_off8_inb k) inb_S512x2304_S16x2304_64_0
    · exact norm_piece c X G k 48 (by omega) (off7_eq k) (k0_off7_inb k) inb_S512x2304_S16x2304_48_0
    · exact norm_piece c X G k 32 (by omega) (off6_eq k) (k0_off6_inb k) inb_S512x2304_S16x2304_32_0
    · exact norm_piece c X G k 16 (by omega) (off5_eq k) (k0_off5_inb k) inb_S512x2304_S16x2304_16_0
    · exact norm_piece c X G k 0 (by omega) (off4_eq k) (k0_off4_inb k) inb_S512x2304_S16x2304_0_0
  · have hi := i.isLt
    have hh : (496 ≤ i.val ∧ i.val < 512) ∨ (480 ≤ i.val ∧ i.val < 496) ∨ (464 ≤ i.val ∧ i.val < 480) ∨ (448 ≤ i.val ∧ i.val < 464) ∨ (432 ≤ i.val ∧ i.val < 448) ∨ (416 ≤ i.val ∧ i.val < 432) ∨ (400 ≤ i.val ∧ i.val < 416) ∨ (384 ≤ i.val ∧ i.val < 400) ∨ (368 ≤ i.val ∧ i.val < 384) ∨ (352 ≤ i.val ∧ i.val < 368) ∨ (336 ≤ i.val ∧ i.val < 352) ∨ (320 ≤ i.val ∧ i.val < 336) ∨ (304 ≤ i.val ∧ i.val < 320) ∨ (288 ≤ i.val ∧ i.val < 304) ∨ (272 ≤ i.val ∧ i.val < 288) ∨ (256 ≤ i.val ∧ i.val < 272) ∨ (240 ≤ i.val ∧ i.val < 256) ∨ (224 ≤ i.val ∧ i.val < 240) ∨ (208 ≤ i.val ∧ i.val < 224) ∨ (192 ≤ i.val ∧ i.val < 208) ∨ (176 ≤ i.val ∧ i.val < 192) ∨ (160 ≤ i.val ∧ i.val < 176) ∨ (144 ≤ i.val ∧ i.val < 160) ∨ (128 ≤ i.val ∧ i.val < 144) ∨ (112 ≤ i.val ∧ i.val < 128) ∨ (96 ≤ i.val ∧ i.val < 112) ∨ (80 ≤ i.val ∧ i.val < 96) ∨ (64 ≤ i.val ∧ i.val < 80) ∨ (48 ≤ i.val ∧ i.val < 64) ∨ (32 ≤ i.val ∧ i.val < 48) ∨ (16 ≤ i.val ∧ i.val < 32) ∨ (0 ≤ i.val ∧ i.val < 16) := by omega
    rcases hh with hh | hh | hh | hh | hh | hh | hh | hh | hh | hh | hh | hh | hh | hh | hh | hh | hh | hh | hh | hh | hh | hh | hh | hh | hh | hh | hh | hh | hh | hh | hh | hh
    · exact ⟨_, List.mem_cons_self, mem_row 496 inb_S512x2304_S16x2304_496_0 i n hh.1 hh.2⟩
    · exact ⟨_, List.mem_cons_of_mem _ (List.mem_cons_self), mem_row 480 inb_S512x2304_S16x2304_480_0 i n hh.1 hh.2⟩
    · exact ⟨_, List.mem_cons_of_mem _ (List.mem_cons_of_mem _ (List.mem_cons_self)), mem_row 464 inb_S512x2304_S16x2304_464_0 i n hh.1 hh.2⟩
    · exact ⟨_, List.mem_cons_of_mem _ (List.mem_cons_of_mem _ (List.mem_cons_of_mem _ (List.mem_cons_self))), mem_row 448 inb_S512x2304_S16x2304_448_0 i n hh.1 hh.2⟩
    · exact ⟨_, List.mem_cons_of_mem _ (List.mem_cons_of_mem _ (List.mem_cons_of_mem _ (List.mem_cons_of_mem _ (List.mem_cons_self)))), mem_row 432 inb_S512x2304_S16x2304_432_0 i n hh.1 hh.2⟩
    · exact ⟨_, List.mem_cons_of_mem _ (List.mem_cons_of_mem _ (List.mem_cons_of_mem _ (List.mem_cons_of_mem _ (List.mem_cons_of_mem _ (List.mem_cons_self))))), mem_row 416 inb_S512x2304_S16x2304_416_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_self)))))), mem_row 400 inb_S512x2304_S16x2304_400_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_row 384 inb_S512x2304_S16x2304_384_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_row 368 inb_S512x2304_S16x2304_368_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_row 352 inb_S512x2304_S16x2304_352_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_row 336 inb_S512x2304_S16x2304_336_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_row 320 inb_S512x2304_S16x2304_320_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_row 304 inb_S512x2304_S16x2304_304_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_row 288 inb_S512x2304_S16x2304_288_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_row 272 inb_S512x2304_S16x2304_272_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_row 256 inb_S512x2304_S16x2304_256_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), mem_row 240 inb_S512x2304_S16x2304_240_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), mem_row 224 inb_S512x2304_S16x2304_224_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), mem_row 208 inb_S512x2304_S16x2304_208_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), mem_row 192 inb_S512x2304_S16x2304_192_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), mem_row 176 inb_S512x2304_S16x2304_176_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), mem_row 160 inb_S512x2304_S16x2304_160_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), mem_row 144 inb_S512x2304_S16x2304_144_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), mem_row 128 inb_S512x2304_S16x2304_128_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), mem_row 112 inb_S512x2304_S16x2304_112_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), mem_row 96 inb_S512x2304_S16x2304_96_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), mem_row 80 inb_S512x2304_S16x2304_80_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), mem_row 64 inb_S512x2304_S16x2304_64_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), mem_row 48 inb_S512x2304_S16x2304_48_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), mem_row 32 inb_S512x2304_S16x2304_32_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), mem_row 16 inb_S512x2304_S16x2304_16_0 i n hh.1 hh.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), mem_row 0 inb_S512x2304_S16x2304_0_0 i n hh.1 hh.2⟩

/-- The projections: the weights' rows with the normed rows. -/
theorem kvP_eq (r : Fin 960) (i : Fin 512) :
    kvP c X W G k r i = ∑ n : Fin 2304, View.read (Elt Ideal) wtM.view W (ix2 r n) * norm (rowP c X k i) (gainP c G) n := by
  have e : kvP c X W G k r i = k0_pay56
      (View.readAt (Elt Ideal) (View.whole cc0_scratch0) (Rect.unit (s := S960x2304) ![0, 0] S960x2304.size inb_S960x2304_S960x2304_0_0).toLoadRect W)
      ((View.whole cc0_scratch3).readCov (tripRun.sl.Hhb_32 c X G k) (Rect.unit (s := S512x2304) ![0, 0] S512x2304.size inb_S512x2304_S512x2304_0_0).toLoadRect) (ix2 r i) := rfl
  rw [e, prodT_apply]
  refine Finset.sum_congr rfl fun n _ => ?_
  rw [View.readCov_eq_canon', View.readAt_apply]
  have e1 : (Rect.unit (s := S512x2304) ![0, 0] S512x2304.size inb_S512x2304_S512x2304_0_0).toLoadRect.idx (ix2 i n) = ix2 i n := by
    funext a; fin_cases a
    · exact Fin.ext (by show 0 + 1 * i.val = i.val; omega)
    · exact Fin.ext (by show 0 + 1 * n.val = n.val; omega)
  have e2 : (Rect.unit (s := S960x2304) ![0, 0] S960x2304.size inb_S960x2304_S960x2304_0_0).toLoadRect.idx (ix2 r n) = ix2 r n := by
    funext a; fin_cases a
    · exact Fin.ext (by show 0 + 1 * r.val = r.val; omega)
    · exact Fin.ext (by show 0 + 1 * n.val = n.val; omega)
  beta_reduce
  rw [e1, e2, hb_apply]

end Trip

end Cert.Proof.KernelIdeal

end
-- ==== Proof.AccIdeal.lean ====
/- The loop over the batches, entry by entry: what all its trips leave in the four result buffers. -/
module

public import proofs.«01_k».proof.Proof.KvIdeal

@[expose] public section

set_option maxRecDepth 16384

noncomputable section

namespace Cert.Proof.KernelIdeal

open Cert.KernelIdeal Cert.KernelIdeal.Gen
open Idealize.ShloMosaic Idealize.ShloMosaic.TcCoe
open Idealize.SL.Sem
open Cert.Proof.Spec Cert.Proof.Quant

variable [Cert.KernelIdeal.Facts]

variable (c : Dev nD) (X : Buf (Elt Ideal) (xM.view.loc (c : Thread nD τ)))
  (W : Buf (Elt Ideal) (wtM.view.loc (c : Thread nD τ))) (G : Buf (Elt Ideal) (gnM.view.loc (c : Thread nD τ)))
  (C : Buf (Elt Ideal) (ctM.view.loc (c : Thread nD τ))) (S : Buf (Elt Ideal) (snM.view.loc (c : Thread nD τ)))

/-- The trip a batch is handled in. -/
def tripOf (b : Fin 6) : Fin k0_t1_loop.trips := b.cast trips_eq.symm

theorem acc_succ (c0 c1 : BitVec 32) (a : Res (F := Ideal) c) (n : ℕ) (h : n < k0_t1_loop.trips) :
    acc c X W G C S c0 c1 a (n + 1) = (tripRun c X W G C S c0 c1 ⟨n, h⟩ (acc c X W G C S c0 c1 a n)).1 := by
  rw [acc, dif_pos h]

/-- After its first trips, `kc` at the batches they handled, -/
theorem acc_kc (c0 c1 : BitVec 32) (a : Res (F := Ideal) c) (y : S6x480x512.Idx) : ∀ (n : ℕ), n ≤ k0_t1_loop.trips → (y 0).val < n →
    View.read (Elt Ideal) kcM.view (acc c X W G C S c0 c1 a n).kc y = codes (keysP c X W G C S (tripOf (y 0))) (y 1) (y 2)
  | 0, _, hy => absurd hy (Nat.not_lt_zero _)
  | n + 1, hn, hy => by
    rw [acc_succ c X W G C S c0 c1 a n hn]
    by_cases e : (y 0).val = n
    · have et : tripOf (y 0) = ⟨n, hn⟩ := Fin.ext e
      rw [et]
      exact kc_here c X W G C S ⟨n, hn⟩ c0 c1 _ y e
    · refine (kc_else c X W G C S ⟨n, hn⟩ c0 c1 _ y e).trans ?_
      exact acc_kc c0 c1 a y n (Nat.le_of_succ_le hn) (by omega)

/-- and after all. -/
theorem all_kc (c0 c1 : BitVec 32) (a : Res (F := Ideal) c) (y : S6x480x512.Idx) :
    View.read (Elt Ideal) kcM.view (acc c X W G C S c0 c1 a (Scf.trips k0_t1_loop.lb k0_t1_loop.ub k0_t1_loop.st)).kc y = codes (keysP c X W G C S (tripOf (y 0))) (y 1) (y 2) :=
  acc_kc c X W G C S c0 c1 a y _ (le_refl _) (lt_of_lt_of_eq (y 0).isLt trips_eq.symm)

/-- After its first trips, `vc` at the batches they handled, -/
theorem acc_vc (c0 c1 : BitVec 32) (a : Res (F := Ideal) c) (y : S6x480x512.Idx) : ∀ (n : ℕ), n ≤ k0_t1_loop.trips → (y 0).val < n →
    View.read (Elt Ideal) vcM.view (acc c X W G C S c0 c1 a n).vc y = codes (valsP c X W G (tripOf (y 0))) (y 1) (y 2)
  | 0, _, hy => absurd hy (Nat.not_lt_zero _)
  | n + 1, hn, hy => by
    rw [acc_succ c X W G C S c0 c1 a n hn]
    by_cases e : (y 0).val = n
    · have et : tripOf (y 0) = ⟨n, hn⟩ := Fin.ext e
      rw [et]
      exact vc_here c X W G C S ⟨n, hn⟩ c0 c1 _ y e
    · refine (vc_else c X W G C S ⟨n, hn⟩ c0 c1 _ y e).trans ?_
      exact acc_vc c0 c1 a y n (Nat.le_of_succ_le hn) (by omega)

/-- and after all. -/
theorem all_vc (c0 c1 : BitVec 32) (a : Res (F := Ideal) c) (y : S6x480x512.Idx) :
    View.read (Elt Ideal) vcM.view (acc c X W G C S c0 c1 a (Scf.trips k0_t1_loop.lb k0_t1_loop.ub k0_t1_loop.st)).vc y = codes (valsP c X W G (tripOf (y 0))) (y 1) (y 2) :=
  acc_vc c X W G C S c0 c1 a y _ (le_refl _) (lt_of_lt_of_eq (y 0).isLt trips_eq.symm)

/-- After its first trips, `ks` at the batches they handled, -/
theorem acc_ks (c0 c1 : BitVec 32) (a : Res (F := Ideal) c) (y : S6x3x512.Idx) : ∀ (n : ℕ), n ≤ k0_t1_loop.trips → (y 0).val < n →
    View.read (Elt Ideal) ksM.view (acc c X W G C S c0 c1 a n).ks y = scale (keysP c X W G C S (tripOf (y 0)) (y 1) (y 2))
  | 0, _, hy => absurd hy (Nat.not_lt_zero _)
  | n + 1, hn, hy => by
    rw [acc_succ c X W G C S c0 c1 a n hn]
    by_cases e : (y 0).val = n
    · have et : tripOf (y 0) = ⟨n, hn⟩ := Fin.ext e
      rw [et]
      exact ks_here c X W G C S ⟨n, hn⟩ c0 c1 _ y e
    · refine (ks_else c X W G C S ⟨n, hn⟩ c0 c1 _ y e).trans ?_
      exact acc_ks c0 c1 a y n (Nat.le_of_succ_le hn) (by omega)

/-- and after all. -/
theorem all_ks (c0 c1 : BitVec 32) (a : Res (F := Ideal) c) (y : S6x3x512.Idx) :
    View.read (Elt Ideal) ksM.view (acc c X W G C S c0 c1 a (Scf.trips k0_t1_loop.lb k0_t1_loop.ub k0_t1_loop.st)).ks y = scale (keysP c X W G C S (tripOf (y 0)) (y 1) (y 2)) :=
  acc_ks c X W G C S c0 c1 a y _ (le_refl _) (lt_of_lt_of_eq (y 0).isLt trips_eq.symm)

/-- After its first trips, `vs` at the batches they handled, -/
theorem acc_vs (c0 c1 : BitVec 32) (a : Res (F := Ideal) c) (y : S6x3x512.Idx) : ∀ (n : ℕ), n ≤ k0_t1_loop.trips → (y 0).val < n →
    View.read (Elt Ideal) vsM.view (acc c X W G C S c0 c1 a n).vs y = scale (valsP c X W G (tripOf (y 0)) (y 1) (y 2))
  | 0, _, hy => absurd hy (Nat.not_lt_zero _)
  | n + 1, hn, hy => by
    rw [acc_succ c X W G C S c0 c1 a n hn]
    by_cases e : (y 0).val = n
    · have et : tripOf (y 0) = ⟨n, hn⟩ := Fin.ext e
      rw [et]
      exact vs_here c X W G C S ⟨n, hn⟩ c0 c1 _ y e
    · refine (vs_else c X W G C S ⟨n, hn⟩ c0 c1 _ y e).trans ?_
      exact acc_vs c0 c1 a y n (Nat.le_of_succ_le hn) (by omega)

/-- and after all. -/
theorem all_vs (c0 c1 : BitVec 32) (a : Res (F := Ideal) c) (y : S6x3x512.Idx) :
    View.read (Elt Ideal) vsM.view (acc c X W G C S c0 c1 a (Scf.trips k0_t1_loop.lb k0_t1_loop.ub k0_t1_loop.st)).vs y = scale (valsP c X W G (tripOf (y 0)) (y 1) (y 2)) :=
  acc_vs c X W G C S c0 c1 a y _ (le_refl _) (lt_of_lt_of_eq (y 0).isLt trips_eq.symm)

end Cert.Proof.KernelIdeal

end
-- ==== Proof.OutIdeal.lean ====
/- The kernel's results, entry by entry, from its arguments. -/
module

public import proofs.«01_k».proof.Proof.AccIdeal
public import proofs.«01_k».proof.Proof.LaunchIdeal

@[expose] public section

set_option maxRecDepth 16384

noncomputable section

namespace Cert.Proof.KernelIdeal

open Cert.KernelIdeal Cert.KernelIdeal.Gen
open Idealize.ShloMosaic Idealize.ShloMosaic.TcCoe
open Idealize.SL.Sem
open Cert.Proof.Spec Cert.Proof.Quant

variable [Cert.KernelIdeal.Facts]

/-- The block a weight's row is in is row `n / 32` of the scales. -/
theorem block_bit (n : Fin 2304) (x : Fin 72) :
    IntOp.cmpi .eq (IntOp.shrui .vector (BitVec.ofNat 32 n.val) 5#32) (BitVec.ofNat 32 x.val) = if x.val = n.val / 32 then 1#1 else 0#1 := by
  have h1 : IntOp.shrui .vector (BitVec.ofNat 32 n.val) 5#32 = BitVec.ofNat 32 (n.val / 32) := by
    apply BitVec.eq_of_toNat_eq
    simp only [IntOp.shrui]
    have := n.isLt
    simp [BitVec.toNat_ushiftRight, Nat.shiftRight_eq_div_pow]
    omega
  rw [h1]
  have h2 : (BitVec.ofNat 32 (n.val / 32) = BitVec.ofNat 32 x.val) ↔ x.val = n.val / 32 := by
    constructor
    · intro h
      have := congrArg BitVec.toNat h
      simp only [BitVec.toNat_ofNat] at this
      have := n.isLt; have := x.isLt
      omega
    · intro h; rw [h]
  by_cases h : x.val = n.val / 32
  · simp [IntOp.cmpi, h]
  · have h3 := mt h2.mp h
    simp [IntOp.cmpi, h, beq_eq_false_iff_ne.mpr h3]

/-- A weight, spread from its block's scale. -/
theorem spread (n : Fin 2304) (f : Fin 72 → BitVec 8) :
    (∑ x : Fin 72, Scalar.select (IntOp.cmpi .eq (IntOp.shrui .vector (BitVec.ofNat 32 n.val) 5#32) (BitVec.ofNat 32 x.val)) (kdec (f x)) (0 : EReal))
      = kdec (f ⟨n.val / 32, by omega⟩) := by
  rw [Finset.sum_eq_single (⟨n.val / 32, by omega⟩ : Fin 72)]
  · rw [block_bit, if_pos rfl]; rfl
  · intro x _ hx
    rw [block_bit, if_neg fun h => hx (Fin.ext h)]; rfl
  · intro h; exact absurd (Finset.mem_univ _) h

theorem weightK_apply (s : Vec Ideal S72x480 .i8) (v : Vec Ideal S1x480x2304 .fp8e4m3) (o : Fin 480) (n : Fin 2304) :
    k0_pay189 k0_pay187 s v (ix2 o n) = v (ix3 0 o n) * kdec (s (ix2 ⟨n.val / 32, by omega⟩ o)) := by
  pointwise [k0_pay189, k0_pay187, k0_pay188]
  exact congrArg (fun r : EReal => v (ix3 0 o n) * r) (spread n fun x => s (ix2 x o))

theorem weightV_apply (s : Vec Ideal S72x480 .i8) (v : Vec Ideal S1x480x2304 .fp8e4m3) (o : Fin 480) (n : Fin 2304) :
    k0_pay190 k0_pay187 s v (ix2 o n) = v (ix3 0 o n) * kdec (s (ix2 ⟨n.val / 32, by omega⟩ o)) := by
  pointwise [k0_pay190, k0_pay187, k0_pay188]
  exact congrArg (fun r : EReal => v (ix3 0 o n) * r) (spread n fun x => s (ix2 x o))

/-- A weight's codes, read through the whole stage from its half `0`. -/
theorem stage0_at (f : stageM.view.ty.Contents (Elt Ideal)) (o : Fin 480) (n : Fin 2304) :
    shapeCast S480x2304 (View.readAt (Elt Ideal) stageM.view (Rect.unit (s := S2x480x2304) ![0, 0, 0] S1x480x2304.size inb_S2x480x2304_S1x480x2304_0_0_0).toLoadRect f)
      (Shape.Squeezes.numel_eq squeezes_S1x480x2304_S480x2304) (ix2 o n)
      = View.readAt (Elt Ideal) stageM.view (Rect.unit (s := S2x480x2304) ![0, 0, 0] S1x480x2304.size inb_S2x480x2304_S1x480x2304_0_0_0).toLoadRect f (ix3 0 o n) :=
  congrArg (View.readAt (Elt Ideal) stageM.view (Rect.unit (s := S2x480x2304) ![0, 0, 0] S1x480x2304.size inb_S2x480x2304_S1x480x2304_0_0_0).toLoadRect f)
    (show Shape.reshapeEquiv (Shape.Squeezes.numel_eq squeezes_S1x480x2304_S480x2304) (ix2 o n) = ix3 (⟨0, Nat.one_pos⟩ : Fin 1) o n from
      ValueIdx.reshapeEquiv_ix2_1ab _ _ _)

theorem stage0_read (w : S480x2304.Idx → Elt Ideal .fp8e4m3) (o : Fin 480) (n : Fin 2304) :
    View.readAt (Elt Ideal) stageM.view (Rect.unit (s := S2x480x2304) ![0, 0, 0] S1x480x2304.size inb_S2x480x2304_S1x480x2304_0_0_0).toLoadRect
      (stg0.view.writes (Elt Ideal) stg0.view.junk [⟨Rect.whole S480x2304, w⟩]) (ix3 0 o n) = w (ix2 o n) := by
  refine Eq.trans ?_ (congrFun (View.read_writes_whole (Val := Elt Ideal) stg0.view stg0.view.junk w) (ix2 o n))
  refine Eq.trans ?_ (congrFun (Memref.read_squeeze_slice (Val := Elt Ideal) stageM (Rect.unit (s := S2x480x2304) ![0, 0, 0] S1x480x2304.size inb_S2x480x2304_S1x480x2304_0_0_0)
    (fun _ => rfl) squeezes_S1x480x2304_S480x2304 (Shape.Squeezes.numel_eq squeezes_S1x480x2304_S480x2304)
    (stg0.view.writes (Elt Ideal) stg0.view.junk [⟨Rect.whole S480x2304, w⟩])) (ix2 o n)).symm
  exact (stage0_at _ o n).symm

/-- A weight's codes, read through the whole stage from its half `1`. -/
theorem stage1_at (f : stageM.view.ty.Contents (Elt Ideal)) (o : Fin 480) (n : Fin 2304) :
    shapeCast S480x2304 (View.readAt (Elt Ideal) stageM.view (Rect.unit (s := S2x480x2304) ![1, 0, 0] S1x480x2304.size inb_S2x480x2304_S1x480x2304_1_0_0).toLoadRect f)
      (Shape.Squeezes.numel_eq squeezes_S1x480x2304_S480x2304) (ix2 o n)
      = View.readAt (Elt Ideal) stageM.view (Rect.unit (s := S2x480x2304) ![1, 0, 0] S1x480x2304.size inb_S2x480x2304_S1x480x2304_1_0_0).toLoadRect f (ix3 0 o n) :=
  congrArg (View.readAt (Elt Ideal) stageM.view (Rect.unit (s := S2x480x2304) ![1, 0, 0] S1x480x2304.size inb_S2x480x2304_S1x480x2304_1_0_0).toLoadRect f)
    (show Shape.reshapeEquiv (Shape.Squeezes.numel_eq squeezes_S1x480x2304_S480x2304) (ix2 o n) = ix3 (⟨0, Nat.one_pos⟩ : Fin 1) o n from
      ValueIdx.reshapeEquiv_ix2_1ab _ _ _)

theorem stage1_read (w : S480x2304.Idx → Elt Ideal .fp8e4m3) (o : Fin 480) (n : Fin 2304) :
    View.readAt (Elt Ideal) stageM.view (Rect.unit (s := S2x480x2304) ![1, 0, 0] S1x480x2304.size inb_S2x480x2304_S1x480x2304_1_0_0).toLoadRect
      (stg1.view.writes (Elt Ideal) stg1.view.junk [⟨Rect.whole S480x2304, w⟩]) (ix3 0 o n) = w (ix2 o n) := by
  refine Eq.trans ?_ (congrFun (View.read_writes_whole (Val := Elt Ideal) stg1.view stg1.view.junk w) (ix2 o n))
  refine Eq.trans ?_ (congrFun (Memref.read_squeeze_slice (Val := Elt Ideal) stageM (Rect.unit (s := S2x480x2304) ![1, 0, 0] S1x480x2304.size inb_S2x480x2304_S1x480x2304_1_0_0)
    (fun _ => rfl) squeezes_S1x480x2304_S480x2304 (Shape.Squeezes.numel_eq squeezes_S1x480x2304_S480x2304)
    (stg1.view.writes (Elt Ideal) stg1.view.junk [⟨Rect.whole S480x2304, w⟩])) (ix2 o n)).symm
  exact (stage1_at _ o n).symm

section Launched

variable (c : Dev nD) (X : Buf (Elt Ideal) (xM.view.loc (c : Thread nD τ))) (i : Ini (F := Ideal) c)

/-- The arguments the body finds, by entry. -/
def argsI : Args where
  x b r n := View.read (Elt Ideal) xM.view X (ix3 b r n)
  g n := View.read (Elt Ideal) gaH.view i.ga (ix2 0 n)
  wk n o := View.read (Elt Ideal) wkH.view i.wk (ix2 o n)
  sk b o := View.read (Elt Ideal) skH.view i.sk (ix2 b o)
  wv n o := View.read (Elt Ideal) wvH.view i.wv (ix2 o n)
  sv b o := View.read (Elt Ideal) svH.view i.sv (ix2 b o)
  ct a r := View.read (Elt Ideal) ctH.view i.ct (ix2 a r)
  sn a r := View.read (Elt Ideal) snH.view i.sn (ix2 a r)

/-- The contents of the dequantised weights' buffer during the loop, -/
abbrev wtB : Buf (Elt Ideal) (wtM.view.loc (c : Thread nD τ)) := wtM.view.writes (Elt Ideal) wtM.view.junk (bodyRun.sl.Hwt_2 c i)
/-- the gain's, -/
abbrev gnB (g : Buf (Elt Ideal) (gnM.view.loc (c : Thread nD τ))) : Buf (Elt Ideal) (gnM.view.loc (c : Thread nD τ)) :=
  View.write (Elt Ideal) ((gnM.slice (Rect.unit (s := S3x1x2304) ![0, 0, 0] S1x1x2304.size inb_S3x1x2304_S1x1x2304_0_0_0) (fun _ => rfl)).squeeze S1x2304
    squeezes_S1x1x2304_S1x2304).view g (bodyRun.sl.dma0_4 c i) Finset.univ
/-- and the tables'. -/
abbrev ctB : Buf (Elt Ideal) (ctM.view.loc (c : Thread nD τ)) := ctM.view.writes (Elt Ideal) ctM.view.junk [⟨Rect.whole S80x512, bodyRun.sl.dma0_5 c i⟩]
abbrev snB : Buf (Elt Ideal) (snM.view.loc (c : Thread nD τ)) := snM.view.writes (Elt Ideal) snM.view.junk [⟨Rect.whole S80x512, bodyRun.sl.dma0_6 c i⟩]

theorem tabC_eq : tabC c (ctB c i) = (argsI c X i).ct :=
  funext fun a => funext fun r => congrFun (View.read_writes_whole (Val := Elt Ideal) ctM.view ctM.view.junk (bodyRun.sl.dma0_5 c i)) (ix2 a r)

theorem tabS_eq : tabS c (snB c i) = (argsI c X i).sn :=
  funext fun a => funext fun r => congrFun (View.read_writes_whole (Val := Elt Ideal) snM.view snM.view.junk (bodyRun.sl.dma0_6 c i)) (ix2 a r)

theorem rowP_eq (b : Fin 6) : rowP c X (tripOf b) = (argsI c X i).x b := by
  funext r n
  have hb : Ring.bk 6 (tripOf b).val = b := by revert b; decide
  unfold rowP
  rw [hb]
  refine (congrFun (Memref.read_squeeze_slice (Val := Elt Ideal) xM (Rect.unit (s := S6x512x2304) (grpOff b) S1x512x2304.size (grpOff_inb b))
    (fun _ => rfl) squeezes_S1x512x2304_S512x2304 (Shape.Squeezes.numel_eq squeezes_S1x512x2304_S512x2304) X) (ix2 r n)).trans ?_
  refine (congrArg (View.readAt (Elt Ideal) xM.view (Rect.unit (s := S6x512x2304) (grpOff b) S1x512x2304.size (grpOff_inb b)).toLoadRect X)
    (show Shape.reshapeEquiv (Shape.Squeezes.numel_eq squeezes_S1x512x2304_S512x2304) (ix2 r n) = ix3 (⟨0, Nat.one_pos⟩ : Fin 1) r n from
      ValueIdx.reshapeEquiv_ix2_1ab _ _ _)).trans ?_
  rw [View.readAt_apply]
  refine congrArg (View.read (Elt Ideal) xM.view X) ?_
  funext a
  fin_cases a
  · rfl
  · exact Fin.ext (by show 0 + 1 * r.val = r.val; omega)
  · exact Fin.ext (by show 0 + 1 * n.val = n.val; omega)

theorem gainP_eq (g : Buf (Elt Ideal) (gnM.view.loc (c : Thread nD τ))) : gainP c (gnB c i g) = (argsI c X i).g := by
  funext n
  unfold gainP
  have h := congrFun (View.read_write_univ (Val := Elt Ideal) (v := ((gnM.slice (Rect.unit (s := S3x1x2304) ![0, 0, 0] S1x1x2304.size inb_S3x1x2304_S1x1x2304_0_0_0)
    (fun _ => rfl)).squeeze S1x2304 squeezes_S1x1x2304_S1x2304).view) g (bodyRun.sl.dma0_4 c i)) (ix2 0 n)
  refine Eq.trans ?_ h
  refine Eq.trans ?_ (congrFun (Memref.read_squeeze_slice (Val := Elt Ideal) gnM (Rect.unit (s := S3x1x2304) ![0, 0, 0] S1x1x2304.size inb_S3x1x2304_S1x1x2304_0_0_0)
    (fun _ => rfl) squeezes_S1x1x2304_S1x2304 (Shape.Squeezes.numel_eq squeezes_S1x1x2304_S1x2304) (gnB c i g)) (ix2 0 n)).symm
  exact (congrArg (View.readAt (Elt Ideal) gnM.view (Rect.unit (s := S3x1x2304) ![0, 0, 0] S1x1x2304.size inb_S3x1x2304_S1x1x2304_0_0_0).toLoadRect (gnB c i g))
    (show Shape.reshapeEquiv (Shape.Squeezes.numel_eq squeezes_S1x1x2304_S1x2304) (ix2 (0 : Fin 1) n) = ix3 (⟨0, Nat.one_pos⟩ : Fin 1) (0 : Fin 1) n from
      ValueIdx.reshapeEquiv_ix2_1ab _ _ _)).symm

/-- The dequantised weights. -/
theorem weightK_eq (o : Fin 480) (n : Fin 2304) : k0_pay189 k0_pay187 (skM.view.readCov [⟨Rect.whole S72x480, bodyRun.sl.dma0_1 c i⟩]
      (Rect.unit (s := S72x480) ![0, 0] S72x480.size inb_S72x480_S72x480_0_0).toLoadRect)
    (View.readAt (Elt Ideal) stageM.view (Rect.unit (s := S2x480x2304) ![0, 0, 0] S1x480x2304.size inb_S2x480x2304_S1x480x2304_0_0_0).toLoadRect
      (stg0.view.writes (Elt Ideal) stg0.view.junk [⟨Rect.whole S480x2304, bodyRun.sl.dma0 c i⟩])) (ix2 o n)
      = weight (argsI c X i).wk (argsI c X i).sk n o := by
  rw [weightK_apply, stage0_read, View.readCov_eq_canon']
  have e : (Rect.unit (s := S72x480) ![0, 0] S72x480.size inb_S72x480_S72x480_0_0).toLoadRect.idx (ix2 ⟨n.val / 32, by omega⟩ o)
      = ix2 ⟨n.val / 32, by omega⟩ o := by
    funext a; fin_cases a
    · exact Fin.ext (by show 0 + 1 * (n.val / 32) = n.val / 32; omega)
    · exact Fin.ext (by show 0 + 1 * o.val = o.val; omega)
  have e2 := congrFun (View.canon_unit_zero (Val := Elt Ideal) (S := S72x480) (e := .i8) (off := fun _ => 0) rfl (fun a => by simp) (bodyRun.sl.dma0_1 c i))
  beta_reduce
  rw [e]
  refine congrArg (fun r => (_ : EReal) * kdec r) ?_
  exact e2 (ix2 ⟨n.val / 32, by omega⟩ o)

theorem weightV_eq (o : Fin 480) (n : Fin 2304) : k0_pay190 k0_pay187 (svM.view.readCov [⟨Rect.whole S72x480, bodyRun.sl.dma0_3 c i⟩]
      (Rect.unit (s := S72x480) ![0, 0] S72x480.size inb_S72x480_S72x480_0_0).toLoadRect)
    (View.readAt (Elt Ideal) stageM.view (Rect.unit (s := S2x480x2304) ![1, 0, 0] S1x480x2304.size inb_S2x480x2304_S1x480x2304_1_0_0).toLoadRect
      (stg1.view.writes (Elt Ideal) stg1.view.junk [⟨Rect.whole S480x2304, bodyRun.sl.dma0_2 c i⟩])) (ix2 o n)
      = weight (argsI c X i).wv (argsI c X i).sv n o := by
  rw [weightV_apply, stage1_read, View.readCov_eq_canon']
  have e : (Rect.unit (s := S72x480) ![0, 0] S72x480.size inb_S72x480_S72x480_0_0).toLoadRect.idx (ix2 ⟨n.val / 32, by omega⟩ o)
      = ix2 ⟨n.val / 32, by omega⟩ o := by
    funext a; fin_cases a
    · exact Fin.ext (by show 0 + 1 * (n.val / 32) = n.val / 32; omega)
    · exact Fin.ext (by show 0 + 1 * o.val = o.val; omega)
  have e2 := congrFun (View.canon_unit_zero (Val := Elt Ideal) (S := S72x480) (e := .i8) (off := fun _ => 0) rfl (fun a => by simp) (bodyRun.sl.dma0_3 c i))
  beta_reduce
  rw [e]
  refine congrArg (fun r => (_ : EReal) * kdec r) ?_
  exact e2 (ix2 ⟨n.val / 32, by omega⟩ o)

/-- A row in one of its halves. -/
theorem mem_half (o : ℕ) (inb' : ∀ a, (![o, 0] : Fin 2 → ℕ) a + S480x2304.size a ≤ S960x2304.size a) (r : Fin 960) (n : Fin 2304)
    (h1 : o ≤ r.val) (h2 : r.val < o + 480) : (ix2 r n : S960x2304.Idx) ∈ (Rect.unit (s := S960x2304) ![o, 0] S480x2304.size inb').set := by
  refine (Rect.unit (s := S960x2304) ![o, 0] S480x2304.size inb').mem_set.mpr fun a => ?_
  fin_cases a
  · exact ⟨r.val - o, by show r.val - o < 480; omega, by show r.val = o + 1 * (r.val - o); omega⟩
  · exact ⟨n.val, n.isLt, by show n.val = 0 + 1 * n.val; omega⟩

/-- The dequantised weights' buffer: the keys' rows above the values'. -/
def wtAt (A : Args) (r : Fin 960) (n : Fin 2304) : EReal :=
  if h : r.val < 480 then weight A.wk A.sk n ⟨r.val, h⟩ else weight A.wv A.sv n ⟨r.val - 480, by omega⟩

theorem wtB_eq (r : Fin 960) (n : Fin 2304) : View.read (Elt Ideal) wtM.view (wtB c i) (ix2 r n) = wtAt (argsI c X i) r n := by
  refine View.read_writes_apply_of_pieces (Val := Elt Ideal) wtM.view _ (fun y : S960x2304.Idx => (wtAt (argsI c X i) (y 0) (y 1) : EReal)) _ ?_ (ix2 r n) ?_
  · intro p hp
    simp only [bodyRun.sl.Hwt_2, List.mem_cons, List.not_mem_nil, or_false] at hp
    rcases hp with rfl | rfl
    · intro x
      idx_vars x
      refine (weightV_eq c X i x0 x1).trans ?_
      have e0 : ((Rect.unit (s := S960x2304) ![480, 0] S480x2304.size inb_S960x2304_S480x2304_480_0).emb (ix2 x0 x1)) 0 = (⟨480 + x0.val, by omega⟩ : Fin 960) :=
        Fin.ext (by show 480 + 1 * x0.val = 480 + x0.val; omega)
      have e1 : ((Rect.unit (s := S960x2304) ![480, 0] S480x2304.size inb_S960x2304_S480x2304_480_0).emb (ix2 x0 x1)) 1 = x1 :=
        Fin.ext (by show 0 + 1 * x1.val = x1.val; omega)
      beta_reduce
      refine Eq.trans ?_ (congrArg₂ (wtAt (argsI c X i)) e0 e1).symm
      unfold wtAt
      rw [dif_neg (by show ¬ (480 + x0.val < 480); omega)]
      exact congrArg _ (Fin.ext (by show x0.val = 480 + x0.val - 480; omega))
    · intro x
      idx_vars x
      refine (weightK_eq c X i x0 x1).trans ?_
      have e0 : ((Rect.unit (s := S960x2304) ![0, 0] S480x2304.size inb_S960x2304_S480x2304_0_0).emb (ix2 x0 x1)) 0 = (⟨x0.val, by omega⟩ : Fin 960) :=
        Fin.ext (by show 0 + 1 * x0.val = x0.val; omega)
      have e1 : ((Rect.unit (s := S960x2304) ![0, 0] S480x2304.size inb_S960x2304_S480x2304_0_0).emb (ix2 x0 x1)) 1 = x1 :=
        Fin.ext (by show 0 + 1 * x1.val = x1.val; omega)
      beta_reduce
      refine Eq.trans ?_ (congrArg₂ (wtAt (argsI c X i)) e0 e1).symm
      unfold wtAt
      rw [dif_pos x0.isLt]
  · have hr := r.isLt
    by_cases h : r.val < 480
    · exact ⟨_, List.mem_cons_of_mem _ List.mem_cons_self, mem_half 0 inb_S960x2304_S480x2304_0_0 r n (by omega) (by omega)⟩
    · exact ⟨_, List.mem_cons_self, mem_half 480 inb_S960x2304_S480x2304_480_0 r n (by omega) (by omega)⟩

/-- The projections the loop takes. -/
theorem kvP_keys (g : Buf (Elt Ideal) (gnM.view.loc (c : Thread nD τ))) (b : Fin 6) (r : Fin 480) (p : Fin 512) :
    kvP c X (wtB c i) (gnB c i g) (tripOf b) ⟨r.val, by omega⟩ p = proj (argsI c X i).wk (argsI c X i).sk ((argsI c X i).x b) (argsI c X i).g r p := by
  rw [kvP_eq, rowP_eq c X i b, gainP_eq c X i g]
  refine Finset.sum_congr rfl fun n _ => ?_
  rw [wtB_eq c X i]
  unfold wtAt
  rw [dif_pos r.isLt]

theorem kvP_vals (g : Buf (Elt Ideal) (gnM.view.loc (c : Thread nD τ))) (b : Fin 6) (r : Fin 480) (p : Fin 512) :
    kvP c X (wtB c i) (gnB c i g) (tripOf b) ⟨480 + r.val, by omega⟩ p = proj (argsI c X i).wv (argsI c X i).sv ((argsI c X i).x b) (argsI c X i).g r p := by
  rw [kvP_eq, rowP_eq c X i b, gainP_eq c X i g]
  refine Finset.sum_congr rfl fun n _ => ?_
  rw [wtB_eq c X i]
  unfold wtAt
  rw [dif_neg (by show ¬ (480 + r.val < 480); omega)]
  have e : (⟨480 + r.val - 480, by omega⟩ : Fin 480) = r := Fin.ext (by show 480 + r.val - 480 = r.val; omega)
  exact congrArg (fun q => weight (argsI c X i).wv (argsI c X i).sv n q * norm ((argsI c X i).x b p) (argsI c X i).g n) e

theorem keysP_eq (g : Buf (Elt Ideal) (gnM.view.loc (c : Thread nD τ))) (b : Fin 6) :
    keysP c X (wtB c i) (gnB c i g) (ctB c i) (snB c i) (tripOf b) = kKeys (argsI c X i) b := by
  unfold keysP kKeys
  rw [tabC_eq c X i, tabS_eq c X i]
  have e : (fun r : Fin 480 => kvP c X (wtB c i) (gnB c i g) (tripOf b) ⟨r.val, by omega⟩)
      = proj (argsI c X i).wk (argsI c X i).sk ((argsI c X i).x b) (argsI c X i).g :=
    funext fun r => funext fun p => kvP_keys c X i g b r p
  rw [e]

theorem valsP_eq (g : Buf (Elt Ideal) (gnM.view.loc (c : Thread nD τ))) (b : Fin 6) :
    valsP c X (wtB c i) (gnB c i g) (tripOf b) = kVals (argsI c X i) b := by
  unfold valsP kVals
  have e : (fun r : Fin 480 => kvP c X (wtB c i) (gnB c i g) (tripOf b) ⟨480 + r.val, by omega⟩)
      = proj (argsI c X i).wv (argsI c X i).sv ((argsI c X i).x b) (argsI c X i).g :=
    funext fun r => funext fun p => kvP_vals c X i g b r p
  rw [e]

variable (j : Junk (F := Ideal) c)

/-- The result buffers, as the loop leaves them. -/
theorem dma_kc : bodyRun.sl.dma0_9 c X i j = View.read (Elt Ideal) kcM.view
    (acc c X (wtB c i) (gnB c i j.gn) (ctB c i) (snB c i) 0#32 1#32 ⟨j.a.kc, j.a.vc, j.a.ks, j.a.vs⟩ (Scf.trips k0_t1_loop.lb k0_t1_loop.ub k0_t1_loop.st)).kc := by
  unfold bodyRun.sl.dma0_9
  rfl

theorem dma_vc : bodyRun.sl.dma0_10 c X i j = View.read (Elt Ideal) vcM.view
    (acc c X (wtB c i) (gnB c i j.gn) (ctB c i) (snB c i) 0#32 1#32 ⟨j.a.kc, j.a.vc, j.a.ks, j.a.vs⟩ (Scf.trips k0_t1_loop.lb k0_t1_loop.ub k0_t1_loop.st)).vc := by
  unfold bodyRun.sl.dma0_10
  rfl

theorem dma_ks : bodyRun.sl.dma0_11 c X i j = View.read (Elt Ideal) ksM.view
    (acc c X (wtB c i) (gnB c i j.gn) (ctB c i) (snB c i) 0#32 1#32 ⟨j.a.kc, j.a.vc, j.a.ks, j.a.vs⟩ (Scf.trips k0_t1_loop.lb k0_t1_loop.ub k0_t1_loop.st)).ks := by
  unfold bodyRun.sl.dma0_11
  rfl

theorem dma_vs : bodyRun.sl.dma0_12 c X i j = View.read (Elt Ideal) vsM.view
    (acc c X (wtB c i) (gnB c i j.gn) (ctB c i) (snB c i) 0#32 1#32 ⟨j.a.kc, j.a.vc, j.a.ks, j.a.vs⟩ (Scf.trips k0_t1_loop.lb k0_t1_loop.ub k0_t1_loop.st)).vs := by
  unfold bodyRun.sl.dma0_12
  rfl

/-- The results the run ends with. -/
theorem out_kc (y : S6x480x512.Idx) : View.read (Elt Ideal) kcH.view (bodyRun c X i j).1.kc y = codes (kKeys (argsI c X i) (y 0)) (y 1) (y 2) := by
  dsimp only [bodyRun]
  refine (congrFun (View.read_writes_whole (Val := Elt Ideal) kcH.view j.okc (bodyRun.sl.dma0_9 c X i j)) y).trans ?_
  rw [dma_kc, all_kc]
  exact congrArg (fun H : Fin 3 → Fin 512 → Fin 160 → EReal => codes H (y 1) (y 2)) (keysP_eq c X i j.gn (y 0))

theorem out_vc (y : S6x480x512.Idx) : View.read (Elt Ideal) vcH.view (bodyRun c X i j).1.vc y = codes (kVals (argsI c X i) (y 0)) (y 1) (y 2) := by
  dsimp only [bodyRun]
  refine (congrFun (View.read_writes_whole (Val := Elt Ideal) vcH.view j.ovc (bodyRun.sl.dma0_10 c X i j)) y).trans ?_
  rw [dma_vc, all_vc]
  exact congrArg (fun H : Fin 3 → Fin 512 → Fin 160 → EReal => codes H (y 1) (y 2)) (valsP_eq c X i j.gn (y 0))

theorem out_ks (y : S6x3x512.Idx) : View.read (Elt Ideal) ksH.view (bodyRun c X i j).1.ks y = scale (kKeys (argsI c X i) (y 0) (y 1) (y 2)) := by
  dsimp only [bodyRun]
  refine (congrFun (View.read_writes_whole (Val := Elt Ideal) ksH.view j.oks (bodyRun.sl.dma0_11 c X i j)) y).trans ?_
  rw [dma_ks, all_ks]
  exact congrArg (fun H : Fin 3 → Fin 512 → Fin 160 → EReal => scale (H (y 1) (y 2))) (keysP_eq c X i j.gn (y 0))

theorem out_vs (y : S6x3x512.Idx) : View.read (Elt Ideal) vsH.view (bodyRun c X i j).1.vs y = scale (kVals (argsI c X i) (y 0) (y 1) (y 2)) := by
  dsimp only [bodyRun]
  refine (congrFun (View.read_writes_whole (Val := Elt Ideal) vsH.view j.ovs (bodyRun.sl.dma0_12 c X i j)) y).trans ?_
  rw [dma_vs, all_vs]
  exact congrArg (fun H : Fin 3 → Fin 512 → Fin 160 → EReal => scale (H (y 1) (y 2))) (valsP_eq c X i j.gn (y 0))

end Launched

end Cert.Proof.KernelIdeal

end
-- ==== Proof.RefIdeal.lean ====
/- The reference's results, entry by entry, from its arguments. -/
module

public import proofs.«01_k».proof.Proof.Spec
public import proofs.«01_k».proof.Proof.Gen.ReferenceIdeal.Value
public import Idealize.ShloMosaic.Lib.Writes
public import Idealize.ShloMosaic.Lib.Pipeline.FrameBody
public import Idealize.ShloMosaic.Lib.Pipeline.Value

@[expose] public section

set_option maxRecDepth 16384

noncomputable section

namespace Cert.Proof.ReferenceIdeal

open Cert.ReferenceIdeal Cert.ReferenceIdeal.Gen
open Idealize.ShloMosaic Idealize.ShloMosaic.TcCoe
open Cert.Proof.Spec Cert.Proof.Quant

variable [Cert.ReferenceIdeal.Facts]

/-- A chosen zero, moved through the products. -/
theorem select_mul (b : BitVec 1) (r u v : EReal) :
    Scalar.select b (0 : EReal) (u * (v * r)) = v * Scalar.select b (0 : EReal) r * u := by
  unfold Scalar.select
  split
  · simp
  · exact mul_comm _ _

/-- The norm, dividing by the width. -/
theorem norm_div (x g : Fin 2304 → EReal) (n : Fin 2304) :
    x n * Ideal.rsqrt (Ideal.div (∑ k, x k * x k) (Ideal.ofBits .f32 0x45100000#32) + Ideal.ofBits .f32 0x358637BD#32) * g n = norm x g n := by
  rw [div_2304]; rfl

section Proj

variable (x : Vec Ideal S6x512x2304 .bf16) (g : Vec Ideal S1x2304 .f32) (w : Vec Ideal S2304x480 .fp8e4m3) (s : Vec Ideal S72x480 .i8)

/-- A projection, by entry. -/
def projE (b : Fin 6) (i : Fin 512) (o : Fin 480) : EReal :=
  proj (fun n o => w (ix2 n o)) (fun b o => s (ix2 b o)) (fun i n => x (ix3 b i n)) (fun n => g (ix2 0 n)) o i

theorem term_eq (b : Fin 6) (i : Fin 512) (o : Fin 480) (n : Fin 2304) :
    Scalar.select (IntOp.cmpi .eq (BitVec.setWidth 32 (s (ix2 ⟨n.val / 32, by omega⟩ o))) 0#32) (0 : EReal)
      ((x (ix3 b i n) * Ideal.rsqrt (Ideal.div (∑ k : Fin 2304, x (ix3 b i k) * x (ix3 b i k)) (Ideal.ofBits .f32 0x45100000#32) + Ideal.ofBits .f32 0x358637BD#32) * g (ix2 0 n))
        * (w (ix2 n o) * Scalar.select (IntOp.cmpi .eq (BitVec.setWidth 32 (s (ix2 ⟨n.val / 32, by omega⟩ o))) 255#32) (Ideal.ofBits .f32 0x7F800000#32)
          (FloatOps.exp2 (F := Ideal) (φ := .f32) (FloatOps.sitofp (F := Ideal) .f32 (IntOp.subi (BitVec.setWidth 32 (s (ix2 ⟨n.val / 32, by omega⟩ o))) 127#32)))))
      = weight (fun n o => w (ix2 n o)) (fun b o => s (ix2 b o)) n o * norm (fun n => x (ix3 b i n)) (fun n => g (ix2 0 n)) n := by
  refine (select_mul _ _ _ _).trans ?_
  refine congrArg₂ (fun u v : EReal => w (ix2 n o) * u * v) ?_ ?_
  · exact (kdec_eq (s (ix2 ⟨n.val / 32, by omega⟩ o))).symm
  · exact norm_div (fun n => x (ix3 b i n)) (fun n => g (ix2 0 n)) n

theorem projK_apply (b : Fin 6) (i : Fin 512) (o : Fin 480) : k0_pay5 x g w s (ix3 b i o) = projE x g w s b i o := by
  pointwise [k0_pay5, k0_pay4]
  exact Finset.sum_congr rfl fun n _ => term_eq x g w s b i o n

theorem projV_apply (b : Fin 6) (i : Fin 512) (o : Fin 480) : k0_pay6 (k0_pay4 x g) w s (ix3 b i o) = projE x g w s b i o := by
  pointwise [k0_pay6, k0_pay4]
  exact Finset.sum_congr rfl fun n _ => term_eq x g w s b i o n

end Proj

section Heads

variable (p : FVec Ideal S6x512x480 .f32) (c s : Vec Ideal S80x512 .f32)

/-- A key head of projections, by entry, -/
abbrev keyE (b : Fin 6) : Fin 3 → Fin 512 → Fin 160 → EReal :=
  kHead (fun o i => p (ix3 b i o)) (fun a i => c (ix2 a i)) (fun a i => s (ix2 a i))
/-- and a value head. -/
abbrev valE (b : Fin 6) : Fin 3 → Fin 512 → Fin 160 → EReal := vHead fun o i => p (ix3 b i o)

theorem at_chan (b : Fin 6) (i : Fin 512) {o o' : Fin 480} (h : o.val = o'.val) : p (ix3 b i o) = p (ix3 b i o') :=
  congrArg (fun o => p (ix3 b i o)) (Fin.ext h)

theorem key0_apply (b : Fin 6) (i : Fin 512) (a : Fin 160) : k0_pay9 p c s (ix3 b i a) = keyE p c s b 0 i a := by
  pointwise [k0_pay9, k0_pay7, k0_pay8]
  unfold keyE kHead
  by_cases ha : a.val < 80
  · rw [dif_pos ha, dif_pos ha]
    refine congrArg₂ (fun u v : EReal => u * c (ix2 ⟨a.val, ha⟩ i) - v * s (ix2 ⟨a.val, ha⟩ i)) (at_chan p b i ?_) (at_chan p b i ?_)
    · show a.val = 160 * 0 + a.val; omega
    · show 80 + a.val = 160 * 0 + (80 + a.val); omega
  · rw [dif_neg ha, dif_neg ha]
    refine congrArg₂ (fun u v : EReal => u * c (ix2 ⟨a.val - 80, by omega⟩ i) + v * s (ix2 ⟨a.val - 80, by omega⟩ i)) (at_chan p b i ?_) (at_chan p b i ?_)
    · show 80 + (a.val - 80) = 160 * 0 + (80 + (a.val - 80)); omega
    · show (a.val - 80) = 160 * 0 + (a.val - 80); omega

theorem key1_apply (b : Fin 6) (i : Fin 512) (a : Fin 160) : k0_pay21 p (k0_pay7 c) (k0_pay8 s) (ix3 b i a) = keyE p c s b 1 i a := by
  pointwise [k0_pay21, k0_pay7, k0_pay8]
  unfold keyE kHead
  by_cases ha : a.val < 80
  · rw [dif_pos ha, dif_pos ha]
    refine congrArg₂ (fun u v : EReal => u * c (ix2 ⟨a.val, ha⟩ i) - v * s (ix2 ⟨a.val, ha⟩ i)) (at_chan p b i ?_) (at_chan p b i ?_)
    · show 160 + a.val = 160 * 1 + a.val; omega
    · show 240 + a.val = 160 * 1 + (80 + a.val); omega
  · rw [dif_neg ha, dif_neg ha]
    refine congrArg₂ (fun u v : EReal => u * c (ix2 ⟨a.val - 80, by omega⟩ i) + v * s (ix2 ⟨a.val - 80, by omega⟩ i)) (at_chan p b i ?_) (at_chan p b i ?_)
    · show 240 + (a.val - 80) = 160 * 1 + (80 + (a.val - 80)); omega
    · show 160 + (a.val - 80) = 160 * 1 + (a.val - 80); omega

theorem key2_apply (b : Fin 6) (i : Fin 512) (a : Fin 160) : k0_pay33 p (k0_pay7 c) (k0_pay8 s) (ix3 b i a) = keyE p c s b 2 i a := by
  pointwise [k0_pay33, k0_pay7, k0_pay8]
  unfold keyE kHead
  by_cases ha : a.val < 80
  · rw [dif_pos ha, dif_pos ha]
    refine congrArg₂ (fun u v : EReal => u * c (ix2 ⟨a.val, ha⟩ i) - v * s (ix2 ⟨a.val, ha⟩ i)) (at_chan p b i ?_) (at_chan p b i ?_)
    · show 320 + a.val = 160 * 2 + a.val; omega
    · show 400 + a.val = 160 * 2 + (80 + a.val); omega
  · rw [dif_neg ha, dif_neg ha]
    refine congrArg₂ (fun u v : EReal => u * c (ix2 ⟨a.val - 80, by omega⟩ i) + v * s (ix2 ⟨a.val - 80, by omega⟩ i)) (at_chan p b i ?_) (at_chan p b i ?_)
    · show 400 + (a.val - 80) = 160 * 2 + (80 + (a.val - 80)); omega
    · show 320 + (a.val - 80) = 160 * 2 + (a.val - 80); omega

theorem val0_apply (b : Fin 6) (i : Fin 512) (a : Fin 160) : k0_pay14 p (ix3 b i a) = valE p b 0 i a := by
  pointwise [k0_pay14]
  refine at_chan p b i ?_
  show a.val = 160 * 0 + a.val
  omega

theorem val1_apply (b : Fin 6) (i : Fin 512) (a : Fin 160) : k0_pay26 p (ix3 b i a) = valE p b 1 i a := by
  pointwise [k0_pay26]
  refine at_chan p b i ?_
  show 160 + a.val = 160 * 1 + a.val
  omega

theorem val2_apply (b : Fin 6) (i : Fin 512) (a : Fin 160) : k0_pay40 p (ix3 b i a) = valE p b 2 i a := by
  pointwise [k0_pay40]
  refine at_chan p b i ?_
  show 320 + a.val = 160 * 2 + a.val
  omega

end Heads

/-- A head's scale, its exponent stated apart, -/
theorem scale_of (v : Fin 160 → EReal) : Ideal.exp2 (rexp (top v)) = scale v := (kscale_eq (top v)).symm
/-- and a code. -/
theorem code_of (v : Fin 160 → EReal) (a : Fin 160) : min (Ideal.ofBits .f32 0x43E00000#32) (max (Ideal.ofBits .f32 0xC3E00000#32)
    (v a * Ideal.exp2 (0 - rexp (top v)))) = code v a := by rw [← kinv_eq]; rfl

section Stores

variable (p : FVec Ideal S6x512x480 .f32) (c s : Vec Ideal S80x512 .f32)

theorem kcode0 (b : Fin 6) (a : Fin 160) (i : Fin 512) : k0_pay12 (k0_pay9 p c s) (k0_pay10 p c s) (ix3 b a i) = code (keyE p c s b 0 i) a := by
  have e : keyE p c s b 0 i = fun a => (k0_pay9 p c s) (ix3 b i a) := funext fun a => (key0_apply p c s b i a).symm
  rw [e, ← code_of]
  pointwise [k0_pay12, k0_pay13, k0_pay11, k0_pay10]
  rfl

theorem kscale0 (b : Fin 6) (i : Fin 512) : k0_pay13 (k0_pay10 p c s) (ix3 b 0 i) = scale (keyE p c s b 0 i) := by
  have e : keyE p c s b 0 i = fun a => (k0_pay9 p c s) (ix3 b i a) := funext fun a => (key0_apply p c s b i a).symm
  rw [e, ← scale_of]
  pointwise [k0_pay12, k0_pay13, k0_pay11, k0_pay10]
  rfl

theorem kcode1 (b : Fin 6) (a : Fin 160) (i : Fin 512) : k0_pay24 (k0_pay21 p (k0_pay7 c) (k0_pay8 s)) (k0_pay22 p (k0_pay7 c) (k0_pay8 s)) (Scalar.ofBits (F := Ideal) .f32 0x00800000#32) (ix3 b a i) = code (keyE p c s b 1 i) a := by
  have e : keyE p c s b 1 i = fun a => (k0_pay21 p (k0_pay7 c) (k0_pay8 s)) (ix3 b i a) := funext fun a => (key1_apply p c s b i a).symm
  rw [e, ← code_of]
  pointwise [k0_pay24, k0_pay25, k0_pay23, k0_pay22]
  rfl

theorem kscale1 (b : Fin 6) (i : Fin 512) : k0_pay25 (k0_pay22 p (k0_pay7 c) (k0_pay8 s)) (Scalar.ofBits (F := Ideal) .f32 0x00800000#32) (ix3 b 0 i) = scale (keyE p c s b 1 i) := by
  have e : keyE p c s b 1 i = fun a => (k0_pay21 p (k0_pay7 c) (k0_pay8 s)) (ix3 b i a) := funext fun a => (key1_apply p c s b i a).symm
  rw [e, ← scale_of]
  pointwise [k0_pay24, k0_pay25, k0_pay23, k0_pay22]
  rfl

theorem kcode2 (b : Fin 6) (a : Fin 160) (i : Fin 512) : k0_pay38 (k0_pay33 p (k0_pay7 c) (k0_pay8 s)) (k0_pay35 p (k0_pay7 c) (k0_pay8 s)) (k0_pay36 p (k0_pay7 c) (k0_pay8 s)) (Named.named (F := Ideal) (φ := .f32) κ "ln2" 0x3F317218#32) (ix3 b a i) = code (keyE p c s b 2 i) a := by
  have e : keyE p c s b 2 i = fun a => (k0_pay33 p (k0_pay7 c) (k0_pay8 s)) (ix3 b i a) := funext fun a => (key2_apply p c s b i a).symm
  rw [e, ← code_of]
  pointwise [k0_pay38, k0_pay39, k0_pay37, k0_pay35, k0_pay34, k0_pay36]
  rfl

theorem kscale2 (b : Fin 6) (i : Fin 512) : k0_pay39 (k0_pay35 p (k0_pay7 c) (k0_pay8 s)) (k0_pay36 p (k0_pay7 c) (k0_pay8 s)) (Named.named (F := Ideal) (φ := .f32) κ "ln2" 0x3F317218#32) (ix3 b 0 i) = scale (keyE p c s b 2 i) := by
  have e : keyE p c s b 2 i = fun a => (k0_pay33 p (k0_pay7 c) (k0_pay8 s)) (ix3 b i a) := funext fun a => (key2_apply p c s b i a).symm
  rw [e, ← scale_of]
  pointwise [k0_pay38, k0_pay39, k0_pay37, k0_pay35, k0_pay34, k0_pay36]
  rfl

theorem vcode0 (b : Fin 6) (a : Fin 160) (i : Fin 512) : k0_pay19 (k0_pay14 p) (k0_pay16 p) (k0_pay17 p) (Named.named (F := Ideal) (φ := .f32) κ "ln2" 0x3F317218#32) (ix3 b a i) = code (valE p b 0 i) a := by
  have e : valE p b 0 i = fun a => (k0_pay14 p) (ix3 b i a) := funext fun a => (val0_apply p b i a).symm
  rw [e, ← code_of]
  pointwise [k0_pay19, k0_pay20, k0_pay18, k0_pay17, k0_pay16, k0_pay15]
  rfl

theorem vscale0 (b : Fin 6) (i : Fin 512) : k0_pay20 (k0_pay16 p) (k0_pay17 p) (Named.named (F := Ideal) (φ := .f32) κ "ln2" 0x3F317218#32) (ix3 b 0 i) = scale (valE p b 0 i) := by
  have e : valE p b 0 i = fun a => (k0_pay14 p) (ix3 b i a) := funext fun a => (val0_apply p b i a).symm
  rw [e, ← scale_of]
  pointwise [k0_pay19, k0_pay20, k0_pay18, k0_pay17, k0_pay16, k0_pay15]
  rfl

theorem vcode1 (b : Fin 6) (a : Fin 160) (i : Fin 512) : k0_pay31 (k0_pay26 p) (k0_pay28 p) (k0_pay29 p) (Scalar.ofBits (F := Ideal) .f32 0x3F800000#32) (ix3 b a i) = code (valE p b 1 i) a := by
  have e : valE p b 1 i = fun a => (k0_pay26 p) (ix3 b i a) := funext fun a => (val1_apply p b i a).symm
  rw [e, ← code_of]
  pointwise [k0_pay31, k0_pay32, k0_pay30, k0_pay28, k0_pay29, k0_pay27]
  rfl

theorem vscale1 (b : Fin 6) (i : Fin 512) : k0_pay32 (k0_pay28 p) (k0_pay29 p) (Scalar.ofBits (F := Ideal) .f32 0x3F800000#32) (ix3 b 0 i) = scale (valE p b 1 i) := by
  have e : valE p b 1 i = fun a => (k0_pay26 p) (ix3 b i a) := funext fun a => (val1_apply p b i a).symm
  rw [e, ← scale_of]
  pointwise [k0_pay31, k0_pay32, k0_pay30, k0_pay28, k0_pay29, k0_pay27]
  rfl

theorem vcode2 (b : Fin 6) (a : Fin 160) (i : Fin 512) : k0_pay2 (k0_pay40 p) (k0_pay42 p) (k0_pay43 p) k0_pay44 (ix3 b a i) = code (valE p b 2 i) a := by
  have e : valE p b 2 i = fun a => (k0_pay40 p) (ix3 b i a) := funext fun a => (val2_apply p b i a).symm
  rw [e, ← code_of]
  pointwise [k0_pay2, k0_pay3, k0_pay1, k0_pay42, k0_pay43, k0_pay44, k0_pay41]
  rfl

theorem vscale2 (b : Fin 6) (i : Fin 512) : k0_pay3 (k0_pay42 p) (k0_pay43 p) k0_pay44 (ix3 b 0 i) = scale (valE p b 2 i) := by
  have e : valE p b 2 i = fun a => (k0_pay40 p) (ix3 b i a) := funext fun a => (val2_apply p b i a).symm
  rw [e, ← scale_of]
  pointwise [k0_pay2, k0_pay3, k0_pay1, k0_pay42, k0_pay43, k0_pay44, k0_pay41]
  rfl

end Stores

end Cert.Proof.ReferenceIdeal

end
-- ==== Proof.RefOut.lean ====
/- The reference's result arrays, entry by entry, from its arguments. -/
module

public import proofs.«01_k».proof.Proof.RefIdeal
public import Idealize.ShloMosaic.Lib.Pipeline.ValueKit

@[expose] public section

set_option maxRecDepth 16384

noncomputable section

namespace Cert.Proof.ReferenceIdeal

open Cert.ReferenceIdeal Cert.ReferenceIdeal.Gen
open Idealize.ShloMosaic Idealize.ShloMosaic.TcCoe
open Cert.Proof.Spec Cert.Proof.Quant

variable [Cert.ReferenceIdeal.Facts]

section Body

variable (x0 : Vec Ideal S6x512x2304 .bf16) (x1 : Vec Ideal S1x2304 .f32) (x2 : Vec Ideal S2304x480 .fp8e4m3) (x3 : Vec Ideal S72x480 .i8)
  (x4 : Vec Ideal S2304x480 .fp8e4m3) (x5 : Vec Ideal S72x480 .i8) (x6 : Vec Ideal S80x512 .f32) (x7 : Vec Ideal S80x512 .f32)

/-- The arguments the body finds, by entry. -/
def argsX : Args where
  x b i n := x0 (ix3 b i n)
  g n := x1 (ix2 0 n)
  wk n o := x2 (ix2 n o)
  sk b o := x3 (ix2 b o)
  wv n o := x4 (ix2 n o)
  sv b o := x5 (ix2 b o)
  ct a i := x6 (ix2 a i)
  sn a i := x7 (ix2 a i)

theorem ld0 : View.ld x0 r0_0 = x0 := View.ld_unit_zero (by decide) _ _
theorem ld1 : View.ld x1 r0_1 = x1 := View.ld_unit_zero (by decide) _ _
theorem ld2 : View.ld x2 r0_2 = x2 := View.ld_unit_zero (by decide) _ _
theorem ld3 : View.ld x3 r0_3 = x3 := View.ld_unit_zero (by decide) _ _
theorem ld4 : View.ld x6 r0_4 = x6 := View.ld_unit_zero (by decide) _ _

/-- The projections, -/
theorem keyE_eq (b : Fin 6) : keyE (k0_pay5 x0 x1 x2 x3) x6 x7 b = kKeys (argsX x0 x1 x2 x3 x4 x5 x6 x7) b := by
  have e : (fun (o : Fin 480) (i : Fin 512) => k0_pay5 x0 x1 x2 x3 (ix3 b i o)) = fun o i => projE x0 x1 x2 x3 b i o :=
    funext fun o => funext fun i => projK_apply x0 x1 x2 x3 b i o
  unfold keyE
  rw [e]
  rfl

theorem valE_eq (b : Fin 6) : valE (k0_pay6 (k0_pay4 x0 x1) x4 x5) b = kVals (argsX x0 x1 x2 x3 x4 x5 x6 x7) b := by
  have e : (fun (o : Fin 480) (i : Fin 512) => k0_pay6 (k0_pay4 x0 x1) x4 x5 (ix3 b i o)) = fun o i => projE x0 x1 x4 x5 b i o :=
    funext fun o => funext fun i => projV_apply x0 x1 x4 x5 b i o
  unfold valE
  rw [e]
  rfl

/-- A head's store of codes, -/
theorem code_store (head : Fin 6 → Fin 3 → Fin 512 → Fin 160 → EReal) (h : Fin 3) {o : ℕ} (ho : o = 160 * h.val)
    (T : FVec Ideal S6x160x512 .fp8e4m3) (hT : ∀ b a i, T (ix3 b a i) = code (head b h i) a)
    (inb : ∀ a, (![0, o, 0] : Fin 3 → ℕ) a + S6x160x512.size a ≤ S6x480x512.size a) (x : S6x160x512.Idx) :
    T x = (fun y : S6x480x512.Idx => codes (head (y 0)) (y 1) (y 2)) ((Rect.unit (s := S6x480x512) ![0, o, 0] S6x160x512.size inb).emb x) := by
  subst ho
  idx_vars x
  have hh := h.isLt
  have e0 : ((Rect.unit (s := S6x480x512) ![0, 160 * h.val, 0] S6x160x512.size inb).emb (ix3 x0 x1 x2)) 0 = x0 :=
    Fin.ext (by show 0 + 1 * x0.val = x0.val; omega)
  have e1 : ((Rect.unit (s := S6x480x512) ![0, 160 * h.val, 0] S6x160x512.size inb).emb (ix3 x0 x1 x2)) 1 = (⟨160 * h.val + x1.val, by omega⟩ : Fin 480) :=
    Fin.ext (by show 160 * h.val + 1 * x1.val = 160 * h.val + x1.val; omega)
  have e2 : ((Rect.unit (s := S6x480x512) ![0, 160 * h.val, 0] S6x160x512.size inb).emb (ix3 x0 x1 x2)) 2 = x2 :=
    Fin.ext (by show 0 + 1 * x2.val = x2.val; omega)
  rw [hT]
  beta_reduce
  rw [e0, e1, e2]
  unfold codes
  have d1 : (⟨(160 * h.val + x1.val) / 160, by omega⟩ : Fin 3) = h := Fin.ext (by show (160 * h.val + x1.val) / 160 = h.val; omega)
  have d2 : (⟨(160 * h.val + x1.val) % 160, by omega⟩ : Fin 160) = x1 := Fin.ext (by show (160 * h.val + x1.val) % 160 = x1.val; omega)
  exact (congrArg₂ (fun a b => code (head x0 a x2) b) d1 d2).symm

/-- and one of scales. -/
theorem scale_store (head : Fin 6 → Fin 3 → Fin 512 → Fin 160 → EReal) (h : Fin 3) {o : ℕ} (ho : o = h.val)
    (T : FVec Ideal S6x1x512 .f32) (hT : ∀ b i, T (ix3 b 0 i) = scale (head b h i))
    (inb : ∀ a, (![0, o, 0] : Fin 3 → ℕ) a + S6x1x512.size a ≤ S6x3x512.size a) (x : S6x1x512.Idx) :
    T x = (fun y : S6x3x512.Idx => scale (head (y 0) (y 1) (y 2))) ((Rect.unit (s := S6x3x512) ![0, o, 0] S6x1x512.size inb).emb x) := by
  subst ho
  idx_vars x
  have z : x1 = 0 := Fin.ext (by omega)
  subst z
  have e0 : ((Rect.unit (s := S6x3x512) ![0, h.val, 0] S6x1x512.size inb).emb (ix3 x0 0 x2)) 0 = x0 :=
    Fin.ext (by show 0 + 1 * x0.val = x0.val; omega)
  have e1 : ((Rect.unit (s := S6x3x512) ![0, h.val, 0] S6x1x512.size inb).emb (ix3 x0 0 x2)) 1 = h :=
    Fin.ext (by show h.val + 1 * 0 = h.val; omega)
  have e2 : ((Rect.unit (s := S6x3x512) ![0, h.val, 0] S6x1x512.size inb).emb (ix3 x0 0 x2)) 2 = x2 :=
    Fin.ext (by show 0 + 1 * x2.val = x2.val; omega)
  rw [hT]
  beta_reduce
  rw [e0, e1, e2]

/-- Output 0 of the body. -/
theorem out8_eq (y : S6x480x512.Idx) : out0_8 x0 x1 x2 x3 x4 x5 x6 x7 y = (fun y : S6x480x512.Idx => codes (kKeys (argsX x0 x1 x2 x3 x4 x5 x6 x7) (y 0)) (y 1) (y 2)) y := by
  unfold_out out0_8
  simp only [ld0, ld1, ld2, ld3, ld4]
  refine View.canon_apply_of_pieces (Val := Elt Ideal) (fun y : S6x480x512.Idx => (codes (kKeys (argsX x0 x1 x2 x3 x4 x5 x6 x7) (y 0)) (y 1) (y 2) : EReal)) _ ?_ y (cover0_8 _ _ _ y)
  intro p hp
  simp only [List.mem_cons, List.not_mem_nil, or_false] at hp
  rcases hp with rfl | rfl | rfl
  · exact code_store (kKeys (argsX x0 x1 x2 x3 x4 x5 x6 x7)) 2 rfl _ (fun b a i => (kcode2 (k0_pay5 x0 x1 x2 x3) x6 x7 b a i).trans (congrArg (fun H : Fin 3 → Fin 512 → Fin 160 → EReal => code (H 2 i) a) (keyE_eq x0 x1 x2 x3 x4 x5 x6 x7 b))) inb_S6x480x512_S6x160x512_0_320_0
  · exact code_store (kKeys (argsX x0 x1 x2 x3 x4 x5 x6 x7)) 1 rfl _ (fun b a i => (kcode1 (k0_pay5 x0 x1 x2 x3) x6 x7 b a i).trans (congrArg (fun H : Fin 3 → Fin 512 → Fin 160 → EReal => code (H 1 i) a) (keyE_eq x0 x1 x2 x3 x4 x5 x6 x7 b))) inb_S6x480x512_S6x160x512_0_160_0
  · exact code_store (kKeys (argsX x0 x1 x2 x3 x4 x5 x6 x7)) 0 rfl _ (fun b a i => (kcode0 (k0_pay5 x0 x1 x2 x3) x6 x7 b a i).trans (congrArg (fun H : Fin 3 → Fin 512 → Fin 160 → EReal => code (H 0 i) a) (keyE_eq x0 x1 x2 x3 x4 x5 x6 x7 b))) inb_S6x480x512_S6x160x512_0_0_0

/-- Output 1 of the body. -/
theorem out9_eq (y : S6x3x512.Idx) : out0_9 x0 x1 x2 x3 x4 x5 x6 x7 y = (fun y : S6x3x512.Idx => scale (kKeys (argsX x0 x1 x2 x3 x4 x5 x6 x7) (y 0) (y 1) (y 2))) y := by
  unfold_out out0_9
  simp only [ld0, ld1, ld2, ld3, ld4]
  refine View.canon_apply_of_pieces (Val := Elt Ideal) (fun y : S6x3x512.Idx => (scale (kKeys (argsX x0 x1 x2 x3 x4 x5 x6 x7) (y 0) (y 1) (y 2)) : EReal)) _ ?_ y (cover0_9 _ _ _ y)
  intro p hp
  simp only [List.mem_cons, List.not_mem_nil, or_false] at hp
  rcases hp with rfl | rfl | rfl
  · exact scale_store (kKeys (argsX x0 x1 x2 x3 x4 x5 x6 x7)) 2 rfl _ (fun b i => (kscale2 (k0_pay5 x0 x1 x2 x3) x6 x7 b i).trans (congrArg (fun H : Fin 3 → Fin 512 → Fin 160 → EReal => scale (H 2 i)) (keyE_eq x0 x1 x2 x3 x4 x5 x6 x7 b))) inb_S6x3x512_S6x1x512_0_2_0
  · exact scale_store (kKeys (argsX x0 x1 x2 x3 x4 x5 x6 x7)) 1 rfl _ (fun b i => (kscale1 (k0_pay5 x0 x1 x2 x3) x6 x7 b i).trans (congrArg (fun H : Fin 3 → Fin 512 → Fin 160 → EReal => scale (H 1 i)) (keyE_eq x0 x1 x2 x3 x4 x5 x6 x7 b))) inb_S6x3x512_S6x1x512_0_1_0
  · exact scale_store (kKeys (argsX x0 x1 x2 x3 x4 x5 x6 x7)) 0 rfl _ (fun b i => (kscale0 (k0_pay5 x0 x1 x2 x3) x6 x7 b i).trans (congrArg (fun H : Fin 3 → Fin 512 → Fin 160 → EReal => scale (H 0 i)) (keyE_eq x0 x1 x2 x3 x4 x5 x6 x7 b))) inb_S6x3x512_S6x1x512_0_0_0

/-- Output 2 of the body. -/
theorem out10_eq (y : S6x480x512.Idx) : out0_10 x0 x1 x2 x3 x4 x5 x6 x7 y = (fun y : S6x480x512.Idx => codes (kVals (argsX x0 x1 x2 x3 x4 x5 x6 x7) (y 0)) (y 1) (y 2)) y := by
  unfold_out out0_10
  simp only [ld0, ld1, ld2, ld3, ld4]
  refine View.canon_apply_of_pieces (Val := Elt Ideal) (fun y : S6x480x512.Idx => (codes (kVals (argsX x0 x1 x2 x3 x4 x5 x6 x7) (y 0)) (y 1) (y 2) : EReal)) _ ?_ y (cover0_10 _ _ _ y)
  intro p hp
  simp only [List.mem_cons, List.not_mem_nil, or_false] at hp
  rcases hp with rfl | rfl | rfl
  · exact code_store (kVals (argsX x0 x1 x2 x3 x4 x5 x6 x7)) 2 rfl _ (fun b a i => (vcode2 (k0_pay6 (k0_pay4 x0 x1) x4 x5) b a i).trans (congrArg (fun H : Fin 3 → Fin 512 → Fin 160 → EReal => code (H 2 i) a) (valE_eq x0 x1 x2 x3 x4 x5 x6 x7 b))) inb_S6x480x512_S6x160x512_0_320_0
  · exact code_store (kVals (argsX x0 x1 x2 x3 x4 x5 x6 x7)) 1 rfl _ (fun b a i => (vcode1 (k0_pay6 (k0_pay4 x0 x1) x4 x5) b a i).trans (congrArg (fun H : Fin 3 → Fin 512 → Fin 160 → EReal => code (H 1 i) a) (valE_eq x0 x1 x2 x3 x4 x5 x6 x7 b))) inb_S6x480x512_S6x160x512_0_160_0
  · exact code_store (kVals (argsX x0 x1 x2 x3 x4 x5 x6 x7)) 0 rfl _ (fun b a i => (vcode0 (k0_pay6 (k0_pay4 x0 x1) x4 x5) b a i).trans (congrArg (fun H : Fin 3 → Fin 512 → Fin 160 → EReal => code (H 0 i) a) (valE_eq x0 x1 x2 x3 x4 x5 x6 x7 b))) inb_S6x480x512_S6x160x512_0_0_0

/-- Output 3 of the body. -/
theorem out11_eq (y : S6x3x512.Idx) : out0_11 x0 x1 x2 x3 x4 x5 x6 x7 y = (fun y : S6x3x512.Idx => scale (kVals (argsX x0 x1 x2 x3 x4 x5 x6 x7) (y 0) (y 1) (y 2))) y := by
  unfold_out out0_11
  simp only [ld0, ld1, ld2, ld3, ld4]
  refine View.canon_apply_of_pieces (Val := Elt Ideal) (fun y : S6x3x512.Idx => (scale (kVals (argsX x0 x1 x2 x3 x4 x5 x6 x7) (y 0) (y 1) (y 2)) : EReal)) _ ?_ y (cover0_11 _ _ _ y)
  intro p hp
  simp only [List.mem_cons, List.not_mem_nil, or_false] at hp
  rcases hp with rfl | rfl | rfl
  · exact scale_store (kVals (argsX x0 x1 x2 x3 x4 x5 x6 x7)) 2 rfl _ (fun b i => (vscale2 (k0_pay6 (k0_pay4 x0 x1) x4 x5) b i).trans (congrArg (fun H : Fin 3 → Fin 512 → Fin 160 → EReal => scale (H 2 i)) (valE_eq x0 x1 x2 x3 x4 x5 x6 x7 b))) inb_S6x3x512_S6x1x512_0_2_0
  · exact scale_store (kVals (argsX x0 x1 x2 x3 x4 x5 x6 x7)) 1 rfl _ (fun b i => (vscale1 (k0_pay6 (k0_pay4 x0 x1) x4 x5) b i).trans (congrArg (fun H : Fin 3 → Fin 512 → Fin 160 → EReal => scale (H 1 i)) (valE_eq x0 x1 x2 x3 x4 x5 x6 x7 b))) inb_S6x3x512_S6x1x512_0_1_0
  · exact scale_store (kVals (argsX x0 x1 x2 x3 x4 x5 x6 x7)) 0 rfl _ (fun b i => (vscale0 (k0_pay6 (k0_pay4 x0 x1) x4 x5) b i).trans (congrArg (fun H : Fin 3 → Fin 512 → Fin 160 → EReal => scale (H 0 i)) (valE_eq x0 x1 x2 x3 x4 x5 x6 x7 b))) inb_S6x3x512_S6x1x512_0_0_0

end Body

section Arrays

variable (m : (ℓ : Loc nD τ sig) → Buf (Elt Ideal) ℓ) (c : Dev nD)

/-- The arguments the program is launched on, by entry. -/
def argsR : Args where
  x b i n := m ((c : Thread nD τ).loc main_arg0) (ix3 b i n)
  g n := m ((c : Thread nD τ).loc main_arg1) (ix1 n)
  wk n o := m ((c : Thread nD τ).loc main_arg2) (ix2 n o)
  sk b o := m ((c : Thread nD τ).loc main_arg3) (ix2 b o)
  wv n o := m ((c : Thread nD τ).loc main_arg4) (ix2 n o)
  sv b o := m ((c : Thread nD τ).loc main_arg5) (ix2 b o)
  ct a i := m ((c : Thread nD τ).loc main_arg6) (ix2 a i)
  sn a i := m ((c : Thread nD τ).loc main_arg7) (ix2 a i)

theorem x0 : win0_0.index t0_0 = ![0, 0, 0] := by decide +kernel
theorem x1 : win0_1.index t0_0 = ![0, 0] := by decide +kernel
theorem x2 : win0_2.index t0_0 = ![0, 0] := by decide +kernel
theorem x3 : win0_3.index t0_0 = ![0, 0] := by decide +kernel
theorem x4 : win0_4.index t0_0 = ![0, 0] := by decide +kernel
theorem x5 : win0_5.index t0_0 = ![0, 0] := by decide +kernel
theorem x6 : win0_6.index t0_0 = ![0, 0] := by decide +kernel
theorem x7 : win0_7.index t0_0 = ![0, 0] := by decide +kernel
theorem x8 : win0_8.index t0_0 = ![0, 0, 0] := by decide +kernel
theorem x9 : win0_9.index t0_0 = ![0, 0, 0] := by decide +kernel
theorem x10 : win0_10.index t0_0 = ![0, 0, 0] := by decide +kernel
theorem x11 : win0_11.index t0_0 = ![0, 0, 0] := by decide +kernel

theorem i0 (b : Fin 6) (i : Fin 512) (n : Fin 2304) : iblk m c 0 t0_0 (ix3 b i n) = m ((c : Thread nD τ).loc main_arg0) (ix3 b i n) := by
  blk_ext [iblk, V, x0]
theorem i1 (n : Fin 2304) : iblk m c 1 t0_0 (ix2 0 n) = m ((c : Thread nD τ).loc main_arg1) (ix1 n) := by
  blk_simp [iblk]
  entry_read
  pointwise
  blk_ext [x1]
theorem i2 (a : Fin 2304) (b : Fin 480) : iblk m c 2 t0_0 (ix2 a b) = m ((c : Thread nD τ).loc main_arg2) (ix2 a b) := by
  blk_ext [iblk, V, x2]
theorem i3 (a : Fin 72) (b : Fin 480) : iblk m c 3 t0_0 (ix2 a b) = m ((c : Thread nD τ).loc main_arg3) (ix2 a b) := by
  blk_ext [iblk, V, x3]
theorem i4 (a : Fin 2304) (b : Fin 480) : iblk m c 4 t0_0 (ix2 a b) = m ((c : Thread nD τ).loc main_arg4) (ix2 a b) := by
  blk_ext [iblk, V, x4]
theorem i5 (a : Fin 72) (b : Fin 480) : iblk m c 5 t0_0 (ix2 a b) = m ((c : Thread nD τ).loc main_arg5) (ix2 a b) := by
  blk_ext [iblk, V, x5]
theorem i6 (a : Fin 80) (b : Fin 512) : iblk m c 6 t0_0 (ix2 a b) = m ((c : Thread nD τ).loc main_arg6) (ix2 a b) := by
  blk_ext [iblk, V, x6]
theorem i7 (a : Fin 80) (b : Fin 512) : iblk m c 7 t0_0 (ix2 a b) = m ((c : Thread nD τ).loc main_arg7) (ix2 a b) := by
  blk_ext [iblk, V, x7]

theorem args_eq : argsX (iblk m c 0 t0_0) (iblk m c 1 t0_0) (iblk m c 2 t0_0) (iblk m c 3 t0_0) (iblk m c 4 t0_0) (iblk m c 5 t0_0)
    (iblk m c 6 t0_0) (iblk m c 7 t0_0) = argsR m c := by
  have e0 := fun b i n => i0 m c b i n
  have e1 := fun n => i1 m c n
  have e2 := fun a b => i2 m c a b
  have e3 := fun a b => i3 m c a b
  have e4 := fun a b => i4 m c a b
  have e5 := fun a b => i5 m c a b
  have e6 := fun a b => i6 m c a b
  have e7 := fun a b => i7 m c a b
  unfold argsX argsR
  simp only [e0, e1, e2, e3, e4, e5, e6, e7]

/-- Result array 0 after the run. -/
theorem arr8 : (dats m 0 c).arrAt 8 cfg0.N = (fun y : S6x480x512.Idx => (codes (kKeys (argsR m c) (y 0)) (y 1) (y 2) : EReal)) := by
  refine (dats m 0 c).arrAt_eq_of_after_last 8 t0_0 (by decide +kernel) _ fun j => ?_
  rw [after0_8, out8_eq, args_eq]
  blk_ext [x8]

/-- Result array 1 after the run. -/
theorem arr9 : (dats m 0 c).arrAt 9 cfg0.N = (fun y : S6x3x512.Idx => (scale (kKeys (argsR m c) (y 0) (y 1) (y 2)) : EReal)) := by
  refine (dats m 0 c).arrAt_eq_of_after_last 9 t0_0 (by decide +kernel) _ fun j => ?_
  rw [after0_9, out9_eq, args_eq]
  blk_ext [x9]

/-- Result array 2 after the run. -/
theorem arr10 : (dats m 0 c).arrAt 10 cfg0.N = (fun y : S6x480x512.Idx => (codes (kVals (argsR m c) (y 0)) (y 1) (y 2) : EReal)) := by
  refine (dats m 0 c).arrAt_eq_of_after_last 10 t0_0 (by decide +kernel) _ fun j => ?_
  rw [after0_10, out10_eq, args_eq]
  blk_ext [x10]

/-- Result array 3 after the run. -/
theorem arr11 : (dats m 0 c).arrAt 11 cfg0.N = (fun y : S6x3x512.Idx => (scale (kVals (argsR m c) (y 0) (y 1) (y 2)) : EReal)) := by
  refine (dats m 0 c).arrAt_eq_of_after_last 11 t0_0 (by decide +kernel) _ fun j => ?_
  rw [after0_11, out11_eq, args_eq]
  blk_ext [x11]

end Arrays

end Cert.Proof.ReferenceIdeal

end
-- ==== Proof.Algebraic.lean ====
/- The kernel and its reference, run over the extended reals, end with the same four results. -/
module

public import proofs.«01_k».proof.Defs
public import proofs.«01_k».proof.Proof.OutIdeal
public import proofs.«01_k».proof.Proof.RefOut

@[expose] public section

set_option maxRecDepth 16384

noncomputable section

namespace Cert.Proof.KernelIdeal

open Cert.KernelIdeal Cert.KernelIdeal.Gen
open Idealize.ShloMosaic Idealize.ShloMosaic.TcCoe
open Idealize.SL.Sem
open Cert.Proof.Spec Cert.Proof.Quant

section

variable [Cert.KernelIdeal.Facts]

variable (m : (ℓ : Loc nD τ sig) → Buf (Elt Ideal) ℓ) (c : Dev nD)

/-- The arguments the program is launched on, by entry. -/
def argsM : Args where
  x b i n := m ((c : Thread nD τ).loc main_arg0) (ix3 b i n)
  g n := m ((c : Thread nD τ).loc main_arg1) (ix1 n)
  wk n o := m ((c : Thread nD τ).loc main_arg2) (ix2 n o)
  sk b o := m ((c : Thread nD τ).loc main_arg3) (ix2 b o)
  wv n o := m ((c : Thread nD τ).loc main_arg4) (ix2 n o)
  sv b o := m ((c : Thread nD τ).loc main_arg5) (ix2 b o)
  ct a i := m ((c : Thread nD τ).loc main_arg6) (ix2 a i)
  sn a i := m ((c : Thread nD τ).loc main_arg7) (ix2 a i)

/-- What the region finds in the buffers it reads: the arguments as launched, -/
theorem v_x (b : Fin 6) (i : Fin 512) (n : Fin 2304) : V m c main_arg0 (ix3 b i n) = m ((c : Thread nD τ).loc main_arg0) (ix3 b i n) := by
  entry_read; try rfl
/-- the gain as a row, -/
theorem v_g (n : Fin 2304) : V m c main_v0 (ix2 0 n) = m ((c : Thread nD τ).loc main_arg1) (ix1 n) := by
  entry_read; pointwise; try rfl
/-- the weights transposed. -/
theorem v_wk (n : Fin 2304) (o : Fin 480) : V m c main_v1 (ix2 o n) = m ((c : Thread nD τ).loc main_arg2) (ix2 n o) := by
  entry_read; pointwise; try rfl
theorem v_wv (n : Fin 2304) (o : Fin 480) : V m c main_v2 (ix2 o n) = m ((c : Thread nD τ).loc main_arg4) (ix2 n o) := by
  entry_read; pointwise; try rfl
theorem v_sk (b : Fin 72) (o : Fin 480) : V m c main_arg3 (ix2 b o) = m ((c : Thread nD τ).loc main_arg3) (ix2 b o) := by
  entry_read; try rfl
theorem v_sv (b : Fin 72) (o : Fin 480) : V m c main_arg5 (ix2 b o) = m ((c : Thread nD τ).loc main_arg5) (ix2 b o) := by
  entry_read; try rfl
theorem v_ct (a : Fin 80) (i : Fin 512) : V m c main_arg6 (ix2 a i) = m ((c : Thread nD τ).loc main_arg6) (ix2 a i) := by
  entry_read; try rfl
theorem v_sn (a : Fin 80) (i : Fin 512) : V m c main_arg7 (ix2 a i) = m ((c : Thread nD τ).loc main_arg7) (ix2 a i) := by
  entry_read; try rfl

theorem argsI_eq : argsI c (X₀ m c) (ini m c) = argsM m c := by
  have h0 : (argsI c (X₀ m c) (ini m c)).x = (argsM m c).x := funext fun b => funext fun i => funext fun n => v_x m c b i n
  have h1 : (argsI c (X₀ m c) (ini m c)).g = (argsM m c).g := funext fun n => v_g m c n
  have h2 : (argsI c (X₀ m c) (ini m c)).wk = (argsM m c).wk := funext fun n => funext fun o => v_wk m c n o
  have h3 : (argsI c (X₀ m c) (ini m c)).sk = (argsM m c).sk := funext fun n => funext fun o => v_sk m c n o
  have h4 : (argsI c (X₀ m c) (ini m c)).wv = (argsM m c).wv := funext fun n => funext fun o => v_wv m c n o
  have h5 : (argsI c (X₀ m c) (ini m c)).sv = (argsM m c).sv := funext fun n => funext fun o => v_sv m c n o
  have h6 : (argsI c (X₀ m c) (ini m c)).ct = (argsM m c).ct := funext fun n => funext fun o => v_ct m c n o
  have h7 : (argsI c (X₀ m c) (ini m c)).sn = (argsM m c).sn := funext fun n => funext fun o => v_sn m c n o
  generalize argsI c (X₀ m c) (ini m c) = A at *
  generalize argsM m c = B at *
  cases A; cases B
  simp only at h0 h1 h2 h3 h4 h5 h6 h7
  subst h0 h1 h2 h3 h4 h5 h6 h7
  rfl

/-- The four results of the arguments. -/
def resKc : S6x480x512.Idx → EReal := fun y => codes (kKeys (argsM m c) (y 0)) (y 1) (y 2)
def resKs : S6x3x512.Idx → EReal := fun y => scale (kKeys (argsM m c) (y 0) (y 1) (y 2))
def resVc : S6x480x512.Idx → EReal := fun y => codes (kVals (argsM m c) (y 0)) (y 1) (y 2)
def resVs : S6x3x512.Idx → EReal := fun y => scale (kVals (argsM m c) (y 0) (y 1) (y 2))

theorem end_kc (j : Junk (F := Ideal) c) : (bodyRun c (X₀ m c) (ini m c) j).1.kc = resKc m c :=
  funext fun y => (out_kc c (X₀ m c) (ini m c) j y).trans (by rw [argsI_eq]; rfl)
theorem end_ks (j : Junk (F := Ideal) c) : (bodyRun c (X₀ m c) (ini m c) j).1.ks = resKs m c :=
  funext fun y => (out_ks c (X₀ m c) (ini m c) j y).trans (by rw [argsI_eq]; rfl)
theorem end_vc (j : Junk (F := Ideal) c) : (bodyRun c (X₀ m c) (ini m c) j).1.vc = resVc m c :=
  funext fun y => (out_vc c (X₀ m c) (ini m c) j y).trans (by rw [argsI_eq]; rfl)
theorem end_vs (j : Junk (F := Ideal) c) : (bodyRun c (X₀ m c) (ini m c) j).1.vs = resVs m c :=
  funext fun y => (out_vs c (X₀ m c) (ini m c) j y).trans (by rw [argsI_eq]; rfl)

end

end Cert.Proof.KernelIdeal

namespace Cert.Proof

open Idealize.ShloMosaic Idealize.ShloMosaic.TcCoe Idealize.SL.Sem

attribute [local instance] Cert.KernelIdeal.Gen.facts Cert.ReferenceIdeal.Gen.facts

/-- Launched on the same arguments, the two programs are launched on the same entries. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    ReferenceIdeal.argsR m' c = KernelIdeal.argsM m c := by
  obtain ⟨h0, h1, h2, h3, h4, h5, h6, h7⟩ := h
  have e0 : (ReferenceIdeal.argsR m' c).x = (KernelIdeal.argsM m c).x := funext fun b => funext fun i => funext fun n => congrFun h0 (ix3 b i n)
  have e1 : (ReferenceIdeal.argsR m' c).g = (KernelIdeal.argsM m c).g := funext fun n => congrFun h1 (ix1 n)
  have e2 : (ReferenceIdeal.argsR m' c).wk = (KernelIdeal.argsM m c).wk := funext fun n => funext fun o => congrFun h2 (ix2 n o)
  have e3 : (ReferenceIdeal.argsR m' c).sk = (KernelIdeal.argsM m c).sk := funext fun n => funext fun o => congrFun h3 (ix2 n o)
  have e4 : (ReferenceIdeal.argsR m' c).wv = (KernelIdeal.argsM m c).wv := funext fun n => funext fun o => congrFun h4 (ix2 n o)
  have e5 : (ReferenceIdeal.argsR m' c).sv = (KernelIdeal.argsM m c).sv := funext fun n => funext fun o => congrFun h5 (ix2 n o)
  have e6 : (ReferenceIdeal.argsR m' c).ct = (KernelIdeal.argsM m c).ct := funext fun n => funext fun o => congrFun h6 (ix2 n o)
  have e7 : (ReferenceIdeal.argsR m' c).sn = (KernelIdeal.argsM m c).sn := funext fun n => funext fun o => congrFun h7 (ix2 n o)
  clear h0 h1 h2 h3 h4 h5 h6 h7
  generalize ReferenceIdeal.argsR m' c = A at *
  generalize KernelIdeal.argsM m c = B at *
  cases A; cases B
  simp only at e0 e1 e2 e3 e4 e5 e6 e7
  subst e0 e1 e2 e3 e4 e5 e6 e7
  rfl

/-- Run on the same arguments, the kernel and the reference end with the same codes and scales. -/
theorem algebraic : algebraic_KernelIdeal_ReferenceIdeal := by
  intro m g m' g' _ hm
  refine ⟨KernelIdeal.resKc m, KernelIdeal.resKs m, KernelIdeal.resVc m, KernelIdeal.resVs m, ?_, ?_⟩
  · refine (θ_run _ _ _).mono ?_ (KernelIdeal.run_main (F := Ideal) m g)
    rintro r ⟨h, -⟩ c
    obtain ⟨ha, j, k0, k1, k2, k3⟩ := h c
    exact ⟨k0.trans (KernelIdeal.end_kc m c j), k1.trans (KernelIdeal.end_ks m c j), k2.trans (KernelIdeal.end_vc m c j),
      k3.trans (KernelIdeal.end_vs m c j), ha⟩
  · refine (θ_run _ _ _).mono ?_ (Cert.ReferenceIdeal.Value.run_blocks (F := Ideal) m' g')
    intro r h c
    obtain ⟨k0, k1, k2, k3, ha⟩ := h c
    have e := args_agree m m' c (hm c)
    refine ⟨k0.trans ((ReferenceIdeal.arr8 m' c).trans ?_), k1.trans ((ReferenceIdeal.arr9 m' c).trans ?_),
      k2.trans ((ReferenceIdeal.arr10 m' c).trans ?_), k3.trans ((ReferenceIdeal.arr11 m' c).trans ?_), ha⟩
    all_goals rw [e]; rfl

end Cert.Proof

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    frame_kernel, frame_ideal, frame_reference, named_inv_d, algebraic⟩

end Cert.Proof

end
